-- ==== Defs.lean ====
def Pre_MoeKernel [hPre_experts_named : Cert.Pre_experts_named.Facts] (m : (ℓ : Loc Cert.MoeKernel.nD Cert.MoeKernel.τ Cert.MoeKernel.sig) → Buf (Elt Bits) ℓ) : Prop :=
  ∀ c : Dev Cert.MoeKernel.nD,
    (Cert.Pre_experts_named.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4))) = (fun _ => 1#1)

def Pre_MoeKernelIdeal [hPre_experts_named : Cert.Pre_experts_named.Facts] (m : (ℓ : Loc Cert.MoeKernelIdeal.nD Cert.MoeKernelIdeal.τ Cert.MoeKernelIdeal.sig) → Buf (Elt Ideal) ℓ) : Prop :=
  ∀ c : Dev Cert.MoeKernelIdeal.nD,
    (Cert.Pre_experts_named.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4))) = (fun _ => 1#1)

def Pre_MoeReferenceIdeal [hPre_experts_named : Cert.Pre_experts_named.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_experts_named.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_EvenKernel (m : (ℓ : Loc Cert.EvenKernel.nD Cert.EvenKernel.τ Cert.EvenKernel.sig) → Buf (Elt Bits) ℓ) : Prop :=
  True

def Pre_EvenKernelIdeal (m : (ℓ : Loc Cert.EvenKernelIdeal.nD Cert.EvenKernelIdeal.τ Cert.EvenKernelIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_OddKernel (m : (ℓ : Loc Cert.OddKernel.nD Cert.OddKernel.τ Cert.OddKernel.sig) → Buf (Elt Bits) ℓ) : Prop :=
  True

def Pre_OddKernelIdeal (m : (ℓ : Loc Cert.OddKernelIdeal.nD Cert.OddKernelIdeal.τ Cert.OddKernelIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_CrossKernel (m : (ℓ : Loc Cert.CrossKernel.nD Cert.CrossKernel.τ Cert.CrossKernel.sig) → Buf (Elt Bits) ℓ) : Prop :=
  True

def Pre_CrossKernelIdeal (m : (ℓ : Loc Cert.CrossKernelIdeal.nD Cert.CrossKernelIdeal.τ Cert.CrossKernelIdeal.sig) → Buf (Elt Ideal) ℓ) : Prop :=
  True

def Pre_CrossReferenceIdeal (m : (ℓ : Loc Cert.CrossReferenceIdeal.nD Cert.CrossReferenceIdeal.τ Cert.CrossReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_CombineKernel [hPre_rows_named : Cert.Pre_rows_named.Facts] (m : (ℓ : Loc Cert.CombineKernel.nD Cert.CombineKernel.τ Cert.CombineKernel.sig) → Buf (Elt Bits) ℓ) : Prop :=
  ∀ c : Dev Cert.CombineKernel.nD,
    (Cert.Pre_rows_named.fn (F := Bits) (m ((c.tc : Thread Cert.CombineKernel.nD Cert.CombineKernel.τ).loc Cert.CombineKernel.main_arg0)) (m ((c.tc : Thread Cert.CombineKernel.nD Cert.CombineKernel.τ).loc Cert.CombineKernel.main_arg1)) (m ((c.tc : Thread Cert.CombineKernel.nD Cert.CombineKernel.τ).loc Cert.CombineKernel.main_arg2)) (m ((c.tc : Thread Cert.CombineKernel.nD Cert.CombineKernel.τ).loc Cert.CombineKernel.main_arg3)) (m ((c.tc : Thread Cert.CombineKernel.nD Cert.CombineKernel.τ).loc Cert.CombineKernel.main_arg4)) (m ((c.tc : Thread Cert.CombineKernel.nD Cert.CombineKernel.τ).loc Cert.CombineKernel.main_arg5))) = (fun _ => 1#1)

def Pre_CombineKernelIdeal [hPre_rows_named : Cert.Pre_rows_named.Facts] (m : (ℓ : Loc Cert.CombineKernelIdeal.nD Cert.CombineKernelIdeal.τ Cert.CombineKernelIdeal.sig) → Buf (Elt Ideal) ℓ) : Prop :=
  ∀ c : Dev Cert.CombineKernelIdeal.nD,
    (Cert.Pre_rows_named.fn (F := Ideal) (m ((c.tc : Thread Cert.CombineKernelIdeal.nD Cert.CombineKernelIdeal.τ).loc Cert.CombineKernelIdeal.main_arg0)) (m ((c.tc : Thread Cert.CombineKernelIdeal.nD Cert.CombineKernelIdeal.τ).loc Cert.CombineKernelIdeal.main_arg1)) (m ((c.tc : Thread Cert.CombineKernelIdeal.nD Cert.CombineKernelIdeal.τ).loc Cert.CombineKernelIdeal.main_arg2)) (m ((c.tc : Thread Cert.CombineKernelIdeal.nD Cert.CombineKernelIdeal.τ).loc Cert.CombineKernelIdeal.main_arg3)) (m ((c.tc : Thread Cert.CombineKernelIdeal.nD Cert.CombineKernelIdeal.τ).loc Cert.CombineKernelIdeal.main_arg4)) (m ((c.tc : Thread Cert.CombineKernelIdeal.nD Cert.CombineKernelIdeal.τ).loc Cert.CombineKernelIdeal.main_arg5))) = (fun _ => 1#1)

def Pre_CombineReferenceIdeal [hPre_rows_named : Cert.Pre_rows_named.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_rows_named.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4)) (m ((c.tc : Thread Cert.CombineReferenceIdeal.nD Cert.CombineReferenceIdeal.τ).loc Cert.CombineReferenceIdeal.main_arg5))) = (fun _ => 1#1)

def quiescent_MoeKernel [hMoeKernel : Cert.MoeKernel.Facts] [hPre_experts_named : Cert.Pre_experts_named.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4))
      ∧ r.2.sem = fun _ => 0)

def quiescent_MoeKernelIdeal [hMoeKernelIdeal : Cert.MoeKernelIdeal.Facts] [hPre_experts_named : Cert.Pre_experts_named.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4))
      ∧ r.2.sem = fun _ => 0)

def quiescent_MoeReferenceIdeal [hMoeReferenceIdeal : Cert.MoeReferenceIdeal.Facts] [hPre_experts_named : Cert.Pre_experts_named.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_EvenKernel [hEvenKernel : Cert.EvenKernel.Facts] : Prop :=
  ∀ (m : (ℓ : Loc Cert.EvenKernel.nD Cert.EvenKernel.τ Cert.EvenKernel.sig) → Buf (Elt Bits) ℓ) (g : Dev Cert.EvenKernel.nD → PrngReg), Pre_EvenKernel m →
    θ_run (Cert.EvenKernel.defs (F := Bits)) (onTc (τ := Cert.EvenKernel.τ) (Cert.EvenKernel.main (F := Bits))) ⟨m, fun _ => 0, g⟩ (fun r => (∀ c : Dev Cert.EvenKernel.nD,
      r.2.mem ((c.tc : Thread Cert.EvenKernel.nD Cert.EvenKernel.τ).loc Cert.EvenKernel.main_arg0) = m ((c.tc : Thread Cert.EvenKernel.nD Cert.EvenKernel.τ).loc Cert.EvenKernel.main_arg0)
      ∧ r.2.mem ((c.tc : Thread Cert.EvenKernel.nD Cert.EvenKernel.τ).loc Cert.EvenKernel.main_arg1) = m ((c.tc : Thread Cert.EvenKernel.nD Cert.EvenKernel.τ).loc Cert.EvenKernel.main_arg1)
      ∧ r.2.mem ((c.tc : Thread Cert.EvenKernel.nD Cert.EvenKernel.τ).loc Cert.EvenKernel.main_arg2) = m ((c.tc : Thread Cert.EvenKernel.nD Cert.EvenKernel.τ).loc Cert.EvenKernel.main_arg2)
      ∧ r.2.mem ((c.tc : Thread Cert.EvenKernel.nD Cert.EvenKernel.τ).loc Cert.EvenKernel.main_arg3) = m ((c.tc : Thread Cert.EvenKernel.nD Cert.EvenKernel.τ).loc Cert.EvenKernel.main_arg3)
      ∧ r.2.mem ((c.tc : Thread Cert.EvenKernel.nD Cert.EvenKernel.τ).loc Cert.EvenKernel.main_arg4) = m ((c.tc : Thread Cert.EvenKernel.nD Cert.EvenKernel.τ).loc Cert.EvenKernel.main_arg4)
      ∧ r.2.mem ((c.tc : Thread Cert.EvenKernel.nD Cert.EvenKernel.τ).loc Cert.EvenKernel.main_arg5) = m ((c.tc : Thread Cert.EvenKernel.nD Cert.EvenKernel.τ).loc Cert.EvenKernel.main_arg5)
      ∧ r.2.mem ((c.tc : Thread Cert.EvenKernel.nD Cert.EvenKernel.τ).loc Cert.EvenKernel.main_arg6) = m ((c.tc : Thread Cert.EvenKernel.nD Cert.EvenKernel.τ).loc Cert.EvenKernel.main_arg6))
      ∧ r.2.sem = fun _ => 0)

def quiescent_EvenKernelIdeal [hEvenKernelIdeal : Cert.EvenKernelIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6))
      ∧ r.2.sem = fun _ => 0)

def quiescent_OddKernel [hOddKernel : Cert.OddKernel.Facts] : Prop :=
  ∀ (m : (ℓ : Loc Cert.OddKernel.nD Cert.OddKernel.τ Cert.OddKernel.sig) → Buf (Elt Bits) ℓ) (g : Dev Cert.OddKernel.nD → PrngReg), Pre_OddKernel m →
    θ_run (Cert.OddKernel.defs (F := Bits)) (onTc (τ := Cert.OddKernel.τ) (Cert.OddKernel.main (F := Bits))) ⟨m, fun _ => 0, g⟩ (fun r => (∀ c : Dev Cert.OddKernel.nD,
      r.2.mem ((c.tc : Thread Cert.OddKernel.nD Cert.OddKernel.τ).loc Cert.OddKernel.main_arg0) = m ((c.tc : Thread Cert.OddKernel.nD Cert.OddKernel.τ).loc Cert.OddKernel.main_arg0)
      ∧ r.2.mem ((c.tc : Thread Cert.OddKernel.nD Cert.OddKernel.τ).loc Cert.OddKernel.main_arg1) = m ((c.tc : Thread Cert.OddKernel.nD Cert.OddKernel.τ).loc Cert.OddKernel.main_arg1)
      ∧ r.2.mem ((c.tc : Thread Cert.OddKernel.nD Cert.OddKernel.τ).loc Cert.OddKernel.main_arg2) = m ((c.tc : Thread Cert.OddKernel.nD Cert.OddKernel.τ).loc Cert.OddKernel.main_arg2)
      ∧ r.2.mem ((c.tc : Thread Cert.OddKernel.nD Cert.OddKernel.τ).loc Cert.OddKernel.main_arg3) = m ((c.tc : Thread Cert.OddKernel.nD Cert.OddKernel.τ).loc Cert.OddKernel.main_arg3))
      ∧ r.2.sem = fun _ => 0)

def quiescent_OddKernelIdeal [hOddKernelIdeal : Cert.OddKernelIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg), Pre_OddKernelIdeal m →
    θ_run (Cert.OddKernelIdeal.defs (F := Ideal)) (onTc (τ := Cert.OddKernelIdeal.τ) (Cert.OddKernelIdeal.main (F := Ideal))) ⟨m, fun _ => 0, g⟩ (fun r => (∀ c : Dev Cert.OddKernelIdeal.nD,
      r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
      ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
      ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
      ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_CrossKernel [hCrossKernel : Cert.CrossKernel.Facts] : Prop :=
  ∀ (m : (ℓ : Loc Cert.CrossKernel.nD Cert.CrossKernel.τ Cert.CrossKernel.sig) → Buf (Elt Bits) ℓ) (g : Dev Cert.CrossKernel.nD → PrngReg), Pre_CrossKernel m →
    θ_run (Cert.CrossKernel.defs (F := Bits)) (onTc (τ := Cert.CrossKernel.τ) (Cert.CrossKernel.main (F := Bits))) ⟨m, fun _ => 0, g⟩ (fun r => (∀ c : Dev Cert.CrossKernel.nD,
      r.2.mem ((c.tc : Thread Cert.CrossKernel.nD Cert.CrossKernel.τ).loc Cert.CrossKernel.main_arg0) = m ((c.tc : Thread Cert.CrossKernel.nD Cert.CrossKernel.τ).loc Cert.CrossKernel.main_arg0)
      ∧ r.2.mem ((c.tc : Thread Cert.CrossKernel.nD Cert.CrossKernel.τ).loc Cert.CrossKernel.main_arg1) = m ((c.tc : Thread Cert.CrossKernel.nD Cert.CrossKernel.τ).loc Cert.CrossKernel.main_arg1)
      ∧ r.2.mem ((c.tc : Thread Cert.CrossKernel.nD Cert.CrossKernel.τ).loc Cert.CrossKernel.main_arg2) = m ((c.tc : Thread Cert.CrossKernel.nD Cert.CrossKernel.τ).loc Cert.CrossKernel.main_arg2)
      ∧ r.2.mem ((c.tc : Thread Cert.CrossKernel.nD Cert.CrossKernel.τ).loc Cert.CrossKernel.main_arg3) = m ((c.tc : Thread Cert.CrossKernel.nD Cert.CrossKernel.τ).loc Cert.CrossKernel.main_arg3)
      ∧ r.2.mem ((c.tc : Thread Cert.CrossKernel.nD Cert.CrossKernel.τ).loc Cert.CrossKernel.main_arg4) = m ((c.tc : Thread Cert.CrossKernel.nD Cert.CrossKernel.τ).loc Cert.CrossKernel.main_arg4)
      ∧ r.2.mem ((c.tc : Thread Cert.CrossKernel.nD Cert.CrossKernel.τ).loc Cert.CrossKernel.main_arg5) = m ((c.tc : Thread Cert.CrossKernel.nD Cert.CrossKernel.τ).loc Cert.CrossKernel.main_arg5))
      ∧ r.2.sem = fun _ => 0)

def quiescent_CrossKernelIdeal [hCrossKernelIdeal : Cert.CrossKernelIdeal.Facts] : Prop :=
  ∀ (m : (ℓ : Loc Cert.CrossKernelIdeal.nD Cert.CrossKernelIdeal.τ Cert.CrossKernelIdeal.sig) → Buf (Elt Ideal) ℓ) (g : Dev Cert.CrossKernelIdeal.nD → PrngReg), Pre_CrossKernelIdeal m →
    θ_run (Cert.CrossKernelIdeal.defs (F := Ideal)) (onTc (τ := Cert.CrossKernelIdeal.τ) (Cert.CrossKernelIdeal.main (F := Ideal))) ⟨m, fun _ => 0, g⟩ (fun r => (∀ c : Dev Cert.CrossKernelIdeal.nD,
      r.2.mem ((c.tc : Thread Cert.CrossKernelIdeal.nD Cert.CrossKernelIdeal.τ).loc Cert.CrossKernelIdeal.main_arg0) = m ((c.tc : Thread Cert.CrossKernelIdeal.nD Cert.CrossKernelIdeal.τ).loc Cert.CrossKernelIdeal.main_arg0)
      ∧ r.2.mem ((c.tc : Thread Cert.CrossKernelIdeal.nD Cert.CrossKernelIdeal.τ).loc Cert.CrossKernelIdeal.main_arg1) = m ((c.tc : Thread Cert.CrossKernelIdeal.nD Cert.CrossKernelIdeal.τ).loc Cert.CrossKernelIdeal.main_arg1)
      ∧ r.2.mem ((c.tc : Thread Cert.CrossKernelIdeal.nD Cert.CrossKernelIdeal.τ).loc Cert.CrossKernelIdeal.main_arg2) = m ((c.tc : Thread Cert.CrossKernelIdeal.nD Cert.CrossKernelIdeal.τ).loc Cert.CrossKernelIdeal.main_arg2)
      ∧ r.2.mem ((c.tc : Thread Cert.CrossKernelIdeal.nD Cert.CrossKernelIdeal.τ).loc Cert.CrossKernelIdeal.main_arg3) = m ((c.tc : Thread Cert.CrossKernelIdeal.nD Cert.CrossKernelIdeal.τ).loc Cert.CrossKernelIdeal.main_arg3)
      ∧ r.2.mem ((c.tc : Thread Cert.CrossKernelIdeal.nD Cert.CrossKernelIdeal.τ).loc Cert.CrossKernelIdeal.main_arg4) = m ((c.tc : Thread Cert.CrossKernelIdeal.nD Cert.CrossKernelIdeal.τ).loc Cert.CrossKernelIdeal.main_arg4)
      ∧ r.2.mem ((c.tc : Thread Cert.CrossKernelIdeal.nD Cert.CrossKernelIdeal.τ).loc Cert.CrossKernelIdeal.main_arg5) = m ((c.tc : Thread Cert.CrossKernelIdeal.nD Cert.CrossKernelIdeal.τ).loc Cert.CrossKernelIdeal.main_arg5))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_CombineKernel [hCombineKernel : Cert.CombineKernel.Facts] [hPre_rows_named : Cert.Pre_rows_named.Facts] : Prop :=
  ∀ (m : (ℓ : Loc Cert.CombineKernel.nD Cert.CombineKernel.τ Cert.CombineKernel.sig) → Buf (Elt Bits) ℓ) (g : Dev Cert.CombineKernel.nD → PrngReg), Pre_CombineKernel m →
    θ_run (Cert.CombineKernel.defs (F := Bits)) (onTc (τ := Cert.CombineKernel.τ) (Cert.CombineKernel.main (F := Bits))) ⟨m, fun _ => 0, g⟩ (fun r => (∀ c : Dev Cert.CombineKernel.nD,
      r.2.mem ((c.tc : Thread Cert.CombineKernel.nD Cert.CombineKernel.τ).loc Cert.CombineKernel.main_arg0) = m ((c.tc : Thread Cert.CombineKernel.nD Cert.CombineKernel.τ).loc Cert.CombineKernel.main_arg0)
      ∧ r.2.mem ((c.tc : Thread Cert.CombineKernel.nD Cert.CombineKernel.τ).loc Cert.CombineKernel.main_arg1) = m ((c.tc : Thread Cert.CombineKernel.nD Cert.CombineKernel.τ).loc Cert.CombineKernel.main_arg1)
      ∧ r.2.mem ((c.tc : Thread Cert.CombineKernel.nD Cert.CombineKernel.τ).loc Cert.CombineKernel.main_arg2) = m ((c.tc : Thread Cert.CombineKernel.nD Cert.CombineKernel.τ).loc Cert.CombineKernel.main_arg2)
      ∧ r.2.mem ((c.tc : Thread Cert.CombineKernel.nD Cert.CombineKernel.τ).loc Cert.CombineKernel.main_arg3) = m ((c.tc : Thread Cert.CombineKernel.nD Cert.CombineKernel.τ).loc Cert.CombineKernel.main_arg3)
      ∧ r.2.mem ((c.tc : Thread Cert.CombineKernel.nD Cert.CombineKernel.τ).loc Cert.CombineKernel.main_arg4) = m ((c.tc : Thread Cert.CombineKernel.nD Cert.CombineKernel.τ).loc Cert.CombineKernel.main_arg4)
      ∧ r.2.mem ((c.tc : Thread Cert.CombineKernel.nD Cert.CombineKernel.τ).loc Cert.CombineKernel.main_arg5) = m ((c.tc : Thread Cert.CombineKernel.nD Cert.CombineKernel.τ).loc Cert.CombineKernel.main_arg5))
      ∧ r.2.sem = fun _ => 0)

def quiescent_CombineKernelIdeal [hCombineKernelIdeal : Cert.CombineKernelIdeal.Facts] [hPre_rows_named : Cert.Pre_rows_named.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg), Pre_CombineKernelIdeal m →
    θ_run (Cert.CombineKernelIdeal.defs (F := Ideal)) (onTc (τ := Cert.CombineKernelIdeal.τ) (Cert.CombineKernelIdeal.main (F := Ideal))) ⟨m, fun _ => 0, g⟩ (fun r => (∀ c : Dev Cert.CombineKernelIdeal.nD,
      r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
      ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
      ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
      ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
      ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
      ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ r.2.sem = fun _ => 0)

def quiescent_CombineReferenceIdeal [hCombineReferenceIdeal : Cert.CombineReferenceIdeal.Facts] [hPre_rows_named : Cert.Pre_rows_named.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def preserves_MoeKernel_MoeKernelIdeal : Prop :=
  True

def algebraic_MoeKernelIdeal_MoeReferenceIdeal_on_valid_rows [hMoeKernelIdeal : Cert.MoeKernelIdeal.Facts] [hMoeReferenceIdeal : Cert.MoeReferenceIdeal.Facts] [hPre_experts_named : Cert.Pre_experts_named.Facts] [hOn_valid_rows : Cert.On_valid_rows.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)) →
    ∃ (v0 : (c : Dev Cert.MoeKernelIdeal.nD) → Buf (Elt Ideal) ((c.tc : Thread Cert.MoeKernelIdeal.nD Cert.MoeKernelIdeal.τ).loc Cert.MoeKernelIdeal.main_v0)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          (∀ i : (⟨2, ![23040, 2048]⟩ : Shape).Idx, (Cert.On_valid_rows.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4))) i = 1#1 → r.2.mem ((c.tc : Thread Cert.MoeKernelIdeal.nD Cert.MoeKernelIdeal.τ).loc Cert.MoeKernelIdeal.main_v0) i = v0 c i)
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          (∀ i : (⟨2, ![23040, 2048]⟩ : Shape).Idx, (Cert.On_valid_rows.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4))) i = 1#1 → r.2.mem ((c.tc : Thread Cert.MoeReferenceIdeal.nD Cert.MoeReferenceIdeal.τ).loc Cert.MoeReferenceIdeal.main_v122) i = v0 c i)
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v0)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v7) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_EvenKernel_EvenKernelIdeal : Prop :=
  True

def algebraic_EvenKernelIdeal_EvenReferenceIdeal [hEvenKernelIdeal : Cert.EvenKernelIdeal.Facts] [hEvenReferenceIdeal : Cert.EvenReferenceIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenKernelIdeal m →
    (∀ c : Dev Cert.EvenKernelIdeal.nD,
      m' ((c.tc : Thread Cert.EvenReferenceIdeal.nD Cert.EvenReferenceIdeal.τ).loc Cert.EvenReferenceIdeal.main_arg0) = m ((c.tc : Thread Cert.EvenKernelIdeal.nD Cert.EvenKernelIdeal.τ).loc Cert.EvenKernelIdeal.main_arg0)
      ∧ m' ((c.tc : Thread Cert.EvenReferenceIdeal.nD Cert.EvenReferenceIdeal.τ).loc Cert.EvenReferenceIdeal.main_arg1) = m ((c.tc : Thread Cert.EvenKernelIdeal.nD Cert.EvenKernelIdeal.τ).loc Cert.EvenKernelIdeal.main_arg1)
      ∧ m' ((c.tc : Thread Cert.EvenReferenceIdeal.nD Cert.EvenReferenceIdeal.τ).loc Cert.EvenReferenceIdeal.main_arg2) = m ((c.tc : Thread Cert.EvenKernelIdeal.nD Cert.EvenKernelIdeal.τ).loc Cert.EvenKernelIdeal.main_arg2)
      ∧ m' ((c.tc : Thread Cert.EvenReferenceIdeal.nD Cert.EvenReferenceIdeal.τ).loc Cert.EvenReferenceIdeal.main_arg3) = m ((c.tc : Thread Cert.EvenKernelIdeal.nD Cert.EvenKernelIdeal.τ).loc Cert.EvenKernelIdeal.main_arg3)
      ∧ m' ((c.tc : Thread Cert.EvenReferenceIdeal.nD Cert.EvenReferenceIdeal.τ).loc Cert.EvenReferenceIdeal.main_arg4) = m ((c.tc : Thread Cert.EvenKernelIdeal.nD Cert.EvenKernelIdeal.τ).loc Cert.EvenKernelIdeal.main_arg4)
      ∧ m' ((c.tc : Thread Cert.EvenReferenceIdeal.nD Cert.EvenReferenceIdeal.τ).loc Cert.EvenReferenceIdeal.main_arg5) = m ((c.tc : Thread Cert.EvenKernelIdeal.nD Cert.EvenKernelIdeal.τ).loc Cert.EvenKernelIdeal.main_arg5)
      ∧ m' ((c.tc : Thread Cert.EvenReferenceIdeal.nD Cert.EvenReferenceIdeal.τ).loc Cert.EvenReferenceIdeal.main_arg6) = m ((c.tc : Thread Cert.EvenKernelIdeal.nD Cert.EvenKernelIdeal.τ).loc Cert.EvenKernelIdeal.main_arg6)) →
    ∃ (v0 : (c : Dev Cert.EvenKernelIdeal.nD) → Buf (Elt Ideal) ((c.tc : Thread Cert.EvenKernelIdeal.nD Cert.EvenKernelIdeal.τ).loc Cert.EvenKernelIdeal.main_v25)) (v1 : (c : Dev Cert.EvenKernelIdeal.nD) → Buf (Elt Ideal) ((c.tc : Thread Cert.EvenKernelIdeal.nD Cert.EvenKernelIdeal.τ).loc Cert.EvenKernelIdeal.main_v31)) (v2 : (c : Dev Cert.EvenKernelIdeal.nD) → Buf (Elt Ideal) ((c.tc : Thread Cert.EvenKernelIdeal.nD Cert.EvenKernelIdeal.τ).loc Cert.EvenKernelIdeal.main_v33)) (v3 : (c : Dev Cert.EvenKernelIdeal.nD) → Buf (Elt Ideal) ((c.tc : Thread Cert.EvenKernelIdeal.nD Cert.EvenKernelIdeal.τ).loc Cert.EvenKernelIdeal.main_v35)) (v4 : (c : Dev Cert.EvenKernelIdeal.nD) → Buf (Elt Ideal) ((c.tc : Thread Cert.EvenKernelIdeal.nD Cert.EvenKernelIdeal.τ).loc Cert.EvenKernelIdeal.main_v36)) (v5 : (c : Dev Cert.EvenKernelIdeal.nD) → Buf (Elt Ideal) ((c.tc : Thread Cert.EvenKernelIdeal.nD Cert.EvenKernelIdeal.τ).loc Cert.EvenKernelIdeal.main_v37)),
      θ_run (Cert.EvenKernelIdeal.defs (F := Ideal)) (onTc (τ := Cert.EvenKernelIdeal.τ) (Cert.EvenKernelIdeal.main (F := Ideal))) ⟨m, fun _ => 0, g⟩ (fun r => ∀ c : Dev Cert.EvenKernelIdeal.nD,
          r.2.mem ((c.tc : Thread Cert.EvenKernelIdeal.nD Cert.EvenKernelIdeal.τ).loc Cert.EvenKernelIdeal.main_v25) = v0 c
          ∧ r.2.mem ((c.tc : Thread Cert.EvenKernelIdeal.nD Cert.EvenKernelIdeal.τ).loc Cert.EvenKernelIdeal.main_v31) = v1 c
          ∧ r.2.mem ((c.tc : Thread Cert.EvenKernelIdeal.nD Cert.EvenKernelIdeal.τ).loc Cert.EvenKernelIdeal.main_v33) = v2 c
          ∧ r.2.mem ((c.tc : Thread Cert.EvenKernelIdeal.nD Cert.EvenKernelIdeal.τ).loc Cert.EvenKernelIdeal.main_v35) = v3 c
          ∧ r.2.mem ((c.tc : Thread Cert.EvenKernelIdeal.nD Cert.EvenKernelIdeal.τ).loc Cert.EvenKernelIdeal.main_v36) = v4 c
          ∧ r.2.mem ((c.tc : Thread Cert.EvenKernelIdeal.nD Cert.EvenKernelIdeal.τ).loc Cert.EvenKernelIdeal.main_v37) = v5 c
          ∧ r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
          ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
          ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
          ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
          ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
          ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
          ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v58) = v0 c
          ∧ r.2.mem ((c.tc : Thread Cert.EvenReferenceIdeal.nD Cert.EvenReferenceIdeal.τ).loc Cert.EvenReferenceIdeal.main_v59) = v1 c
          ∧ r.2.mem ((c.tc : Thread Cert.EvenReferenceIdeal.nD Cert.EvenReferenceIdeal.τ).loc Cert.EvenReferenceIdeal.main_v60) = v2 c
          ∧ r.2.mem ((c.tc : Thread Cert.EvenReferenceIdeal.nD Cert.EvenReferenceIdeal.τ).loc Cert.EvenReferenceIdeal.main_v61) = v3 c
          ∧ r.2.mem ((c.tc : Thread Cert.EvenReferenceIdeal.nD Cert.EvenReferenceIdeal.τ).loc Cert.EvenReferenceIdeal.main_v62) = v4 c
          ∧ r.2.mem ((c.tc : Thread Cert.EvenReferenceIdeal.nD Cert.EvenReferenceIdeal.τ).loc Cert.EvenReferenceIdeal.main_v63) = v5 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6))

def preserves_OddKernel_OddKernelIdeal : Prop :=
  True

def algebraic_OddKernelIdeal_OddReferenceIdeal [hOddKernelIdeal : Cert.OddKernelIdeal.Facts] [hOddReferenceIdeal : Cert.OddReferenceIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddKernelIdeal m →
    (∀ c : Dev Cert.OddKernelIdeal.nD,
      m' ((c.tc : Thread Cert.OddReferenceIdeal.nD Cert.OddReferenceIdeal.τ).loc Cert.OddReferenceIdeal.main_arg0) = m ((c.tc : Thread Cert.OddKernelIdeal.nD Cert.OddKernelIdeal.τ).loc Cert.OddKernelIdeal.main_arg0)
      ∧ m' ((c.tc : Thread Cert.OddReferenceIdeal.nD Cert.OddReferenceIdeal.τ).loc Cert.OddReferenceIdeal.main_arg1) = m ((c.tc : Thread Cert.OddKernelIdeal.nD Cert.OddKernelIdeal.τ).loc Cert.OddKernelIdeal.main_arg1)
      ∧ m' ((c.tc : Thread Cert.OddReferenceIdeal.nD Cert.OddReferenceIdeal.τ).loc Cert.OddReferenceIdeal.main_arg2) = m ((c.tc : Thread Cert.OddKernelIdeal.nD Cert.OddKernelIdeal.τ).loc Cert.OddKernelIdeal.main_arg2)
      ∧ m' ((c.tc : Thread Cert.OddReferenceIdeal.nD Cert.OddReferenceIdeal.τ).loc Cert.OddReferenceIdeal.main_arg3) = m ((c.tc : Thread Cert.OddKernelIdeal.nD Cert.OddKernelIdeal.τ).loc Cert.OddKernelIdeal.main_arg3)) →
    ∃ (v0 : (c : Dev Cert.OddKernelIdeal.nD) → Buf (Elt Ideal) ((c.tc : Thread Cert.OddKernelIdeal.nD Cert.OddKernelIdeal.τ).loc Cert.OddKernelIdeal.main_v11)) (v1 : (c : Dev Cert.OddKernelIdeal.nD) → Buf (Elt Ideal) ((c.tc : Thread Cert.OddKernelIdeal.nD Cert.OddKernelIdeal.τ).loc Cert.OddKernelIdeal.main_v13)) (v2 : (c : Dev Cert.OddKernelIdeal.nD) → Buf (Elt Ideal) ((c.tc : Thread Cert.OddKernelIdeal.nD Cert.OddKernelIdeal.τ).loc Cert.OddKernelIdeal.main_v15)) (v3 : (c : Dev Cert.OddKernelIdeal.nD) → Buf (Elt Ideal) ((c.tc : Thread Cert.OddKernelIdeal.nD Cert.OddKernelIdeal.τ).loc Cert.OddKernelIdeal.main_v17)),
      θ_run (Cert.OddKernelIdeal.defs (F := Ideal)) (onTc (τ := Cert.OddKernelIdeal.τ) (Cert.OddKernelIdeal.main (F := Ideal))) ⟨m, fun _ => 0, g⟩ (fun r => ∀ c : Dev Cert.OddKernelIdeal.nD,
          r.2.mem ((c.tc : Thread Cert.OddKernelIdeal.nD Cert.OddKernelIdeal.τ).loc Cert.OddKernelIdeal.main_v11) = v0 c
          ∧ r.2.mem ((c.tc : Thread Cert.OddKernelIdeal.nD Cert.OddKernelIdeal.τ).loc Cert.OddKernelIdeal.main_v13) = v1 c
          ∧ r.2.mem ((c.tc : Thread Cert.OddKernelIdeal.nD Cert.OddKernelIdeal.τ).loc Cert.OddKernelIdeal.main_v15) = v2 c
          ∧ r.2.mem ((c.tc : Thread Cert.OddKernelIdeal.nD Cert.OddKernelIdeal.τ).loc Cert.OddKernelIdeal.main_v17) = v3 c
          ∧ r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
          ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
          ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
          ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v42) = v0 c
          ∧ r.2.mem ((c.tc : Thread Cert.OddReferenceIdeal.nD Cert.OddReferenceIdeal.τ).loc Cert.OddReferenceIdeal.main_v43) = v1 c
          ∧ r.2.mem ((c.tc : Thread Cert.OddReferenceIdeal.nD Cert.OddReferenceIdeal.τ).loc Cert.OddReferenceIdeal.main_v44) = v2 c
          ∧ r.2.mem ((c.tc : Thread Cert.OddReferenceIdeal.nD Cert.OddReferenceIdeal.τ).loc Cert.OddReferenceIdeal.main_v45) = v3 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v17)) (v1 : (c : Dev Cert.MemKernelIdeal.nD) → Buf (Elt Ideal) ((c.tc : Thread Cert.MemKernelIdeal.nD Cert.MemKernelIdeal.τ).loc Cert.MemKernelIdeal.main_v22)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v17) = v0 c
          ∧ r.2.mem ((c.tc : Thread Cert.MemKernelIdeal.nD Cert.MemKernelIdeal.τ).loc Cert.MemKernelIdeal.main_v22) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v18) = v0 c
          ∧ r.2.mem ((c.tc : Thread Cert.MemReferenceIdeal.nD Cert.MemReferenceIdeal.τ).loc Cert.MemReferenceIdeal.main_v21) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_CrossKernel_CrossKernelIdeal : Prop :=
  True

def algebraic_CrossKernelIdeal_CrossReferenceIdeal [hCrossKernelIdeal : Cert.CrossKernelIdeal.Facts] [hCrossReferenceIdeal : Cert.CrossReferenceIdeal.Facts] : Prop :=
  ∀ (m : (ℓ : Loc Cert.CrossKernelIdeal.nD Cert.CrossKernelIdeal.τ Cert.CrossKernelIdeal.sig) → Buf (Elt Ideal) ℓ) (g : Dev Cert.CrossKernelIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossKernelIdeal m →
    (∀ c : Dev Cert.CrossKernelIdeal.nD,
      m' ((c.tc : Thread Cert.CrossReferenceIdeal.nD Cert.CrossReferenceIdeal.τ).loc Cert.CrossReferenceIdeal.main_arg0) = m ((c.tc : Thread Cert.CrossKernelIdeal.nD Cert.CrossKernelIdeal.τ).loc Cert.CrossKernelIdeal.main_arg0)
      ∧ m' ((c.tc : Thread Cert.CrossReferenceIdeal.nD Cert.CrossReferenceIdeal.τ).loc Cert.CrossReferenceIdeal.main_arg1) = m ((c.tc : Thread Cert.CrossKernelIdeal.nD Cert.CrossKernelIdeal.τ).loc Cert.CrossKernelIdeal.main_arg1)
      ∧ m' ((c.tc : Thread Cert.CrossReferenceIdeal.nD Cert.CrossReferenceIdeal.τ).loc Cert.CrossReferenceIdeal.main_arg2) = m ((c.tc : Thread Cert.CrossKernelIdeal.nD Cert.CrossKernelIdeal.τ).loc Cert.CrossKernelIdeal.main_arg2)
      ∧ m' ((c.tc : Thread Cert.CrossReferenceIdeal.nD Cert.CrossReferenceIdeal.τ).loc Cert.CrossReferenceIdeal.main_arg3) = m ((c.tc : Thread Cert.CrossKernelIdeal.nD Cert.CrossKernelIdeal.τ).loc Cert.CrossKernelIdeal.main_arg3)
      ∧ m' ((c.tc : Thread Cert.CrossReferenceIdeal.nD Cert.CrossReferenceIdeal.τ).loc Cert.CrossReferenceIdeal.main_arg4) = m ((c.tc : Thread Cert.CrossKernelIdeal.nD Cert.CrossKernelIdeal.τ).loc Cert.CrossKernelIdeal.main_arg4)
      ∧ m' ((c.tc : Thread Cert.CrossReferenceIdeal.nD Cert.CrossReferenceIdeal.τ).loc Cert.CrossReferenceIdeal.main_arg5) = m ((c.tc : Thread Cert.CrossKernelIdeal.nD Cert.CrossKernelIdeal.τ).loc Cert.CrossKernelIdeal.main_arg5)) →
    ∃ (v0 : (c : Dev Cert.CrossKernelIdeal.nD) → Buf (Elt Ideal) ((c.tc : Thread Cert.CrossKernelIdeal.nD Cert.CrossKernelIdeal.τ).loc Cert.CrossKernelIdeal.main_v10)),
      θ_run (Cert.CrossKernelIdeal.defs (F := Ideal)) (onTc (τ := Cert.CrossKernelIdeal.τ) (Cert.CrossKernelIdeal.main (F := Ideal))) ⟨m, fun _ => 0, g⟩ (fun r => ∀ c : Dev Cert.CrossKernelIdeal.nD,
          r.2.mem ((c.tc : Thread Cert.CrossKernelIdeal.nD Cert.CrossKernelIdeal.τ).loc Cert.CrossKernelIdeal.main_v10) = v0 c
          ∧ r.2.mem ((c.tc : Thread Cert.CrossKernelIdeal.nD Cert.CrossKernelIdeal.τ).loc Cert.CrossKernelIdeal.main_arg0) = m ((c.tc : Thread Cert.CrossKernelIdeal.nD Cert.CrossKernelIdeal.τ).loc Cert.CrossKernelIdeal.main_arg0)
          ∧ r.2.mem ((c.tc : Thread Cert.CrossKernelIdeal.nD Cert.CrossKernelIdeal.τ).loc Cert.CrossKernelIdeal.main_arg1) = m ((c.tc : Thread Cert.CrossKernelIdeal.nD Cert.CrossKernelIdeal.τ).loc Cert.CrossKernelIdeal.main_arg1)
          ∧ r.2.mem ((c.tc : Thread Cert.CrossKernelIdeal.nD Cert.CrossKernelIdeal.τ).loc Cert.CrossKernelIdeal.main_arg2) = m ((c.tc : Thread Cert.CrossKernelIdeal.nD Cert.CrossKernelIdeal.τ).loc Cert.CrossKernelIdeal.main_arg2)
          ∧ r.2.mem ((c.tc : Thread Cert.CrossKernelIdeal.nD Cert.CrossKernelIdeal.τ).loc Cert.CrossKernelIdeal.main_arg3) = m ((c.tc : Thread Cert.CrossKernelIdeal.nD Cert.CrossKernelIdeal.τ).loc Cert.CrossKernelIdeal.main_arg3)
          ∧ r.2.mem ((c.tc : Thread Cert.CrossKernelIdeal.nD Cert.CrossKernelIdeal.τ).loc Cert.CrossKernelIdeal.main_arg4) = m ((c.tc : Thread Cert.CrossKernelIdeal.nD Cert.CrossKernelIdeal.τ).loc Cert.CrossKernelIdeal.main_arg4)
          ∧ r.2.mem ((c.tc : Thread Cert.CrossKernelIdeal.nD Cert.CrossKernelIdeal.τ).loc Cert.CrossKernelIdeal.main_arg5) = m ((c.tc : Thread Cert.CrossKernelIdeal.nD Cert.CrossKernelIdeal.τ).loc Cert.CrossKernelIdeal.main_arg5))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v43) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4)
          ∧ r.2.mem ((c.tc : Thread Cert.CrossReferenceIdeal.nD Cert.CrossReferenceIdeal.τ).loc Cert.CrossReferenceIdeal.main_arg5) = m' ((c.tc : Thread Cert.CrossReferenceIdeal.nD Cert.CrossReferenceIdeal.τ).loc Cert.CrossReferenceIdeal.main_arg5))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_CombineKernel_CombineKernelIdeal : Prop :=
  True

def algebraic_CombineKernelIdeal_CombineReferenceIdeal [hCombineKernelIdeal : Cert.CombineKernelIdeal.Facts] [hCombineReferenceIdeal : Cert.CombineReferenceIdeal.Facts] [hPre_rows_named : Cert.Pre_rows_named.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineKernelIdeal m →
    (∀ c : Dev Cert.CombineKernelIdeal.nD,
      m' ((c.tc : Thread Cert.CombineReferenceIdeal.nD Cert.CombineReferenceIdeal.τ).loc Cert.CombineReferenceIdeal.main_arg0) = m ((c.tc : Thread Cert.CombineKernelIdeal.nD Cert.CombineKernelIdeal.τ).loc Cert.CombineKernelIdeal.main_arg0)
      ∧ m' ((c.tc : Thread Cert.CombineReferenceIdeal.nD Cert.CombineReferenceIdeal.τ).loc Cert.CombineReferenceIdeal.main_arg1) = m ((c.tc : Thread Cert.CombineKernelIdeal.nD Cert.CombineKernelIdeal.τ).loc Cert.CombineKernelIdeal.main_arg1)
      ∧ m' ((c.tc : Thread Cert.CombineReferenceIdeal.nD Cert.CombineReferenceIdeal.τ).loc Cert.CombineReferenceIdeal.main_arg2) = m ((c.tc : Thread Cert.CombineKernelIdeal.nD Cert.CombineKernelIdeal.τ).loc Cert.CombineKernelIdeal.main_arg2)
      ∧ m' ((c.tc : Thread Cert.CombineReferenceIdeal.nD Cert.CombineReferenceIdeal.τ).loc Cert.CombineReferenceIdeal.main_arg3) = m ((c.tc : Thread Cert.CombineKernelIdeal.nD Cert.CombineKernelIdeal.τ).loc Cert.CombineKernelIdeal.main_arg3)
      ∧ m' ((c.tc : Thread Cert.CombineReferenceIdeal.nD Cert.CombineReferenceIdeal.τ).loc Cert.CombineReferenceIdeal.main_arg4) = m ((c.tc : Thread Cert.CombineKernelIdeal.nD Cert.CombineKernelIdeal.τ).loc Cert.CombineKernelIdeal.main_arg4)
      ∧ m' ((c.tc : Thread Cert.CombineReferenceIdeal.nD Cert.CombineReferenceIdeal.τ).loc Cert.CombineReferenceIdeal.main_arg5) = m ((c.tc : Thread Cert.CombineKernelIdeal.nD Cert.CombineKernelIdeal.τ).loc Cert.CombineKernelIdeal.main_arg5)) →
    ∃ (v0 : (c : Dev Cert.CombineKernelIdeal.nD) → Buf (Elt Ideal) ((c.tc : Thread Cert.CombineKernelIdeal.nD Cert.CombineKernelIdeal.τ).loc Cert.CombineKernelIdeal.main_v3)) (v1 : (c : Dev Cert.CombineKernelIdeal.nD) → Buf (Elt Ideal) ((c.tc : Thread Cert.CombineKernelIdeal.nD Cert.CombineKernelIdeal.τ).loc Cert.CombineKernelIdeal.main_v5)),
      θ_run (Cert.CombineKernelIdeal.defs (F := Ideal)) (onTc (τ := Cert.CombineKernelIdeal.τ) (Cert.CombineKernelIdeal.main (F := Ideal))) ⟨m, fun _ => 0, g⟩ (fun r => ∀ c : Dev Cert.CombineKernelIdeal.nD,
          r.2.mem ((c.tc : Thread Cert.CombineKernelIdeal.nD Cert.CombineKernelIdeal.τ).loc Cert.CombineKernelIdeal.main_v3) = v0 c
          ∧ r.2.mem ((c.tc : Thread Cert.CombineKernelIdeal.nD Cert.CombineKernelIdeal.τ).loc Cert.CombineKernelIdeal.main_v5) = v1 c
          ∧ r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
          ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
          ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
          ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
          ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
          ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v36) = v0 c
          ∧ r.2.mem ((c.tc : Thread Cert.CombineReferenceIdeal.nD Cert.CombineReferenceIdeal.τ).loc Cert.CombineReferenceIdeal.main_v51) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def Claim : Prop :=
  ∃ (hMoeKernel : Cert.MoeKernel.Facts) (hMoeKernelIdeal : Cert.MoeKernelIdeal.Facts) (hMoeReferenceIdeal : Cert.MoeReferenceIdeal.Facts) (hFfnKernel : Cert.FfnKernel.Facts) (hFfnKernelIdeal : Cert.FfnKernelIdeal.Facts) (hFfnReferenceIdeal : Cert.FfnReferenceIdeal.Facts) (hEvenKernel : Cert.EvenKernel.Facts) (hEvenKernelIdeal : Cert.EvenKernelIdeal.Facts) (hEvenReferenceIdeal : Cert.EvenReferenceIdeal.Facts) (hOddKernel : Cert.OddKernel.Facts) (hOddKernelIdeal : Cert.OddKernelIdeal.Facts) (hOddReferenceIdeal : Cert.OddReferenceIdeal.Facts) (hMemKernel : Cert.MemKernel.Facts) (hMemKernelIdeal : Cert.MemKernelIdeal.Facts) (hMemReferenceIdeal : Cert.MemReferenceIdeal.Facts) (hCrossKernel : Cert.CrossKernel.Facts) (hCrossKernelIdeal : Cert.CrossKernelIdeal.Facts) (hCrossReferenceIdeal : Cert.CrossReferenceIdeal.Facts) (hOutKernel : Cert.OutKernel.Facts) (hOutKernelIdeal : Cert.OutKernelIdeal.Facts) (hOutReferenceIdeal : Cert.OutReferenceIdeal.Facts) (hCombineKernel : Cert.CombineKernel.Facts) (hCombineKernelIdeal : Cert.CombineKernelIdeal.Facts) (hCombineReferenceIdeal : Cert.CombineReferenceIdeal.Facts) (hPre_experts_named : Cert.Pre_experts_named.Facts) (hPre_rows_named : Cert.Pre_rows_named.Facts) (hOn_valid_rows : Cert.On_valid_rows.Facts),
    quiescent_MoeKernel (hMoeKernel := hMoeKernel) (hPre_experts_named := hPre_experts_named)
    ∧ quiescent_MoeKernelIdeal (hMoeKernelIdeal := hMoeKernelIdeal) (hPre_experts_named := hPre_experts_named)
    ∧ quiescent_MoeReferenceIdeal (hMoeReferenceIdeal := hMoeReferenceIdeal) (hPre_experts_named := hPre_experts_named)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_EvenKernel (hEvenKernel := hEvenKernel)
    ∧ quiescent_EvenKernelIdeal (hEvenKernelIdeal := hEvenKernelIdeal)
    ∧ quiescent_EvenReferenceIdeal (hEvenReferenceIdeal := hEvenReferenceIdeal)
    ∧ quiescent_OddKernel (hOddKernel := hOddKernel)
    ∧ quiescent_OddKernelIdeal (hOddKernelIdeal := hOddKernelIdeal)
    ∧ quiescent_OddReferenceIdeal (hOddReferenceIdeal := hOddReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_CrossKernel (hCrossKernel := hCrossKernel)
    ∧ quiescent_CrossKernelIdeal (hCrossKernelIdeal := hCrossKernelIdeal)
    ∧ quiescent_CrossReferenceIdeal (hCrossReferenceIdeal := hCrossReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_CombineKernel (hCombineKernel := hCombineKernel) (hPre_rows_named := hPre_rows_named)
    ∧ quiescent_CombineKernelIdeal (hCombineKernelIdeal := hCombineKernelIdeal) (hPre_rows_named := hPre_rows_named)
    ∧ quiescent_CombineReferenceIdeal (hCombineReferenceIdeal := hCombineReferenceIdeal) (hPre_rows_named := hPre_rows_named)
    ∧ preserves_MoeKernel_MoeKernelIdeal
    ∧ algebraic_MoeKernelIdeal_MoeReferenceIdeal_on_valid_rows (hMoeKernelIdeal := hMoeKernelIdeal) (hMoeReferenceIdeal := hMoeReferenceIdeal) (hPre_experts_named := hPre_experts_named) (hOn_valid_rows := hOn_valid_rows)
    ∧ preserves_FfnKernel_FfnKernelIdeal
    ∧ algebraic_FfnKernelIdeal_FfnReferenceIdeal (hFfnKernelIdeal := hFfnKernelIdeal) (hFfnReferenceIdeal := hFfnReferenceIdeal)
    ∧ preserves_EvenKernel_EvenKernelIdeal
    ∧ algebraic_EvenKernelIdeal_EvenReferenceIdeal (hEvenKernelIdeal := hEvenKernelIdeal) (hEvenReferenceIdeal := hEvenReferenceIdeal)
    ∧ preserves_OddKernel_OddKernelIdeal
    ∧ algebraic_OddKernelIdeal_OddReferenceIdeal (hOddKernelIdeal := hOddKernelIdeal) (hOddReferenceIdeal := hOddReferenceIdeal)
    ∧ preserves_MemKernel_MemKernelIdeal
    ∧ algebraic_MemKernelIdeal_MemReferenceIdeal (hMemKernelIdeal := hMemKernelIdeal) (hMemReferenceIdeal := hMemReferenceIdeal)
    ∧ preserves_CrossKernel_CrossKernelIdeal
    ∧ algebraic_CrossKernelIdeal_CrossReferenceIdeal (hCrossKernelIdeal := hCrossKernelIdeal) (hCrossReferenceIdeal := hCrossReferenceIdeal)
    ∧ preserves_OutKernel_OutKernelIdeal
    ∧ algebraic_OutKernelIdeal_OutReferenceIdeal (hOutKernelIdeal := hOutKernelIdeal) (hOutReferenceIdeal := hOutReferenceIdeal)
    ∧ preserves_CombineKernel_CombineKernelIdeal
    ∧ algebraic_CombineKernelIdeal_CombineReferenceIdeal (hCombineKernelIdeal := hCombineKernelIdeal) (hCombineReferenceIdeal := hCombineReferenceIdeal) (hPre_rows_named := hPre_rows_named)
-- ==== On_valid_rows.lean ====
abbrev S30 : Shape := ⟨1, ![30]⟩
abbrev S23040x2048 : Shape := ⟨2, ![23040, 2048]⟩
abbrev S8x2048x14336 : Shape := ⟨3, ![8, 2048, 14336]⟩
abbrev S8x7168x2048 : Shape := ⟨3, ![8, 7168, 2048]⟩
abbrev S23040 : Shape := ⟨1, ![23040]⟩
abbrev S_ : Shape := ⟨0, ![]⟩
abbrev S23040x1 : Shape := ⟨2, ![23040, 1]⟩

class Facts : Prop where
  bcast_S_S23040 : S_.BroadcastsInDim S23040 (![] : Fin 0 → Fin S23040.rank)
  bcast_S23040_S23040x1_0 : S23040.BroadcastsInDim S23040x1 (![0] : Fin 1 → Fin S23040x1.rank)
  bcast_S23040x1_S23040x2048_0_1 : S23040x1.BroadcastsInDim S23040x2048 (![0, 1] : Fin 2 → Fin S23040x2048.rank)
  gather_S30_S23040x1_S23040_n_0_n_n_0_1_1_wf : GatherDims.WF S30 S23040x1 S23040 [] [0] [] [0] [] 1 ![1]

variable [Facts]

def gather_S30_S23040x1_S23040_n_0_n_n_0_1_1 : GatherDims S30 S23040x1 S23040 where
  offsetDims := []
  collapsedSliceDims := [0]
  operandBatchingDims := []
  startIndicesBatchingDims := []
  startIndexMap := [0]
  indexVectorDim := 1
  sliceSizes := ![1]
  wf := gather_S30_S23040x1_S23040_n_0_n_n_0_1_1_wf
def fn_where {F : FTy → Type} [FloatOps F] (arg0 : IVec S23040 1) (arg1 : IVec S23040 32) (arg2 : IVec S23040 32) : IVec S23040 32 :=
  let v0 : IVec S23040 32 := select arg0 arg1 arg2
  v0

def fn_floor_divide {F : FTy → Type} [FloatOps F] (arg0 : IVec S23040 32) (arg1 : IVec S_ 32) : IVec S23040 32 :=
  let v0 : IVec S_ 32 := id arg1
  let v1 : IVec S23040 32 := broadcastInDim S23040 ![] bcast_S_S23040 v0
  let v2 : IVec S23040 32 := Host.divsi arg0 v1
  let v3 : IVec S23040 32 := signi arg0
  let v4 : IVec S_ 32 := signi v0
  let v5 : IVec S23040 32 := broadcastInDim S23040 ![] bcast_S_S23040 v4
  let v6 : IVec S23040 1 := cmpi .ne v3 v5
  let v7 : IVec S23040 32 := broadcastInDim S23040 ![] bcast_S_S23040 v0
  let v8 : IVec S23040 32 := Host.remsi arg0 v7
  let c : IVec S_ 32 := constantI S_ 32 0#32
  let v9 : IVec S23040 32 := broadcastInDim S23040 ![] bcast_S_S23040 c
  let v10 : IVec S23040 1 := cmpi .ne v8 v9
  let v11 : IVec S23040 1 := andi v6 v10
  let c_0 : IVec S_ 32 := constantI S_ 32 1#32
  let v12 : IVec S23040 32 := broadcastInDim S23040 ![] bcast_S_S23040 c_0
  let v13 : IVec S23040 32 := subi v2 v12
  let v14 : IVec S23040 32 := fn_where (F := F) v11 v13 v2
  v14

def fn {F : FTy → Type} [FloatOps F] (main_arg0 : IVec S30 32) (main_arg1 : IVec S30 32) (main_arg2 : FVec F S23040x2048 .f32) (main_arg3 : FVec F S8x2048x14336 .f32) (main_arg4 : FVec F S8x7168x2048 .f32) : IVec S23040x2048 1 :=
  let main_v0 : IVec S23040 32 := iotaInDim S23040 32 0
  let main_c : IVec S_ 32 := constantI S_ 32 768#32
  let main_v1 : IVec S23040 32 := fn_floor_divide (F := F) main_v0 main_c
  let main_c_0 : IVec S_ 32 := constantI S_ 32 0#32
  let main_v2 : IVec S23040 32 := broadcastInDim S23040 ![] bcast_S_S23040 main_c_0
  let main_v3 : IVec S23040 1 := cmpi .slt main_v1 main_v2
  let main_c_1 : IVec S_ 32 := constantI S_ 32 30#32
  let main_v4 : IVec S23040 32 := broadcastInDim S23040 ![] bcast_S_S23040 main_c_1
  let main_v5 : IVec S23040 32 := addi main_v1 main_v4
  let main_v6 : IVec S23040 32 := select main_v3 main_v5 main_v1
  let main_v7 : IVec S23040x1 32 := broadcastInDim S23040x1 ![0] bcast_S23040_S23040x1_0 main_v6
  let main_v8 : IVec S23040 32 := (fun x i => Host.gather gather_S30_S23040x1_S23040_n_0_n_n_0_1_1 x i) main_arg1 main_v7
  let main_c_2 : IVec S_ 32 := constantI S_ 32 0#32
  let main_v9 : IVec S23040 32 := broadcastInDim S23040 ![] bcast_S_S23040 main_c_2
  let main_v10 : IVec S23040 1 := cmpi .sgt main_v8 main_v9
  let main_v11 : IVec S23040x1 1 := broadcastInDim S23040x1 ![0] bcast_S23040_S23040x1_0 main_v10
  let main_v12 : IVec S23040x2048 1 := broadcastInDim S23040x2048 ![0, 1] bcast_S23040x1_S23040x2048_0_1 main_v11
  main_v12
-- ==== Pre_experts_named.lean ====
abbrev S30 : Shape := ⟨1, ![30]⟩
abbrev S23040x2048 : Shape := ⟨2, ![23040, 2048]⟩
abbrev S8x2048x14336 : Shape := ⟨3, ![8, 2048, 14336]⟩
abbrev S8x7168x2048 : Shape := ⟨3, ![8, 7168, 2048]⟩
abbrev S_ : Shape := ⟨0, ![]⟩

class Facts : Prop where
  bcast_S_S30 : S_.BroadcastsInDim S30 (![] : Fin 0 → Fin S30.rank)

variable [Facts]

def fn {F : FTy → Type} [FloatOps F] (main_arg0 : IVec S30 32) (main_arg1 : IVec S30 32) (main_arg2 : FVec F S23040x2048 .f32) (main_arg3 : FVec F S8x2048x14336 .f32) (main_arg4 : FVec F S8x7168x2048 .f32) : IVec S30 1 :=
  let main_c : IVec S_ 32 := constantI S_ 32 0#32
  let main_v0 : IVec S30 32 := broadcastInDim S30 ![] bcast_S_S30 main_c
  let main_v1 : IVec S30 1 := cmpi .sge main_arg0 main_v0
  let main_c_0 : IVec S_ 32 := constantI S_ 32 8#32
  let main_v2 : IVec S30 32 := broadcastInDim S30 ![] bcast_S_S30 main_c_0
  let main_v3 : IVec S30 1 := cmpi .slt main_arg0 main_v2
  let main_v4 : IVec S30 1 := andi main_v1 main_v3
  main_v4
-- ==== Pre_rows_named.lean ====
abbrev S23040x2048 : Shape := ⟨2, ![23040, 2048]⟩
abbrev S8320 : Shape := ⟨1, ![8320]⟩
abbrev S8320x128 : Shape := ⟨2, ![8320, 128]⟩
abbrev S8320x2048 : Shape := ⟨2, ![8320, 2048]⟩
abbrev S2048 : Shape := ⟨1, ![2048]⟩
abbrev S_ : Shape := ⟨0, ![]⟩

class Facts : Prop where
  bcast_S_S8320 : S_.BroadcastsInDim S8320 (![] : Fin 0 → Fin S8320.rank)

variable [Facts]

def fn {F : FTy → Type} [FloatOps F] (main_arg0 : FVec F S23040x2048 .f32) (main_arg1 : IVec S8320 32) (main_arg2 : IVec S8320 32) (main_arg3 : FVec F S8320x128 .f32) (main_arg4 : FVec F S8320x2048 .f32) (main_arg5 : FVec F S2048 .f32) : IVec S8320 1 :=
  let main_c : IVec S_ 32 := constantI S_ 32 0#32
  let main_v0 : IVec S8320 32 := broadcastInDim S8320 ![] bcast_S_S8320 main_c
  let main_v1 : IVec S8320 1 := cmpi .sge main_arg1 main_v0
  let main_c_0 : IVec S_ 32 := constantI S_ 32 23040#32
  let main_v2 : IVec S8320 32 := broadcastInDim S8320 ![] bcast_S_S8320 main_c_0
  let main_v3 : IVec S8320 1 := cmpi .slt main_arg1 main_v2
  let main_v4 : IVec S8320 1 := andi main_v1 main_v3
  let main_c_1 : IVec S_ 32 := constantI S_ 32 0#32
  let main_v5 : IVec S8320 32 := broadcastInDim S8320 ![] bcast_S_S8320 main_c_1
  let main_v6 : IVec S8320 1 := cmpi .sge main_arg2 main_v5
  let main_v7 : IVec S8320 1 := andi main_v4 main_v6
  let main_c_2 : IVec S_ 32 := constantI S_ 32 23040#32
  let main_v8 : IVec S8320 32 := broadcastInDim S8320 ![] bcast_S_S8320 main_c_2
  let main_v9 : IVec S8320 1 := cmpi .slt main_arg2 main_v8
  let main_v10 : IVec S8320 1 := andi main_v7 main_v9
  main_v10
-- ==== MoeKernel.lean ====
abbrev S30 : Shape := ⟨1, ![30]⟩
abbrev S23040x2048 : Shape := ⟨2, ![23040, 2048]⟩
abbrev S8x2048x14336 : Shape := ⟨3, ![8, 2048, 14336]⟩
abbrev S8x7168x2048 : Shape := ⟨3, ![8, 7168, 2048]⟩
abbrev S768x2048 : Shape := ⟨2, ![768, 2048]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 4
  | .vmem => 10
  | .smem => 2
  | _ => 0

abbrev bufTy : (tb : Table) → Fin (tcTables nBuf tb) → BufTy
  | .hbm, ⟨0, _⟩ => ⟨S23040x2048, .f32⟩
  | .hbm, ⟨1, _⟩ => ⟨S8x2048x14336, .f32⟩
  | .hbm, ⟨2, _⟩ => ⟨S8x7168x2048, .f32⟩
  | .hbm, ⟨3, _⟩ => ⟨S23040x2048, .f32⟩
  | .local _ .vmem, ⟨0, _⟩ => ⟨S768x2048, .f32⟩
  | .local _ .vmem, ⟨1, _⟩ => ⟨S768x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S768x2048, .f32⟩
  | .local _ .vmem, ⟨9, _⟩ => ⟨S768x2048, .f32⟩
  | .local _ .smem, ⟨0, _⟩ => ⟨S30, .i32⟩
  | .local _ .smem, ⟨1, _⟩ => ⟨S30, .i32⟩
  | _, _ => ⟨S23040x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![30, 14], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_13 : BitVec 32 := 0#32
  let v23 : BitVec 1 := Scalar.cmpi .eq arg1 c0_i32_13
  let v24 : BitVec 32 := Scalar.extui v23
  let c0_i32_14 : BitVec 32 := 0#32
  let v25 : BitVec 1 := Scalar.cmpi .ne v24 c0_i32_14
  v25

def k0_cond3 (i : grid0.Coords) : BitVec 1 :=
  let arg1 : BitVec 32 := BitVec.ofNat 32 (i 1).val
  let c0_i32_15 : BitVec 32 := 0#32
  let v26 : BitVec 1 := Scalar.cmpi .sgt arg1 c0_i32_15
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S30.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S30) ![v0.toNat] S1.size (k0_off1_inb i)) numel1_S1
  let v2 : Index := Scalar.indexCast arg0
  let v3 : BitVec 32 := pf.at 1 (Rect.unit (s := S30) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S30.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S30) ![v0.toNat] S1.size (k0_off1_inb i)) numel1_S1
  let v2 : Index := Scalar.indexCast arg0
  let v3 : BitVec 32 := pf.at 1 (Rect.unit (s := S30) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c14_i32 : BitVec 32 := 14#32
  let v6 : BitVec 32 := Scalar.addi v5 c14_i32
  let c0_i32_0 : BitVec 32 := 0#32
  let c0_i32_1 : BitVec 32 := 0#32
  ![v1.toNat, c0_i32_0.toNat, v6.toNat]

def cc0_transform_3 (k0_off1_inb : ∀ i : grid0.Coords, ∀ a, (k0_off1 i) a + S1.size a ≤ S30.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S30) ![v0.toNat] S1.size (k0_off1_inb i)) numel1_S1
  let v2 : Index := Scalar.indexCast arg0
  let v3 : BitVec 32 := pf.at 1 (Rect.unit (s := S30) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeReferenceIdeal.lean ====
abbrev S30 : Shape := ⟨1, ![30]⟩
abbrev S23040x2048 : Shape := ⟨2, ![23040, 2048]⟩
abbrev S8x2048x14336 : Shape := ⟨3, ![8, 2048, 14336]⟩
abbrev S8x7168x2048 : Shape := ⟨3, ![8, 7168, 2048]⟩
abbrev S23040 : Shape := ⟨1, ![23040]⟩
abbrev S_ : Shape := ⟨0, ![]⟩
abbrev S23040x1 : Shape := ⟨2, ![23040, 1]⟩
abbrev S1x8 : Shape := ⟨2, ![1, 8]⟩
abbrev S23040x8 : Shape := ⟨2, ![23040, 8]⟩
abbrev S1x2048x14336 : Shape := ⟨3, ![1, 2048, 14336]⟩
abbrev S2048x14336 : Shape := ⟨2, ![2048, 14336]⟩
abbrev S1x7168x2048 : Shape := ⟨3, ![1, 7168, 2048]⟩
abbrev S7168x2048 : Shape := ⟨2, ![7168, 2048]⟩
abbrev S23040x14336 : Shape := ⟨2, ![23040, 14336]⟩
abbrev S23040x7168 : Shape := ⟨2, ![23040, 7168]⟩

abbrev nBuf : Space → Nat
  | .hbm => 217
  | .vmem => 0
  | .smem => 0
  | _ => 0

abbrev hbmTy0_0 (i : Nat) : BufTy := match i % 128 with
  | 0 => ⟨S30, .i32⟩
  | 1 => ⟨S30, .i32⟩
  | 2 => ⟨S23040x2048, .f32⟩
  | 3 => ⟨S8x2048x14336, .f32⟩
  | 4 => ⟨S8x7168x2048, .f32⟩
  | 5 => ⟨S23040, .i32⟩
  | 6 => ⟨S_, .i32⟩
  | 7 => ⟨S_, .i32⟩
  | 8 => ⟨S23040, .i32⟩
  | 9 => ⟨S23040, .i32⟩
  | 10 => ⟨S23040, .i32⟩
  | 11 => ⟨S_, .i32⟩
  | 12 => ⟨S23040, .i32⟩
  | 13 => ⟨S23040, .i1⟩
  | 14 => ⟨S23040, .i32⟩
  | 15 => ⟨S23040, .i32⟩
  | 16 => ⟨S_, .i32⟩
  | 17 => ⟨S23040, .i32⟩
  | 18 => ⟨S23040, .i1⟩
  | 19 => ⟨S23040, .i1⟩
  | 20 => ⟨S_, .i32⟩
  | 21 => ⟨S23040, .i32⟩
  | 22 => ⟨S23040, .i32⟩
  | 23 => ⟨S23040, .i32⟩
  | 24 => ⟨S_, .i32⟩
  | 25 => ⟨S23040, .i32⟩
  | 26 => ⟨S23040, .i1⟩
  | 27 => ⟨S_, .i32⟩
  | 28 => ⟨S23040, .i32⟩
  | 29 => ⟨S23040, .i32⟩
  | 30 => ⟨S23040, .i32⟩
  | 31 => ⟨S23040x1, .i32⟩
  | 32 => ⟨S23040, .i32⟩
  | 33 => ⟨S23040x1, .i32⟩
  | 34 => ⟨S1x8, .i32⟩
  | 35 => ⟨S23040x8, .i32⟩
  | 36 => ⟨S23040x8, .i32⟩
  | 37 => ⟨S23040x8, .i1⟩
  | 38 => ⟨S23040x8, .f32⟩
  | 39 => ⟨S_, .f32⟩
  | 40 => ⟨S23040x2048, .f32⟩
  | 41 => ⟨S1x2048x14336, .f32⟩
  | 42 => ⟨S2048x14336, .f32⟩
  | 43 => ⟨S1x7168x2048, .f32⟩
  | 44 => ⟨S7168x2048, .f32⟩
  | 45 => ⟨S23040x14336, .f32⟩
  | 46 => ⟨S23040x7168, .f32⟩
  | 47 => ⟨S23040x7168, .f32⟩
  | 48 => ⟨S23040x7168, .f32⟩
  | 49 => ⟨S23040x7168, .f32⟩
  | 50 => ⟨S_, .f32⟩
  | 51 => ⟨S23040x7168, .f32⟩
  | 52 => ⟨S23040x7168, .f32⟩
  | 53 => ⟨S_, .f32⟩
  | 54 => ⟨S23040x7168, .f32⟩
  | 55 => ⟨S23040x7168, .f32⟩
  | 56 => ⟨S23040x7168, .f32⟩
  | 57 => ⟨S23040x7168, .f32⟩
  | 58 => ⟨S23040x2048, .f32⟩
  | 59 => ⟨S23040x1, .f32⟩
  | 60 => ⟨S23040x2048, .f32⟩
  | 61 => ⟨S23040x2048, .f32⟩
  | 62 => ⟨S23040x2048, .f32⟩
  | 63 => ⟨S1x2048x14336, .f32⟩
  | 64 => ⟨S2048x14336, .f32⟩
  | 65 => ⟨S1x7168x2048, .f32⟩
  | 66 => ⟨S7168x2048, .f32⟩
  | 67 => ⟨S23040x14336, .f32⟩
  | 68 => ⟨S23040x7168, .f32⟩
  | 69 => ⟨S23040x7168, .f32⟩
  | 70 => ⟨S23040x7168, .f32⟩
  | 71 => ⟨S23040x7168, .f32⟩
  | 72 => ⟨S_, .f32⟩
  | 73 => ⟨S23040x7168, .f32⟩
  | 74 => ⟨S23040x7168, .f32⟩
  | 75 => ⟨S_, .f32⟩
  | 76 => ⟨S23040x7168, .f32⟩
  | 77 => ⟨S23040x7168, .f32⟩
  | 78 => ⟨S23040x7168, .f32⟩
  | 79 => ⟨S23040x7168, .f32⟩
  | 80 => ⟨S23040x2048, .f32⟩
  | 81 => ⟨S23040x1, .f32⟩
  | 82 => ⟨S23040x2048, .f32⟩
  | 83 => ⟨S23040x2048, .f32⟩
  | 84 => ⟨S23040x2048, .f32⟩
  | 85 => ⟨S1x2048x14336, .f32⟩
  | 86 => ⟨S2048x14336, .f32⟩
  | 87 => ⟨S1x7168x2048, .f32⟩
  | 88 => ⟨S7168x2048, .f32⟩
  | 89 => ⟨S23040x14336, .f32⟩
  | 90 => ⟨S23040x7168, .f32⟩
  | 91 => ⟨S23040x7168, .f32⟩
  | 92 => ⟨S23040x7168, .f32⟩
  | 93 => ⟨S23040x7168, .f32⟩
  | 94 => ⟨S_, .f32⟩
  | 95 => ⟨S23040x7168, .f32⟩
  | 96 => ⟨S23040x7168, .f32⟩
  | 97 => ⟨S_, .f32⟩
  | 98 => ⟨S23040x7168, .f32⟩
  | 99 => ⟨S23040x7168, .f32⟩
  | 100 => ⟨S23040x7168, .f32⟩
  | 101 => ⟨S23040x7168, .f32⟩
  | 102 => ⟨S23040x2048, .f32⟩
  | 103 => ⟨S23040x1, .f32⟩
  | 104 => ⟨S23040x2048, .f32⟩
  | 105 => ⟨S23040x2048, .f32⟩
  | 106 => ⟨S23040x2048, .f32⟩
  | 107 => ⟨S1x2048x14336, .f32⟩
  | 108 => ⟨S2048x14336, .f32⟩
  | 109 => ⟨S1x7168x2048, .f32⟩
  | 110 => ⟨S7168x2048, .f32⟩
  | 111 => ⟨S23040x14336, .f32⟩
  | 112 => ⟨S23040x7168, .f32⟩
  | 113 => ⟨S23040x7168, .f32⟩
  | 114 => ⟨S23040x7168, .f32⟩
  | 115 => ⟨S23040x7168, .f32⟩
  | 116 => ⟨S_, .f32⟩
  | 117 => ⟨S23040x7168, .f32⟩
  | 118 => ⟨S23040x7168, .f32⟩
  | 119 => ⟨S_, .f32⟩
  | 120 => ⟨S23040x7168, .f32⟩
  | 121 => ⟨S23040x7168, .f32⟩
  | 122 => ⟨S23040x7168, .f32⟩
  | 123 => ⟨S23040x7168, .f32⟩
  | 124 => ⟨S23040x2048, .f32⟩
  | 125 => ⟨S23040x1, .f32⟩
  | 126 => ⟨S23040x2048, .f32⟩
  | 127 => ⟨S23040x2048, .f32⟩
  | _ => ⟨S30, .i32⟩

abbrev hbmTy0_1 (i : Nat) : BufTy := match i % 128 with
  | 0 => ⟨S23040x2048, .f32⟩
  | 1 => ⟨S1x2048x14336, .f32⟩
  | 2 => ⟨S2048x14336, .f32⟩
  | 3 => ⟨S1x7168x2048, .f32⟩
  | 4 => ⟨S7168x2048, .f32⟩
  | 5 => ⟨S23040x14336, .f32⟩
  | 6 => ⟨S23040x7168, .f32⟩
  | 7 => ⟨S23040x7168, .f32⟩
  | 8 => ⟨S23040x7168, .f32⟩
  | 9 => ⟨S23040x7168, .f32⟩
  | 10 => ⟨S_, .f32⟩
  | 11 => ⟨S23040x7168, .f32⟩
  | 12 => ⟨S23040x7168, .f32⟩
  | 13 => ⟨S_, .f32⟩
  | 14 => ⟨S23040x7168, .f32⟩
  | 15 => ⟨S23040x7168, .f32⟩
  | 16 => ⟨S23040x7168, .f32⟩
  | 17 => ⟨S23040x7168, .f32⟩
  | 18 => ⟨S23040x2048, .f32⟩
  | 19 => ⟨S23040x1, .f32⟩
  | 20 => ⟨S23040x2048, .f32⟩
  | 21 => ⟨S23040x2048, .f32⟩
  | 22 => ⟨S23040x2048, .f32⟩
  | 23 => ⟨S1x2048x14336, .f32⟩
  | 24 => ⟨S2048x14336, .f32⟩
  | 25 => ⟨S1x7168x2048, .f32⟩
  | 26 => ⟨S7168x2048, .f32⟩
  | 27 => ⟨S23040x14336, .f32⟩
  | 28 => ⟨S23040x7168, .f32⟩
  | 29 => ⟨S23040x7168, .f32⟩
  | 30 => ⟨S23040x7168, .f32⟩
  | 31 => ⟨S23040x7168, .f32⟩
  | 32 => ⟨S_, .f32⟩
  | 33 => ⟨S23040x7168, .f32⟩
  | 34 => ⟨S23040x7168, .f32⟩
  | 35 => ⟨S_, .f32⟩
  | 36 => ⟨S23040x7168, .f32⟩
  | 37 => ⟨S23040x7168, .f32⟩
  | 38 => ⟨S23040x7168, .f32⟩
  | 39 => ⟨S23040x7168, .f32⟩
  | 40 => ⟨S23040x2048, .f32⟩
  | 41 => ⟨S23040x1, .f32⟩
  | 42 => ⟨S23040x2048, .f32⟩
  | 43 => ⟨S23040x2048, .f32⟩
  | 44 => ⟨S23040x2048, .f32⟩
  | 45 => ⟨S1x2048x14336, .f32⟩
  | 46 => ⟨S2048x14336, .f32⟩
  | 47 => ⟨S1x7168x2048, .f32⟩
  | 48 => ⟨S7168x2048, .f32⟩
  | 49 => ⟨S23040x14336, .f32⟩
  | 50 => ⟨S23040x7168, .f32⟩
  | 51 => ⟨S23040x7168, .f32⟩
  | 52 => ⟨S23040x7168, .f32⟩
  | 53 => ⟨S23040x7168, .f32⟩
  | 54 => ⟨S_, .f32⟩
  | 55 => ⟨S23040x7168, .f32⟩
  | 56 => ⟨S23040x7168, .f32⟩
  | 57 => ⟨S_, .f32⟩
  | 58 => ⟨S23040x7168, .f32⟩
  | 59 => ⟨S23040x7168, .f32⟩
  | 60 => ⟨S23040x7168, .f32⟩
  | 61 => ⟨S23040x7168, .f32⟩
  | 62 => ⟨S23040x2048, .f32⟩
  | 63 => ⟨S23040x1, .f32⟩
  | 64 => ⟨S23040x2048, .f32⟩
  | 65 => ⟨S23040x2048, .f32⟩
  | 66 => ⟨S23040x2048, .f32⟩
  | 67 => ⟨S1x2048x14336, .f32⟩
  | 68 => ⟨S2048x14336, .f32⟩
  | 69 => ⟨S1x7168x2048, .f32⟩
  | 70 => ⟨S7168x2048, .f32⟩
  | 71 => ⟨S23040x14336, .f32⟩
  | 72 => ⟨S23040x7168, .f32⟩
  | 73 => ⟨S23040x7168, .f32⟩
  | 74 => ⟨S23040x7168, .f32⟩
  | 75 => ⟨S23040x7168, .f32⟩
  | 76 => ⟨S_, .f32⟩
  | 77 => ⟨S23040x7168, .f32⟩
  | 78 => ⟨S23040x7168, .f32⟩
  | 79 => ⟨S_, .f32⟩
  | 80 => ⟨S23040x7168, .f32⟩
  | 81 => ⟨S23040x7168, .f32⟩
  | 82 => ⟨S23040x7168, .f32⟩
  | 83 => ⟨S23040x7168, .f32⟩
  | 84 => ⟨S23040x2048, .f32⟩
  | 85 => ⟨S23040x1, .f32⟩
  | 86 => ⟨S23040x2048, .f32⟩
  | 87 => ⟨S23040x2048, .f32⟩
  | 88 => ⟨S23040x2048, .f32⟩
  | _ => ⟨S30, .i32⟩

abbrev hbmTy (i : Nat) : BufTy := match i / 128 with
  | 0 => hbmTy0_0 i
  | 1 => hbmTy0_1 i
  | _ => ⟨S30, .i32⟩

abbrev bufTy : (tb : Table) → Fin (tcTables nBuf tb) → BufTy
  | .hbm, ⟨i, _⟩ => hbmTy i
  | _, _ => ⟨S30, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_c_1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v9 : Ref sig .tc := ⟨.hbm, 38, rfl⟩
abbrev main_cst : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call3_v0 : Ref sig .tc := ⟨.hbm, 70, rfl⟩
abbrev main_call3_v1 : Ref sig .tc := ⟨.hbm, 71, rfl⟩
abbrev main_call3_cst : Ref sig .tc := ⟨.hbm, 72, rfl⟩
abbrev main_call3_v2 : Ref sig .tc := ⟨.hbm, 73, rfl⟩
abbrev main_call3_v3 : Ref sig .tc := ⟨.hbm, 74, rfl⟩
abbrev main_call3_cst_0 : Ref sig .tc := ⟨.hbm, 75, rfl⟩
abbrev main_call3_v4 : Ref sig .tc := ⟨.hbm, 76, rfl⟩
abbrev main_call3_v5 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_call4_v0 : Ref sig .tc := ⟨.hbm, 92, rfl⟩
abbrev main_call4_v1 : Ref sig .tc := ⟨.hbm, 93, rfl⟩
abbrev main_call4_cst : Ref sig .tc := ⟨.hbm, 94, rfl⟩
abbrev main_call4_v2 : Ref sig .tc := ⟨.hbm, 95, rfl⟩
abbrev main_call4_v3 : Ref sig .tc := ⟨.hbm, 96, rfl⟩
abbrev main_call4_cst_0 : Ref sig .tc := ⟨.hbm, 97, rfl⟩
abbrev main_call4_v4 : Ref sig .tc := ⟨.hbm, 98, rfl⟩
abbrev main_call4_v5 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_call5_v0 : Ref sig .tc := ⟨.hbm, 114, rfl⟩
abbrev main_call5_v1 : Ref sig .tc := ⟨.hbm, 115, rfl⟩
abbrev main_call5_cst : Ref sig .tc := ⟨.hbm, 116, rfl⟩
abbrev main_call5_v2 : Ref sig .tc := ⟨.hbm, 117, rfl⟩
abbrev main_call5_v3 : Ref sig .tc := ⟨.hbm, 118, rfl⟩
abbrev main_call5_cst_0 : Ref sig .tc := ⟨.hbm, 119, rfl⟩
abbrev main_call5_v4 : Ref sig .tc := ⟨.hbm, 120, rfl⟩
abbrev main_call5_v5 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_call6_v0 : Ref sig .tc := ⟨.hbm, 136, rfl⟩
abbrev main_call6_v1 : Ref sig .tc := ⟨.hbm, 137, rfl⟩
abbrev main_call6_cst : Ref sig .tc := ⟨.hbm, 138, rfl⟩
abbrev main_call6_v2 : Ref sig .tc := ⟨.hbm, 139, rfl⟩
abbrev main_call6_v3 : Ref sig .tc := ⟨.hbm, 140, rfl⟩
abbrev main_call6_cst_0 : Ref sig .tc := ⟨.hbm, 141, rfl⟩
abbrev main_call6_v4 : Ref sig .tc := ⟨.hbm, 142, rfl⟩
abbrev main_call6_v5 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_call7_v0 : Ref sig .tc := ⟨.hbm, 158, rfl⟩
abbrev main_call7_v1 : Ref sig .tc := ⟨.hbm, 159, rfl⟩
abbrev main_call7_cst : Ref sig .tc := ⟨.hbm, 160, rfl⟩
abbrev main_call7_v2 : Ref sig .tc := ⟨.hbm, 161, rfl⟩
abbrev main_call7_v3 : Ref sig .tc := ⟨.hbm, 162, rfl⟩
abbrev main_call7_cst_0 : Ref sig .tc := ⟨.hbm, 163, rfl⟩
abbrev main_call7_v4 : Ref sig .tc := ⟨.hbm, 164, rfl⟩
abbrev main_call7_v5 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_call8_v0 : Ref sig .tc := ⟨.hbm, 180, rfl⟩
abbrev main_call8_v1 : Ref sig .tc := ⟨.hbm, 181, rfl⟩
abbrev main_call8_cst : Ref sig .tc := ⟨.hbm, 182, rfl⟩
abbrev main_call8_v2 : Ref sig .tc := ⟨.hbm, 183, rfl⟩
abbrev main_call8_v3 : Ref sig .tc := ⟨.hbm, 184, rfl⟩
abbrev main_call8_cst_0 : Ref sig .tc := ⟨.hbm, 185, rfl⟩
abbrev main_call8_v4 : Ref sig .tc := ⟨.hbm, 186, rfl⟩
abbrev main_call8_v5 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_call9_v0 : Ref sig .tc := ⟨.hbm, 202, rfl⟩
abbrev main_call9_v1 : Ref sig .tc := ⟨.hbm, 203, rfl⟩
abbrev main_call9_cst : Ref sig .tc := ⟨.hbm, 204, rfl⟩
abbrev main_call9_v2 : Ref sig .tc := ⟨.hbm, 205, rfl⟩
abbrev main_call9_v3 : Ref sig .tc := ⟨.hbm, 206, rfl⟩
abbrev main_call9_cst_0 : Ref sig .tc := ⟨.hbm, 207, rfl⟩
abbrev main_call9_v4 : Ref sig .tc := ⟨.hbm, 208, rfl⟩
abbrev main_call9_v5 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩

abbrev nD : Nat := 1
abbrev τ : Topo := Topo.v7x

variable {F : FTy → Type} [FloatOps F]
-- ==== FfnKernel.lean ====
abbrev S8192x2048 : Shape := ⟨2, ![8192, 2048]⟩
abbrev S2048x11264 : Shape := ⟨2, ![2048, 11264]⟩
abbrev S5632x2048 : Shape := ⟨2, ![5632, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S5632x2048, .f32⟩
  | .hbm, ⟨3, _⟩ => ⟨S8192x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S5632x2048, .f32⟩
  | .hbm, ⟨3, _⟩ => ⟨S8192x2048, .f32⟩
  | .hbm, ⟨4, _⟩ => ⟨S8192x2048, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== EvenKernel.lean ====
abbrev S1x8192x2048 : Shape := ⟨3, ![1, 8192, 2048]⟩
abbrev S128x1x2048 : Shape := ⟨3, ![128, 1, 2048]⟩
abbrev S1x128x15x1024 : Shape := ⟨4, ![1, 128, 15, 1024]⟩
abbrev S1x128x128x4x64 : Shape := ⟨5, ![1, 128, 128, 4, 64]⟩
abbrev S2x3x2048 : Shape := ⟨3, ![2, 3, 2048]⟩
abbrev S1x2048x2560 : Shape := ⟨3, ![1, 2048, 2560]⟩
abbrev S8192x2048 : Shape := ⟨2, ![8192, 2048]⟩
abbrev S128x2048 : Shape := ⟨2, ![128, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x2560 : Shape := ⟨2, ![2048, 2560]⟩
abbrev S8192x2560 : Shape := ⟨2, ![8192, 2560]⟩
abbrev S1024x2048 : Shape := ⟨2, ![1024, 2048]⟩
abbrev S2048x512 : Shape := ⟨2, ![2048, 512]⟩
abbrev S1024x512 : Shape := ⟨2, ![1024, 512]⟩
abbrev S128 : Shape := ⟨1, ![128]⟩
abbrev S128x1 : Shape := ⟨2, ![128, 1]⟩
abbrev S128x2560 : Shape := ⟨2, ![128, 2560]⟩
abbrev S128x512 : Shape := ⟨2, ![128, 512]⟩
abbrev S128x128x4x64 : Shape := ⟨4, ![128, 128, 4, 64]⟩
abbrev S128x128x256 : Shape := ⟨3, ![128, 128, 256]⟩
abbrev S128x127x256 : Shape := ⟨3, ![128, 127, 256]⟩
abbrev S128x256 : Shape := ⟨2, ![128, 256]⟩
abbrev S128x1x256 : Shape := ⟨3, ![128, 1, 256]⟩
abbrev S15x1024 : Shape := ⟨2, ![15, 1024]⟩
abbrev S1x1x15x1024 : Shape := ⟨4, ![1, 1, 15, 1024]⟩
abbrev S128x15x1024 : Shape := ⟨3, ![128, 15, 1024]⟩
abbrev S128x14x1024 : Shape := ⟨3, ![128, 14, 1024]⟩
abbrev S128x1024 : Shape := ⟨2, ![128, 1024]⟩
abbrev S128x1x1024 : Shape := ⟨3, ![128, 1, 1024]⟩
abbrev S1x1x128x4x64 : Shape := ⟨5, ![1, 1, 128, 4, 64]⟩

abbrev nBuf : Space → Nat
  | .hbm => 45
  | .vmem => 19
  | .smem => 0
  | _ => 0

abbrev bufTy : (tb : Table) → Fin (tcTables nBuf tb) → BufTy
  | .hbm, ⟨0, _⟩ => ⟨S1x8192x2048, .f32⟩
  | .hbm, ⟨1, _⟩ => ⟨S128x1x2048, .f32⟩
  | .hbm, ⟨2, _⟩ => ⟨S1x128x15x1024, .f32⟩
  | .hbm, ⟨3, _⟩ => ⟨S1x128x128x4x64, .f32⟩
  | .hbm, ⟨4, _⟩ => ⟨S1x128x128x4x64, .f32⟩
  | .hbm, ⟨5, _⟩ => ⟨S2x3x2048, .f32⟩
  | .hbm, ⟨6, _⟩ => ⟨S1x2048x2560, .f32⟩
  | .hbm, ⟨7, _⟩ => ⟨S8192x2048, .f32⟩
  | .hbm, ⟨8, _⟩ => ⟨S128x2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S8192x2048, .bf16⟩
  | .hbm, ⟨13, _⟩ => ⟨S2048x2560, .f32⟩
  | .hbm, ⟨14, _⟩ => ⟨S8192x2560, .f32⟩
  | .hbm, ⟨15, _⟩ => ⟨S1x2048, .f32⟩
  | .hbm, ⟨16, _⟩ => ⟨S128x2048, .bf16⟩
  | .hbm, ⟨17, _⟩ => ⟨S2048x2560, .f32⟩
  | .hbm, ⟨18, _⟩ => ⟨S128x2560, .f32⟩
  | .hbm, ⟨19, _⟩ => ⟨S128x128x4x64, .f32⟩
  | .hbm, ⟨20, _⟩ => ⟨S128x128x256, .f32⟩
  | .hbm, ⟨21, _⟩ => ⟨S128x128x4x64, .f32⟩
  | .hbm, ⟨22, _⟩ => ⟨S128x128x256, .f32⟩
  | .hbm, ⟨23, _⟩ => ⟨S128x127x256, .f32⟩
  | .hbm, ⟨24, _⟩ => ⟨S128x256, .f32⟩
  | .hbm, ⟨25, _⟩ => ⟨S128x1x256, .f32⟩
  | .hbm, ⟨26, _⟩ => ⟨S128x128x256, .f32⟩
  | .hbm, ⟨27, _⟩ => ⟨S128x127x256, .f32⟩
  | .hbm, ⟨28, _⟩ => ⟨S128x256, .f32⟩
  | .hbm, ⟨29, _⟩ => ⟨S128x1x256, .f32⟩
  | .hbm, ⟨30, _⟩ => ⟨S128x128x256, .f32⟩
  | .hbm, ⟨31, _⟩ => ⟨S15x1024, .f32⟩
  | .hbm, ⟨32, _⟩ => ⟨S1x1x15x1024, .f32⟩
  | .hbm, ⟨33, _⟩ => ⟨S128x15x1024, .f32⟩
  | .hbm, ⟨34, _⟩ => ⟨S128x14x1024, .f32⟩
  | .hbm, ⟨35, _⟩ => ⟨S128x1024, .f32⟩
  | .hbm, ⟨36, _⟩ => ⟨S128x1x1024, .f32⟩
  | .hbm, ⟨37, _⟩ => ⟨S128x15x1024, .f32⟩
  | .hbm, ⟨38, _⟩ => ⟨S1x128x15x1024, .f32⟩
  | .hbm, ⟨39, _⟩ => ⟨S128x256, .f32⟩
  | .hbm, ⟨40, _⟩ => ⟨S1x1x128x4x64, .f32⟩
  | .hbm, ⟨41, _⟩ => ⟨S128x256, .f32⟩
  | .hbm, ⟨42, _⟩ => ⟨S1x1x128x4x64, .f32⟩
  | .hbm, ⟨43, _⟩ => ⟨S1x128x128x4x64, .f32⟩
  | .hbm, ⟨44, _⟩ => ⟨S1x128x128x4x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x512, .f32⟩
  | .local _ .vmem, ⟨8, _⟩ => ⟨S2048x512, .f32⟩
  | .local _ .vmem, ⟨9, _⟩ => ⟨S1024x512, .f32⟩
  | .local _ .vmem, ⟨10, _⟩ => ⟨S1024x512, .f32⟩
  | .local _ .vmem, ⟨11, _⟩ => ⟨S128x2048, .f32⟩
  | .local _ .vmem, ⟨12, _⟩ => ⟨S1x2048, .f32⟩
  | .local _ .vmem, ⟨13, _⟩ => ⟨S128x2048, .bf16⟩
  | .local _ .vmem, ⟨14, _⟩ => ⟨S128x2048, .bf16⟩
  | .local _ .vmem, ⟨15, _⟩ => ⟨S2048x512, .f32⟩
  | .local _ .vmem, ⟨16, _⟩ => ⟨S2048x512, .f32⟩
  | .local _ .vmem, ⟨17, _⟩ => ⟨S128x512, .f32⟩
  | .local _ .vmem, ⟨18, _⟩ => ⟨S128x512, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13
abbrev cc3_sem0_0 : DmaSem sig := 14
abbrev cc3_sem1_0 : DmaSem sig := 15
abbrev cc3_sem1_1 : DmaSem sig := 16
abbrev cc3_sem2_0 : DmaSem sig := 17
abbrev cc3_sem2_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨2, ![1, 5], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S128x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S128x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== EvenReferenceIdeal.lean ====
abbrev S1x8192x2048 : Shape := ⟨3, ![1, 8192, 2048]⟩
abbrev S128x1x2048 : Shape := ⟨3, ![128, 1, 2048]⟩
abbrev S1x128x15x1024 : Shape := ⟨4, ![1, 128, 15, 1024]⟩
abbrev S1x128x128x4x64 : Shape := ⟨5, ![1, 128, 128, 4, 64]⟩
abbrev S2x3x2048 : Shape := ⟨3, ![2, 3, 2048]⟩
abbrev S1x2048x2560 : Shape := ⟨3, ![1, 2048, 2560]⟩
abbrev S1x1x2048 : Shape := ⟨3, ![1, 1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S2048x2560 : Shape := ⟨2, ![2048, 2560]⟩
abbrev S1x8192x2560 : Shape := ⟨3, ![1, 8192, 2560]⟩
abbrev S1x8192x1024 : Shape := ⟨3, ![1, 8192, 1024]⟩
abbrev S1x8192x16x64 : Shape := ⟨4, ![1, 8192, 16, 64]⟩
abbrev S1x8192x256 : Shape := ⟨3, ![1, 8192, 256]⟩
abbrev S1x8192x4x64 : Shape := ⟨4, ![1, 8192, 4, 64]⟩
abbrev S1x15x1024 : Shape := ⟨3, ![1, 15, 1024]⟩
abbrev S1x128x4x64 : Shape := ⟨4, ![1, 128, 4, 64]⟩
abbrev S128x1 : Shape := ⟨2, ![128, 1]⟩
abbrev S128x1x1 : Shape := ⟨3, ![128, 1, 1]⟩
abbrev S128x1x2560 : Shape := ⟨3, ![128, 1, 2560]⟩
abbrev S128x1x1024 : Shape := ⟨3, ![128, 1, 1024]⟩
abbrev S128x1x16x64 : Shape := ⟨4, ![128, 1, 16, 64]⟩
abbrev S128x1x256 : Shape := ⟨3, ![128, 1, 256]⟩
abbrev S128x1x4x64 : Shape := ⟨4, ![128, 1, 4, 64]⟩
abbrev S128x15x1024 : Shape := ⟨3, ![128, 15, 1024]⟩
abbrev S128x16x1024 : Shape := ⟨3, ![128, 16, 1024]⟩
abbrev S128x128x4x64 : Shape := ⟨4, ![128, 128, 4, 64]⟩
abbrev S128x129x4x64 : Shape := ⟨4, ![128, 129, 4, 64]⟩
abbrev S1x1x15x1024 : Shape := ⟨4, ![1, 1, 15, 1024]⟩
abbrev S1x1x128x4x64 : Shape := ⟨5, ![1, 1, 128, 4, 64]⟩

abbrev nBuf : Space → Nat
  | .hbm => 77
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S128x1x2048, .f32⟩
  | .hbm, ⟨2, _⟩ => ⟨S1x128x15x1024, .f32⟩
  | .hbm, ⟨3, _⟩ => ⟨S1x128x128x4x64, .f32⟩
  | .hbm, ⟨4, _⟩ => ⟨S1x128x128x4x64, .f32⟩
  | .hbm, ⟨5, _⟩ => ⟨S2x3x2048, .f32⟩
  | .hbm, ⟨6, _⟩ => ⟨S1x2048x2560, .f32⟩
  | .hbm, ⟨7, _⟩ => ⟨S1x1x2048, .f32⟩
  | .hbm, ⟨8, _⟩ => ⟨S2048, .f32⟩
  | .hbm, ⟨9, _⟩ => ⟨S1x8192x2048, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x2048, .f32⟩
  | .hbm, ⟨21, _⟩ => ⟨S1x8192x2048, .f32⟩
  | .hbm, ⟨22, _⟩ => ⟨S1x1x2048, .f32⟩
  | .hbm, ⟨23, _⟩ => ⟨S1x8192x2048, .f32⟩
  | .hbm, ⟨24, _⟩ => ⟨S1x8192x2048, .f32⟩
  | .hbm, ⟨25, _⟩ => ⟨S2048x2560, .f32⟩
  | .hbm, ⟨26, _⟩ => ⟨S1x8192x2560, .f32⟩
  | .hbm, ⟨27, _⟩ => ⟨S1x8192x1024, .f32⟩
  | .hbm, ⟨28, _⟩ => ⟨S1x8192x16x64, .f32⟩
  | .hbm, ⟨29, _⟩ => ⟨S1x8192x256, .f32⟩
  | .hbm, ⟨30, _⟩ => ⟨S1x8192x4x64, .f32⟩
  | .hbm, ⟨31, _⟩ => ⟨S1x8192x256, .f32⟩
  | .hbm, ⟨32, _⟩ => ⟨S1x8192x4x64, .f32⟩
  | .hbm, ⟨33, _⟩ => ⟨S1x8192x1024, .f32⟩
  | .hbm, ⟨34, _⟩ => ⟨S1x15x1024, .f32⟩
  | .hbm, ⟨35, _⟩ => ⟨S1x128x4x64, .f32⟩
  | .hbm, ⟨36, _⟩ => ⟨S1x128x4x64, .f32⟩
  | .hbm, ⟨37, _⟩ => ⟨S128x1x2048, .f32⟩
  | .hbm, ⟨38, _⟩ => ⟨S_, .f32⟩
  | .hbm, ⟨39, _⟩ => ⟨S128x1, .f32⟩
  | .hbm, ⟨40, _⟩ => ⟨S128x1x1, .f32⟩
  | .hbm, ⟨41, _⟩ => ⟨S_, .f32⟩
  | .hbm, ⟨42, _⟩ => ⟨S128x1x1, .f32⟩
  | .hbm, ⟨43, _⟩ => ⟨S128x1x1, .f32⟩
  | .hbm, ⟨44, _⟩ => ⟨S_, .f32⟩
  | .hbm, ⟨45, _⟩ => ⟨S128x1x1, .f32⟩
  | .hbm, ⟨46, _⟩ => ⟨S128x1x1, .f32⟩
  | .hbm, ⟨47, _⟩ => ⟨S128x1x1, .f32⟩
  | .hbm, ⟨48, _⟩ => ⟨S128x1x2048, .f32⟩
  | .hbm, ⟨49, _⟩ => ⟨S128x1x2048, .f32⟩
  | .hbm, ⟨50, _⟩ => ⟨S1x1x2048, .f32⟩
  | .hbm, ⟨51, _⟩ => ⟨S128x1x2048, .f32⟩
  | .hbm, ⟨52, _⟩ => ⟨S128x1x2048, .f32⟩
  | .hbm, ⟨53, _⟩ => ⟨S2048x2560, .f32⟩
  | .hbm, ⟨54, _⟩ => ⟨S128x1x2560, .f32⟩
  | .hbm, ⟨55, _⟩ => ⟨S128x1x1024, .f32⟩
  | .hbm, ⟨56, _⟩ => ⟨S128x1x16x64, .f32⟩
  | .hbm, ⟨57, _⟩ => ⟨S128x1x256, .f32⟩
  | .hbm, ⟨58, _⟩ => ⟨S128x1x4x64, .f32⟩
  | .hbm, ⟨59, _⟩ => ⟨S128x1x256, .f32⟩
  | .hbm, ⟨60, _⟩ => ⟨S128x1x4x64, .f32⟩
  | .hbm, ⟨61, _⟩ => ⟨S128x1x1024, .f32⟩
  | .hbm, ⟨62, _⟩ => ⟨S128x15x1024, .f32⟩
  | .hbm, ⟨63, _⟩ => ⟨S128x16x1024, .f32⟩
  | .hbm, ⟨64, _⟩ => ⟨S128x15x1024, .f32⟩
  | .hbm, ⟨65, _⟩ => ⟨S128x128x4x64, .f32⟩
  | .hbm, ⟨66, _⟩ => ⟨S128x129x4x64, .f32⟩
  | .hbm, ⟨67, _⟩ => ⟨S128x128x4x64, .f32⟩
  | .hbm, ⟨68, _⟩ => ⟨S128x128x4x64, .f32⟩
  | .hbm, ⟨69, _⟩ => ⟨S128x129x4x64, .f32⟩
  | .hbm, ⟨70, _⟩ => ⟨S128x128x4x64, .f32⟩
  | .hbm, ⟨71, _⟩ => ⟨S1x1x15x1024, .f32⟩
  | .hbm, ⟨72, _⟩ => ⟨S1x128x15x1024, .f32⟩
  | .hbm, ⟨73, _⟩ => ⟨S1x1x128x4x64, .f32⟩
  | .hbm, ⟨74, _⟩ => ⟨S1x1x128x4x64, .f32⟩
  | .hbm, ⟨75, _⟩ => ⟨S1x128x128x4x64, .f32⟩
  | .hbm, ⟨76, _⟩ => ⟨S1x128x128x4x64, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== OddKernel.lean ====
abbrev S8192x2048 : Shape := ⟨2, ![8192, 2048]⟩
abbrev S128x2048 : Shape := ⟨2, ![128, 2048]⟩
abbrev S2x3x2048 : Shape := ⟨3, ![2, 3, 2048]⟩
abbrev S1x2048x4096 : Shape := ⟨3, ![1, 2048, 4096]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S128 : Shape := ⟨1, ![128]⟩
abbrev S128x1 : Shape := ⟨2, ![128, 1]⟩
abbrev S128x4096 : Shape := ⟨2, ![128, 4096]⟩
abbrev S128x512 : Shape := ⟨2, ![128, 512]⟩
abbrev S8192x1024 : Shape := ⟨2, ![8192, 1024]⟩
abbrev S1x8192x1x4x2x128 : Shape := ⟨6, ![1, 8192, 1, 4, 2, 128]⟩
abbrev S1x8192x1x4x256 : Shape := ⟨5, ![1, 8192, 1, 4, 256]⟩
abbrev S128x1024 : Shape := ⟨2, ![128, 1024]⟩
abbrev S128x1x1x4x2x128 : Shape := ⟨6, ![128, 1, 1, 4, 2, 128]⟩
abbrev S128x1x1x4x256 : Shape := ⟨5, ![128, 1, 1, 4, 256]⟩

abbrev nBuf : Space → Nat
  | .hbm => 22
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2x3x2048, .f32⟩
  | .hbm, ⟨3, _⟩ => ⟨S1x2048x4096, .f32⟩
  | .hbm, ⟨4, _⟩ => ⟨S1x1x2048, .f32⟩
  | .hbm, ⟨5, _⟩ => ⟨S2048, .f32⟩
  | .hbm, ⟨6, _⟩ => ⟨S1x2048, .f32⟩
  | .hbm, ⟨7, _⟩ => ⟨S8192x2048, .bf16⟩
  | .hbm, ⟨8, _⟩ => ⟨S2048x4096, .f32⟩
  | .hbm, ⟨9, _⟩ => ⟨S8192x4096, .f32⟩
  | .hbm, ⟨10, _⟩ => ⟨S1x2048, .f32⟩
  | .hbm, ⟨11, _⟩ => ⟨S128x2048, .bf16⟩
  | .hbm, ⟨12, _⟩ => ⟨S2048x4096, .f32⟩
  | .hbm, ⟨13, _⟩ => ⟨S128x4096, .f32⟩
  | .hbm, ⟨14, _⟩ => ⟨S8192x1024, .f32⟩
  | .hbm, ⟨15, _⟩ => ⟨S1x8192x1x4x2x128, .f32⟩
  | .hbm, ⟨16, _⟩ => ⟨S8192x1024, .f32⟩
  | .hbm, ⟨17, _⟩ => ⟨S1x8192x1x4x256, .f32⟩
  | .hbm, ⟨18, _⟩ => ⟨S128x1024, .f32⟩
  | .hbm, ⟨19, _⟩ => ⟨S128x1x1x4x2x128, .f32⟩
  | .hbm, ⟨20, _⟩ => ⟨S128x1024, .f32⟩
  | .hbm, ⟨21, _⟩ => ⟨S128x1x1x4x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x512, .f32⟩
  | .local _ .vmem, ⟨8, _⟩ => ⟨S2048x512, .f32⟩
  | .local _ .vmem, ⟨9, _⟩ => ⟨S1024x512, .f32⟩
  | .local _ .vmem, ⟨10, _⟩ => ⟨S1024x512, .f32⟩
  | .local _ .vmem, ⟨11, _⟩ => ⟨S128x2048, .f32⟩
  | .local _ .vmem, ⟨12, _⟩ => ⟨S1x2048, .f32⟩
  | .local _ .vmem, ⟨13, _⟩ => ⟨S128x2048, .bf16⟩
  | .local _ .vmem, ⟨14, _⟩ => ⟨S128x2048, .bf16⟩
  | .local _ .vmem, ⟨15, _⟩ => ⟨S2048x512, .f32⟩
  | .local _ .vmem, ⟨16, _⟩ => ⟨S2048x512, .f32⟩
  | .local _ .vmem, ⟨17, _⟩ => ⟨S128x512, .f32⟩
  | .local _ .vmem, ⟨18, _⟩ => ⟨S128x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13
abbrev cc3_sem0_0 : DmaSem sig := 14
abbrev cc3_sem1_0 : DmaSem sig := 15
abbrev cc3_sem1_1 : DmaSem sig := 16
abbrev cc3_sem2_0 : DmaSem sig := 17
abbrev cc3_sem2_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S128x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S128x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== OddReferenceIdeal.lean ====
abbrev S8192x2048 : Shape := ⟨2, ![8192, 2048]⟩
abbrev S128x2048 : Shape := ⟨2, ![128, 2048]⟩
abbrev S2x3x2048 : Shape := ⟨3, ![2, 3, 2048]⟩
abbrev S1x2048x4096 : Shape := ⟨3, ![1, 2048, 4096]⟩
abbrev S1x1x2048 : Shape := ⟨3, ![1, 1, 2048]⟩
abbrev S2048 : Shape := ⟨1, ![2048]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S2048x4096 : Shape := ⟨2, ![2048, 4096]⟩
abbrev S1x8192x4096 : Shape := ⟨3, ![1, 8192, 4096]⟩
abbrev S1x8192x1024 : Shape := ⟨3, ![1, 8192, 1024]⟩
abbrev S1x8192x4x2x128 : Shape := ⟨5, ![1, 8192, 4, 2, 128]⟩
abbrev S1x8192x4x256 : Shape := ⟨4, ![1, 8192, 4, 256]⟩
abbrev S128x1x2048 : Shape := ⟨3, ![128, 1, 2048]⟩
abbrev S128x1 : Shape := ⟨2, ![128, 1]⟩
abbrev S128x1x1 : Shape := ⟨3, ![128, 1, 1]⟩
abbrev S128x1x4096 : Shape := ⟨3, ![128, 1, 4096]⟩
abbrev S128x1x1024 : Shape := ⟨3, ![128, 1, 1024]⟩
abbrev S128x1x4x2x128 : Shape := ⟨5, ![128, 1, 4, 2, 128]⟩
abbrev S128x1x4x256 : Shape := ⟨4, ![128, 1, 4, 256]⟩
abbrev S1x8192x1x4x2x128 : Shape := ⟨6, ![1, 8192, 1, 4, 2, 128]⟩
abbrev S1x8192x1x4x256 : Shape := ⟨5, ![1, 8192, 1, 4, 256]⟩
abbrev S128x1x1x4x2x128 : Shape := ⟨6, ![128, 1, 1, 4, 2, 128]⟩
abbrev S128x1x1x4x256 : Shape := ⟨5, ![128, 1, 1, 4, 256]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S128x2048, .f32⟩
  | .hbm, ⟨2, _⟩ => ⟨S2x3x2048, .f32⟩
  | .hbm, ⟨3, _⟩ => ⟨S1x2048x4096, .f32⟩
  | .hbm, ⟨4, _⟩ => ⟨S1x1x2048, .f32⟩
  | .hbm, ⟨5, _⟩ => ⟨S2048, .f32⟩
  | .hbm, ⟨6, _⟩ => ⟨S1x8192x2048, .f32⟩
  | .hbm, ⟨7, _⟩ => ⟨S1x8192x2048, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x2048, .f32⟩
  | .hbm, ⟨19, _⟩ => ⟨S1x8192x2048, .f32⟩
  | .hbm, ⟨20, _⟩ => ⟨S1x1x2048, .f32⟩
  | .hbm, ⟨21, _⟩ => ⟨S1x8192x2048, .f32⟩
  | .hbm, ⟨22, _⟩ => ⟨S1x8192x2048, .f32⟩
  | .hbm, ⟨23, _⟩ => ⟨S2048x4096, .f32⟩
  | .hbm, ⟨24, _⟩ => ⟨S1x8192x4096, .f32⟩
  | .hbm, ⟨25, _⟩ => ⟨S1x8192x1024, .f32⟩
  | .hbm, ⟨26, _⟩ => ⟨S1x8192x4x2x128, .f32⟩
  | .hbm, ⟨27, _⟩ => ⟨S1x8192x1024, .f32⟩
  | .hbm, ⟨28, _⟩ => ⟨S1x8192x4x256, .f32⟩
  | .hbm, ⟨29, _⟩ => ⟨S128x1x2048, .f32⟩
  | .hbm, ⟨30, _⟩ => ⟨S128x1x2048, .f32⟩
  | .hbm, ⟨31, _⟩ => ⟨S_, .f32⟩
  | .hbm, ⟨32, _⟩ => ⟨S128x1, .f32⟩
  | .hbm, ⟨33, _⟩ => ⟨S128x1x1, .f32⟩
  | .hbm, ⟨34, _⟩ => ⟨S_, .f32⟩
  | .hbm, ⟨35, _⟩ => ⟨S128x1x1, .f32⟩
  | .hbm, ⟨36, _⟩ => ⟨S128x1x1, .f32⟩
  | .hbm, ⟨37, _⟩ => ⟨S_, .f32⟩
  | .hbm, ⟨38, _⟩ => ⟨S128x1x1, .f32⟩
  | .hbm, ⟨39, _⟩ => ⟨S128x1x1, .f32⟩
  | .hbm, ⟨40, _⟩ => ⟨S128x1x1, .f32⟩
  | .hbm, ⟨41, _⟩ => ⟨S128x1x2048, .f32⟩
  | .hbm, ⟨42, _⟩ => ⟨S128x1x2048, .f32⟩
  | .hbm, ⟨43, _⟩ => ⟨S1x1x2048, .f32⟩
  | .hbm, ⟨44, _⟩ => ⟨S128x1x2048, .f32⟩
  | .hbm, ⟨45, _⟩ => ⟨S128x1x2048, .f32⟩
  | .hbm, ⟨46, _⟩ => ⟨S2048x4096, .f32⟩
  | .hbm, ⟨47, _⟩ => ⟨S128x1x4096, .f32⟩
  | .hbm, ⟨48, _⟩ => ⟨S128x1x1024, .f32⟩
  | .hbm, ⟨49, _⟩ => ⟨S128x1x4x2x128, .f32⟩
  | .hbm, ⟨50, _⟩ => ⟨S128x1x1024, .f32⟩
  | .hbm, ⟨51, _⟩ => ⟨S128x1x4x256, .f32⟩
  | .hbm, ⟨52, _⟩ => ⟨S1x8192x1x4x2x128, .f32⟩
  | .hbm, ⟨53, _⟩ => ⟨S1x8192x1x4x256, .f32⟩
  | .hbm, ⟨54, _⟩ => ⟨S128x1x1x4x2x128, .f32⟩
  | .hbm, ⟨55, _⟩ => ⟨S128x1x1x4x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== MemKernel.lean ====
abbrev S1x256x2048 : Shape := ⟨3, ![1, 256, 2048]⟩
abbrev S2x2048x512 : Shape := ⟨3, ![2, 2048, 512]⟩
abbrev S256x2048 : Shape := ⟨2, ![256, 2048]⟩
abbrev S1x2048x512 : Shape := ⟨3, ![1, 2048, 512]⟩
abbrev S2048x512 : Shape := ⟨2, ![2048, 512]⟩
abbrev S256x512 : Shape := ⟨2, ![256, 512]⟩
abbrev S1x256x4x128 : Shape := ⟨4, ![1, 256, 4, 128]⟩
abbrev S1x1x256x4x128 : Shape := ⟨5, ![1, 1, 256, 4, 128]⟩
abbrev S2x1x256x4x128 : Shape := ⟨5, ![2, 1, 256, 4, 128]⟩

abbrev nBuf : Space → Nat
  | .hbm => 26
  | .vmem => 12
  | .smem => 0
  | _ => 0

abbrev bufTy : (tb : Table) → Fin (tcTables nBuf tb) → BufTy
  | .hbm, ⟨0, _⟩ => ⟨S1x256x2048, .f32⟩
  | .hbm, ⟨1, _⟩ => ⟨S2x2048x512, .f32⟩
  | .hbm, ⟨2, _⟩ => ⟨S2x2048x512, .f32⟩
  | .hbm, ⟨3, _⟩ => ⟨S256x2048, .f32⟩
  | .hbm, ⟨4, _⟩ => ⟨S1x2048x512, .f32⟩
  | .hbm, ⟨5, _⟩ => ⟨S2048x512, .f32⟩
  | .hbm, ⟨6, _⟩ => ⟨S256x512, .f32⟩
  | .hbm, ⟨7, _⟩ => ⟨S1x2048x512, .f32⟩
  | .hbm, ⟨8, _⟩ => ⟨S2048x512, .f32⟩
  | .hbm, ⟨9, _⟩ => ⟨S256x512, .f32⟩
  | .hbm, ⟨10, _⟩ => ⟨S1x2048x512, .f32⟩
  | .hbm, ⟨11, _⟩ => ⟨S2048x512, .f32⟩
  | .hbm, ⟨12, _⟩ => ⟨S256x512, .f32⟩
  | .hbm, ⟨13, _⟩ => ⟨S1x2048x512, .f32⟩
  | .hbm, ⟨14, _⟩ => ⟨S2048x512, .f32⟩
  | .hbm, ⟨15, _⟩ => ⟨S256x512, .f32⟩
  | .hbm, ⟨16, _⟩ => ⟨S1x256x4x128, .f32⟩
  | .hbm, ⟨17, _⟩ => ⟨S1x256x4x128, .f32⟩
  | .hbm, ⟨18, _⟩ => ⟨S1x1x256x4x128, .f32⟩
  | .hbm, ⟨19, _⟩ => ⟨S1x1x256x4x128, .f32⟩
  | .hbm, ⟨20, _⟩ => ⟨S2x1x256x4x128, .f32⟩
  | .hbm, ⟨21, _⟩ => ⟨S1x256x4x128, .f32⟩
  | .hbm, ⟨22, _⟩ => ⟨S1x256x4x128, .f32⟩
  | .hbm, ⟨23, _⟩ => ⟨S1x1x256x4x128, .f32⟩
  | .hbm, ⟨24, _⟩ => ⟨S1x1x256x4x128, .f32⟩
  | .hbm, ⟨25, _⟩ => ⟨S2x1x256x4x128, .f32⟩
  | .local _ .vmem, ⟨0, _⟩ => ⟨S256x2048, .f32⟩
  | .local _ .vmem, ⟨1, _⟩ => ⟨S2048x512, .f32⟩
  | .local _ .vmem, ⟨2, _⟩ => ⟨S256x512, .f32⟩
  | .local _ .vmem, ⟨3, _⟩ => ⟨S256x2048, .f32⟩
  | .local _ .vmem, ⟨4, _⟩ => ⟨S2048x512, .f32⟩
  | .local _ .vmem, ⟨5, _⟩ => ⟨S256x512, .f32⟩
  | .local _ .vmem, ⟨6, _⟩ => ⟨S256x2048, .f32⟩
  | .local _ .vmem, ⟨7, _⟩ => ⟨S2048x512, .f32⟩
  | .local _ .vmem, ⟨8, _⟩ => ⟨S256x512, .f32⟩
  | .local _ .vmem, ⟨9, _⟩ => ⟨S256x2048, .f32⟩
  | .local _ .vmem, ⟨10, _⟩ => ⟨S2048x512, .f32⟩
  | .local _ .vmem, ⟨11, _⟩ => ⟨S256x512, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S256x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S256x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S2048x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S256x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S2048x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S256x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]
-- ==== MemReferenceIdeal.lean ====
abbrev S1x256x2048 : Shape := ⟨3, ![1, 256, 2048]⟩
abbrev S2x2048x512 : Shape := ⟨3, ![2, 2048, 512]⟩
abbrev S1x2048x512 : Shape := ⟨3, ![1, 2048, 512]⟩
abbrev S2048x512 : Shape := ⟨2, ![2048, 512]⟩
abbrev S1x256x512 : Shape := ⟨3, ![1, 256, 512]⟩
abbrev S1x256x4x128 : Shape := ⟨4, ![1, 256, 4, 128]⟩
abbrev S1x1x256x4x128 : Shape := ⟨5, ![1, 1, 256, 4, 128]⟩
abbrev S2x1x256x4x128 : Shape := ⟨5, ![2, 1, 256, 4, 128]⟩

abbrev nBuf : Space → Nat
  | .hbm => 25
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2x2048x512, .f32⟩
  | .hbm, ⟨2, _⟩ => ⟨S2x2048x512, .f32⟩
  | .hbm, ⟨3, _⟩ => ⟨S1x2048x512, .f32⟩
  | .hbm, ⟨4, _⟩ => ⟨S2048x512, .f32⟩
  | .hbm, ⟨5, _⟩ => ⟨S1x256x512, .f32⟩
  | .hbm, ⟨6, _⟩ => ⟨S1x256x4x128, .f32⟩
  | .hbm, ⟨7, _⟩ => ⟨S1x2048x512, .f32⟩
  | .hbm, ⟨8, _⟩ => ⟨S2048x512, .f32⟩
  | .hbm, ⟨9, _⟩ => ⟨S1x256x512, .f32⟩
  | .hbm, ⟨10, _⟩ => ⟨S1x256x4x128, .f32⟩
  | .hbm, ⟨11, _⟩ => ⟨S1x2048x512, .f32⟩
  | .hbm, ⟨12, _⟩ => ⟨S2048x512, .f32⟩
  | .hbm, ⟨13, _⟩ => ⟨S1x256x512, .f32⟩
  | .hbm, ⟨14, _⟩ => ⟨S1x256x4x128, .f32⟩
  | .hbm, ⟨15, _⟩ => ⟨S1x2048x512, .f32⟩
  | .hbm, ⟨16, _⟩ => ⟨S2048x512, .f32⟩
  | .hbm, ⟨17, _⟩ => ⟨S1x256x512, .f32⟩
  | .hbm, ⟨18, _⟩ => ⟨S1x256x4x128, .f32⟩
  | .hbm, ⟨19, _⟩ => ⟨S1x1x256x4x128, .f32⟩
  | .hbm, ⟨20, _⟩ => ⟨S1x1x256x4x128, .f32⟩
  | .hbm, ⟨21, _⟩ => ⟨S2x1x256x4x128, .f32⟩
  | .hbm, ⟨22, _⟩ => ⟨S1x1x256x4x128, .f32⟩
  | .hbm, ⟨23, _⟩ => ⟨S1x1x256x4x128, .f32⟩
  | .hbm, ⟨24, _⟩ => ⟨S2x1x256x4x128, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== CrossKernel.lean ====
abbrev S8192x2048 : Shape := ⟨2, ![8192, 2048]⟩
abbrev S256x512 : Shape := ⟨2, ![256, 512]⟩
abbrev S2x3x2048 : Shape := ⟨3, ![2, 3, 2048]⟩
abbrev S2x2048x512 : Shape := ⟨3, ![2, 2048, 512]⟩
abbrev S2x512x2048 : Shape := ⟨3, ![2, 512, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S1x512x2048 : Shape := ⟨3, ![1, 512, 2048]⟩

abbrev nBuf : Space → Nat
  | .hbm => 17
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S256x512, .f32⟩
  | .hbm, ⟨2, _⟩ => ⟨S256x512, .f32⟩
  | .hbm, ⟨3, _⟩ => ⟨S2x3x2048, .f32⟩
  | .hbm, ⟨4, _⟩ => ⟨S2x2048x512, .f32⟩
  | .hbm, ⟨5, _⟩ => ⟨S2x512x2048, .f32⟩
  | .hbm, ⟨6, _⟩ => ⟨S1x1x2048, .f32⟩
  | .hbm, ⟨7, _⟩ => ⟨S2048, .f32⟩
  | .hbm, ⟨8, _⟩ => ⟨S1x2048, .f32⟩
  | .hbm, ⟨9, _⟩ => ⟨S8192x2048, .bf16⟩
  | .hbm, ⟨10, _⟩ => ⟨S1x2048x512, .f32⟩
  | .hbm, ⟨11, _⟩ => ⟨S2048x512, .f32⟩
  | .hbm, ⟨12, _⟩ => ⟨S8192x512, .f32⟩
  | .hbm, ⟨13, _⟩ => ⟨S8192x512, .bf16⟩
  | .hbm, ⟨14, _⟩ => ⟨S1x512x2048, .f32⟩
  | .hbm, ⟨15, _⟩ => ⟨S512x2048, .f32⟩
  | .hbm, ⟨16, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S512x512, .f32⟩
  | .local _ .vmem, ⟨11, _⟩ => ⟨S512x512, .f32⟩
  | .local _ .vmem, ⟨12, _⟩ => ⟨S256x512, .f32⟩
  | .local _ .vmem, ⟨13, _⟩ => ⟨S256x512, .f32⟩
  | .local _ .vmem, ⟨14, _⟩ => ⟨S512x512, .bf16⟩
  | .local _ .vmem, ⟨15, _⟩ => ⟨S512x512, .bf16⟩
  | .local _ .vmem, ⟨16, _⟩ => ⟨S1024x512, .bf16⟩
  | .local _ .vmem, ⟨17, _⟩ => ⟨S1024x512, .bf16⟩
  | .local _ .vmem, ⟨18, _⟩ => ⟨S512x512, .f32⟩
  | .local _ .vmem, ⟨19, _⟩ => ⟨S512x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== CrossReferenceIdeal.lean ====
abbrev S8192x2048 : Shape := ⟨2, ![8192, 2048]⟩
abbrev S256x512 : Shape := ⟨2, ![256, 512]⟩
abbrev S2x3x2048 : Shape := ⟨3, ![2, 3, 2048]⟩
abbrev S2x2048x512 : Shape := ⟨3, ![2, 2048, 512]⟩
abbrev S2x512x2048 : Shape := ⟨3, ![2, 512, 2048]⟩
abbrev S1x8192x2048 : Shape := ⟨3, ![1, 8192, 2048]⟩
abbrev S1x256x4x128 : Shape := ⟨4, ![1, 256, 4, 128]⟩
abbrev S1x1x2048 : Shape := ⟨3, ![1, 1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S1x8192x512 : Shape := ⟨3, ![1, 8192, 512]⟩
abbrev S1x8192x4x128 : Shape := ⟨4, ![1, 8192, 4, 128]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x512, .f32⟩
  | .hbm, ⟨2, _⟩ => ⟨S256x512, .f32⟩
  | .hbm, ⟨3, _⟩ => ⟨S2x3x2048, .f32⟩
  | .hbm, ⟨4, _⟩ => ⟨S2x2048x512, .f32⟩
  | .hbm, ⟨5, _⟩ => ⟨S2x512x2048, .f32⟩
  | .hbm, ⟨6, _⟩ => ⟨S1x8192x2048, .f32⟩
  | .hbm, ⟨7, _⟩ => ⟨S1x256x4x128, .f32⟩
  | .hbm, ⟨8, _⟩ => ⟨S1x256x4x128, .f32⟩
  | .hbm, ⟨9, _⟩ => ⟨S1x1x2048, .f32⟩
  | .hbm, ⟨10, _⟩ => ⟨S2048, .f32⟩
  | .hbm, ⟨11, _⟩ => ⟨S1x8192x2048, .f32⟩
  | .hbm, ⟨12, _⟩ => ⟨S_, .f32⟩
  | .hbm, ⟨13, _⟩ => ⟨S1x8192, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S1x8192x2048, .f32⟩
  | .hbm, ⟨23, _⟩ => ⟨S1x8192x2048, .f32⟩
  | .hbm, ⟨24, _⟩ => ⟨S1x1x2048, .f32⟩
  | .hbm, ⟨25, _⟩ => ⟨S1x8192x2048, .f32⟩
  | .hbm, ⟨26, _⟩ => ⟨S1x8192x2048, .f32⟩
  | .hbm, ⟨27, _⟩ => ⟨S1x2048x512, .f32⟩
  | .hbm, ⟨28, _⟩ => ⟨S2048x512, .f32⟩
  | .hbm, ⟨29, _⟩ => ⟨S1x512x2048, .f32⟩
  | .hbm, ⟨30, _⟩ => ⟨S512x2048, .f32⟩
  | .hbm, ⟨31, _⟩ => ⟨S1x8192x512, .f32⟩
  | .hbm, ⟨32, _⟩ => ⟨S1x8192x4x128, .f32⟩
  | .hbm, ⟨33, _⟩ => ⟨S1x4x8192x256, .f32⟩
  | .hbm, ⟨34, _⟩ => ⟨S_, .f32⟩
  | .hbm, ⟨35, _⟩ => ⟨S1x4x8192x256, .f32⟩
  | .hbm, ⟨36, _⟩ => ⟨S1x4x8192x256, .f32⟩
  | .hbm, ⟨37, _⟩ => ⟨S_, .f32⟩
  | .hbm, ⟨38, _⟩ => ⟨S1x4x8192, .f32⟩
  | .hbm, ⟨39, _⟩ => ⟨S_, .f32⟩
  | .hbm, ⟨40, _⟩ => ⟨S1x4x8192, .f32⟩
  | .hbm, ⟨41, _⟩ => ⟨S1x4x8192, .f32⟩
  | .hbm, ⟨42, _⟩ => ⟨S1x4x8192x1, .f32⟩
  | .hbm, ⟨43, _⟩ => ⟨S1x4x8192x256, .f32⟩
  | .hbm, ⟨44, _⟩ => ⟨S1x4x8192x256, .f32⟩
  | .hbm, ⟨45, _⟩ => ⟨S1x4x8192x256, .f32⟩
  | .hbm, ⟨46, _⟩ => ⟨S_, .f32⟩
  | .hbm, ⟨47, _⟩ => ⟨S1x4x8192, .f32⟩
  | .hbm, ⟨48, _⟩ => ⟨S1x4x8192x1, .f32⟩
  | .hbm, ⟨49, _⟩ => ⟨S1x4x8192x256, .f32⟩
  | .hbm, ⟨50, _⟩ => ⟨S1x4x8192x256, .f32⟩
  | .hbm, ⟨51, _⟩ => ⟨S1x4x128x8192, .f32⟩
  | .hbm, ⟨52, _⟩ => ⟨S1x8192x4x128, .f32⟩
  | .hbm, ⟨53, _⟩ => ⟨S1x8192x512, .f32⟩
  | .hbm, ⟨54, _⟩ => ⟨S1x8192x2048, .f32⟩
  | .hbm, ⟨55, _⟩ => ⟨S1x8192x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== OutKernel.lean ====
abbrev S8192x1024 : Shape := ⟨2, ![8192, 1024]⟩
abbrev S1x2048x2048 : Shape := ⟨3, ![1, 2048, 2048]⟩
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S8192x2048, .bf16⟩
  | .hbm, ⟨5, _⟩ => ⟨S2048x2048, .f32⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S8192x1024 : Shape := ⟨2, ![8192, 1024]⟩
abbrev S1x2048x2048 : Shape := ⟨3, ![1, 2048, 2048]⟩
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x2048x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== CombineKernel.lean ====
abbrev S23040x2048 : Shape := ⟨2, ![23040, 2048]⟩
abbrev S8320 : Shape := ⟨1, ![8320]⟩
abbrev S8320x128 : Shape := ⟨2, ![8320, 128]⟩
abbrev S8320x2048 : Shape := ⟨2, ![8320, 2048]⟩
abbrev S2048 : Shape := ⟨1, ![2048]⟩
abbrev S1x2048 : Shape := ⟨2, ![1, 2048]⟩
abbrev S128x128 : Shape := ⟨2, ![128, 128]⟩
abbrev S128x2048 : Shape := ⟨2, ![128, 2048]⟩
abbrev S2x128x2048 : Shape := ⟨3, ![2, 128, 2048]⟩
abbrev S_ : Shape := ⟨0, ![]⟩
abbrev S1 : Shape := ⟨1, ![1]⟩
abbrev S1x128x2048 : Shape := ⟨3, ![1, 128, 2048]⟩
abbrev S128x1 : Shape := ⟨2, ![128, 1]⟩
abbrev S128 : Shape := ⟨1, ![128]⟩
abbrev S8192x2048 : Shape := ⟨2, ![8192, 2048]⟩
abbrev S1x8192x2048 : Shape := ⟨3, ![1, 8192, 2048]⟩
abbrev S128x1x2048 : Shape := ⟨3, ![128, 1, 2048]⟩

abbrev nBuf : Space → Nat
  | .hbm => 10
  | .vmem => 8
  | .smem => 2
  | _ => 0

abbrev bufTy : (tb : Table) → Fin (tcTables nBuf tb) → BufTy
  | .hbm, ⟨0, _⟩ => ⟨S23040x2048, .f32⟩
  | .hbm, ⟨1, _⟩ => ⟨S8320x128, .f32⟩
  | .hbm, ⟨2, _⟩ => ⟨S8320x2048, .f32⟩
  | .hbm, ⟨3, _⟩ => ⟨S2048, .f32⟩
  | .hbm, ⟨4, _⟩ => ⟨S1x2048, .f32⟩
  | .hbm, ⟨5, _⟩ => ⟨S8320x2048, .f32⟩
  | .hbm, ⟨6, _⟩ => ⟨S8192x2048, .f32⟩
  | .hbm, ⟨7, _⟩ => ⟨S1x8192x2048, .f32⟩
  | .hbm, ⟨8, _⟩ => ⟨S128x2048, .f32⟩
  | .hbm, ⟨9, _⟩ => ⟨S128x1x2048, .f32⟩
  | .local _ .vmem, ⟨0, _⟩ => ⟨S128x128, .f32⟩
  | .local _ .vmem, ⟨1, _⟩ => ⟨S128x128, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S2x128x2048, .f32⟩
  | .local _ .smem, ⟨0, _⟩ => ⟨S8320, .i32⟩
  | .local _ .smem, ⟨1, _⟩ => ⟨S8320, .i32⟩
  | _, _ => ⟨S23040x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![65], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c128_i32_0 : BitVec 32 := 128#32
  let v1 : BitVec 32 := Scalar.addi c0_i32 c128_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k0_t1
  let v32 : BitVec 32 := Scalar.addi v0 arg10
  let v33 : Index := Scalar.indexCast v32
  ![v33.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_23 : BitVec 32 := 0#32
  ![arg10.toNat, 0]
def k0_off3 (v34 : BitVec 32) : Fin 2 → Nat :=
  let c0_i32_24 : BitVec 32 := 0#32
  ![v34.toNat, 0]

def k0_chk1 (v34 : BitVec 32) : Prop :=
  (∀ a, (k0_off3 v34) a + S1x2048.size a ≤ S23040x2048.size a)
theorem k0_off3_inb : ∀ (v34 : BitVec 32) (k0_hw1 : k0_chk1 v34), ∀ a, (k0_off3 v34) a + S1x2048.size a ≤ S23040x2048.size a := fun v34 k0_hw1 => k0_hw1

def k0_off4 (i : grid0.Coords) (k0_t1 : Fin k0_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k0_t1
  let v39 : BitVec 32 := Scalar.addi v0 arg10
  let v40 : Index := Scalar.indexCast v39
  ![v40.toNat]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_28 : BitVec 32 := 0#32
  ![arg10.toNat, 0]
def k0_off6 (v41 : BitVec 32) : Fin 2 → Nat :=
  let c0_i32_29 : BitVec 32 := 0#32
  ![v41.toNat, 0]

def k0_chk2 (v41 : BitVec 32) : Prop :=
  (∀ a, (k0_off6 v41) a + S1x2048.size a ≤ S23040x2048.size a)
theorem k0_off6_inb : ∀ (v41 : BitVec 32) (k0_hw2 : k0_chk2 v41), ∀ a, (k0_off6 v41) a + S1x2048.size a ≤ S23040x2048.size a := fun v41 k0_hw2 => k0_hw2

@[reducible] def k0_t2_loop : Scf.Loop 32 :=
  let c0_i32_2 : BitVec 32 := 0#32
  let c128_i32_3 : BitVec 32 := 128#32
  let v2 : BitVec 32 := Scalar.addi c0_i32_2 c128_i32_3
  let c1_i32_4 : BitVec 32 := 1#32
  ⟨c0_i32_2, v2, c1_i32_4⟩
def k0_off7 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c0_i32_23 : BitVec 32 := 0#32
  ![arg10.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineReferenceIdeal.lean ====
abbrev S23040x2048 : Shape := ⟨2, ![23040, 2048]⟩
abbrev S8320 : Shape := ⟨1, ![8320]⟩
abbrev S8320x128 : Shape := ⟨2, ![8320, 128]⟩
abbrev S8320x2048 : Shape := ⟨2, ![8320, 2048]⟩
abbrev S2048 : Shape := ⟨1, ![2048]⟩
abbrev S_ : Shape := ⟨0, ![]⟩
abbrev S8320x1 : Shape := ⟨2, ![8320, 1]⟩
abbrev S8192x2048 : Shape := ⟨2, ![8192, 2048]⟩
abbrev S1x8192x2048 : Shape := ⟨3, ![1, 8192, 2048]⟩
abbrev S1x8192 : Shape := ⟨2, ![1, 8192]⟩
abbrev S1x8192x1 : Shape := ⟨3, ![1, 8192, 1]⟩
abbrev S1x1x2048 : Shape := ⟨3, ![1, 1, 2048]⟩
abbrev S128x2048 : Shape := ⟨2, ![128, 2048]⟩
abbrev S128x1x2048 : Shape := ⟨3, ![128, 1, 2048]⟩
abbrev S128x1 : Shape := ⟨2, ![128, 1]⟩
abbrev S128x1x1 : Shape := ⟨3, ![128, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S23040x2048, .f32⟩
  | .hbm, ⟨1, _⟩ => ⟨S8320, .i32⟩
  | .hbm, ⟨2, _⟩ => ⟨S8320, .i32⟩
  | .hbm, ⟨3, _⟩ => ⟨S8320x128, .f32⟩
  | .hbm, ⟨4, _⟩ => ⟨S8320x2048, .f32⟩
  | .hbm, ⟨5, _⟩ => ⟨S2048, .f32⟩
  | .hbm, ⟨6, _⟩ => ⟨S_, .i32⟩
  | .hbm, ⟨7, _⟩ => ⟨S8320, .i32⟩
  | .hbm, ⟨8, _⟩ => ⟨S8320, .i1⟩
  | .hbm, ⟨9, _⟩ => ⟨S_, .i32⟩
  | .hbm, ⟨10, _⟩ => ⟨S8320, .i32⟩
  | .hbm, ⟨11, _⟩ => ⟨S8320, .i32⟩
  | .hbm, ⟨12, _⟩ => ⟨S8320, .i32⟩
  | .hbm, ⟨13, _⟩ => ⟨S8320x1, .i32⟩
  | .hbm, ⟨14, _⟩ => ⟨S8320x2048, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S_, .i32⟩
  | .hbm, ⟨19, _⟩ => ⟨S8320, .i32⟩
  | .hbm, ⟨20, _⟩ => ⟨S8320, .i1⟩
  | .hbm, ⟨21, _⟩ => ⟨S_, .i32⟩
  | .hbm, ⟨22, _⟩ => ⟨S8320, .i32⟩
  | .hbm, ⟨23, _⟩ => ⟨S8320, .i32⟩
  | .hbm, ⟨24, _⟩ => ⟨S8320, .i32⟩
  | .hbm, ⟨25, _⟩ => ⟨S8320x1, .i32⟩
  | .hbm, ⟨26, _⟩ => ⟨S8320x2048, .f32⟩
  | .hbm, ⟨27, _⟩ => ⟨S8320x1, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S8192x2048, .f32⟩
  | .hbm, ⟨33, _⟩ => ⟨S1x8192x2048, .f32⟩
  | .hbm, ⟨34, _⟩ => ⟨S1x8192x2048, .f32⟩
  | .hbm, ⟨35, _⟩ => ⟨S_, .f32⟩
  | .hbm, ⟨36, _⟩ => ⟨S1x8192, .f32⟩
  | .hbm, ⟨37, _⟩ => ⟨S1x8192x1, .f32⟩
  | .hbm, ⟨38, _⟩ => ⟨S_, .f32⟩
  | .hbm, ⟨39, _⟩ => ⟨S1x8192x1, .f32⟩
  | .hbm, ⟨40, _⟩ => ⟨S1x8192x1, .f32⟩
  | .hbm, ⟨41, _⟩ => ⟨S_, .f32⟩
  | .hbm, ⟨42, _⟩ => ⟨S1x8192x1, .f32⟩
  | .hbm, ⟨43, _⟩ => ⟨S1x8192x1, .f32⟩
  | .hbm, ⟨44, _⟩ => ⟨S1x8192x1, .f32⟩
  | .hbm, ⟨45, _⟩ => ⟨S1x8192x2048, .f32⟩
  | .hbm, ⟨46, _⟩ => ⟨S1x8192x2048, .f32⟩
  | .hbm, ⟨47, _⟩ => ⟨S1x1x2048, .f32⟩
  | .hbm, ⟨48, _⟩ => ⟨S1x8192x2048, .f32⟩
  | .hbm, ⟨49, _⟩ => ⟨S1x8192x2048, .f32⟩
  | .hbm, ⟨50, _⟩ => ⟨S128x2048, .f32⟩
  | .hbm, ⟨51, _⟩ => ⟨S128x1x2048, .f32⟩
  | .hbm, ⟨52, _⟩ => ⟨S128x1x2048, .f32⟩
  | .hbm, ⟨53, _⟩ => ⟨S_, .f32⟩
  | .hbm, ⟨54, _⟩ => ⟨S128x1, .f32⟩
  | .hbm, ⟨55, _⟩ => ⟨S128x1x1, .f32⟩
  | .hbm, ⟨56, _⟩ => ⟨S_, .f32⟩
  | .hbm, ⟨57, _⟩ => ⟨S128x1x1, .f32⟩
  | .hbm, ⟨58, _⟩ => ⟨S128x1x1, .f32⟩
  | .hbm, ⟨59, _⟩ => ⟨S_, .f32⟩
  | .hbm, ⟨60, _⟩ => ⟨S128x1x1, .f32⟩
  | .hbm, ⟨61, _⟩ => ⟨S128x1x1, .f32⟩
  | .hbm, ⟨62, _⟩ => ⟨S128x1x1, .f32⟩
  | .hbm, ⟨63, _⟩ => ⟨S128x1x2048, .f32⟩
  | .hbm, ⟨64, _⟩ => ⟨S128x1x2048, .f32⟩
  | .hbm, ⟨65, _⟩ => ⟨S1x1x2048, .f32⟩
  | .hbm, ⟨66, _⟩ => ⟨S128x1x2048, .f32⟩
  | .hbm, ⟨67, _⟩ => ⟨S128x1x2048, .f32⟩
  | _, _ => ⟨S23040x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Proof.MoeBody.lean ====
/- What one run of the mixture-of-experts kernel's body does to the block it writes.
   A tile whose validity word is positive adds one chunk of the tile's expert to the block (the first chunk replaces
   it); any other tile leaves the block as it was. -/
module

public import proofs.«01_k».proof.Proof.Gen.MoeKernelIdeal.Launch
public import proofs.«01_k».proof.Proof.Gen.MoeKernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeKernelIdeal Cert.MoeKernelIdeal.Gen

variable {F : FTy → Type} [FloatOps F]

local notation "𝕄" => MT nD τ sig Unit (Elt F) ℕ (UR sig nD τ) ℕ

/-- The two scalar tables as whole memrefs: the tiles' experts and the tiles' validity words. -/
abbrev expertRef : Memref sig .tc .smem S30 .i32 := Memref.whole main_arg0
abbrev validRef : Memref sig .tc .smem S30 .i32 := Memref.whole main_arg1

/-- A table held, read-only, at half the full share. -/
abbrev tableAt (c : Dev nD) {S : Shape} {e : EltTy} (M : Memref sig .tc .smem S e) (f : Buf (Elt F) (M.view.loc (c : Thread nD τ))) : sProp 𝕄 :=
  M.view.loc (c : Thread nD τ) ↦{fullShare.right} f

/-- The validity word of the tile at grid coordinates `i`. -/
def validWord (i : grid0.Coords) (tv : S30.Idx → BitVec 32) : BitVec 32 := tv (fun a => match a with | ⟨0, _⟩ => i 0)

/-- The word the body loads from the validity table is the tile's. -/
theorem word_eq (i : grid0.Coords) (c : Dev nD) (tv : Buf (Elt F) (validRef.view.loc (c : Thread nD τ))) (h : 0 < (Rect.unit (s := S30) (k0_off1 i) S1.size (k0_off1_inb i)).shape.numel) :
    View.readAt (Elt F) validRef.view (Rect.unit (s := S30) (k0_off1 i) S1.size (k0_off1_inb i)).toLoadRect tv (Shape.Idx.first h) = validWord i tv := by
  have e : k0_off1 i 0 = (i 0).val := by
    have hi : (i 0).val < 30 := (i 0).isLt
    simp only [k0_off1]
    show (BitVec.ofNat 32 (i 0).val).toNat = (i 0).val
    rw [BitVec.toNat_ofNat]; omega
  show tv _ = tv _
  congr 1
  funext a
  match a with
  | ⟨0, _⟩ =>
    apply Fin.ext
    show k0_off1 i 0 + 0 * 1 = (i 0).val
    omega

/-- What the body leaves in the output block: `y` before, the four input blocks read. -/
def step (i : grid0.Coords) (tv : S30.Idx → BitVec 32) (x : Vec F S768x2048 .f32) (g u : Vec F S1x2048x512 .f32) (d : Vec F S1x512x2048 .f32)
    (y : Vec F S768x2048 .f32) : Vec F S768x2048 .f32 :=
  if k0_cond1 (validWord i tv) = 1#1 then
    if (i 1).val = 0 then k0_pay1 x g u d else k0_pay2 x g u d y
  else y

theorem zero2 : (![0, 0] : Fin 2 → Nat) = fun _ => 0 := funext fun a => by fin_cases a <;> rfl
theorem zero3 : (![0, 0, 0] : Fin 3 → Nat) = fun _ => 0 := funext fun a => by fin_cases a <;> rfl

/-- A store over the whole block is read back whole. -/
theorem read_stored (M : Memref sig .tc .vmem S768x2048 .f32) (f : M.view.ty.Contents (Elt F)) (inb : ∀ a, (![0, 0] : Fin 2 → Nat) a + S768x2048.size a ≤ S768x2048.size a)
    (w : Vec F S768x2048 .f32) :
    M.view.read (Elt F) (M.view.writes (Elt F) f [(⟨Rect.unit (s := S768x2048) ![0, 0] S768x2048.size inb, w⟩ : View.Piece (Elt F) S768x2048 .f32)]) = w := by
  rw [View.read_writes_eq_canon, View.canon_cons_unit_zero (S := S768x2048) zero2]
  exact View.cover_of_tiledL _ S768x2048.size (by sl_kernel_rfl)

set_option maxHeartbeats 1000000 in
/-- The body at a tile in use, at the tile's first chunk. -/
theorem body_first (c : Dev nD) (i : grid0.Coords)
    (arg4 : Memref sig .tc .vmem S768x2048 .f32) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S1x512x2048 .f32) (harg7 : arg7.IsWhole)
    (arg8 : Memref sig .tc .vmem S768x2048 .f32) (harg8 : arg8.IsWhole)
    (x : Vec F S768x2048 .f32) (g u : Vec F S1x2048x512 .f32) (d : Vec F S1x512x2048 .f32) (y : Vec F S768x2048 .f32)
    (te : Buf (Elt F) (expertRef.view.loc (c : Thread nD τ))) (tv : Buf (Elt F) (validRef.view.loc (c : Thread nD τ)))
    (h1 : k0_cond1 (validWord i tv) = 1#1) (h2 : k0_cond2 i = 1#1) (h3 : ¬ k0_cond3 i = 1#1) :
      ∀ (E : Set ℕ) (K : PUnit → sProp 𝕄),
        iprop(owns (c : Thread nD τ) arg4 fullShare x ∗ owns (c : Thread nD τ) arg5 fullShare g ∗ owns (c : Thread nD τ) arg6 fullShare u ∗ owns (c : Thread nD τ) arg7 fullShare d ∗ owns (c : Thread nD τ) arg8 fullShare y
            ∗ tableAt c expertRef te ∗ tableAt c validRef tv
            ∗ (iprop(owns (c : Thread nD τ) arg4 fullShare x ∗ owns (c : Thread nD τ) arg5 fullShare g ∗ owns (c : Thread nD τ) arg6 fullShare u ∗ owns (c : Thread nD τ) arg7 fullShare d ∗ owns (c : Thread nD τ) arg8 fullShare (k0_pay1 x g u d)
                ∗ tableAt c expertRef te ∗ tableAt c validRef tv) -∗ K ⟨⟩))
          ⊢ wp frame (wpE (defs₀ (F := F)) Variants.none c none) E
              (cc0_moe_experts i expertRef (Memref.isWhole_whole _) validRef (Memref.isWhole_whole _) arg4 harg4 arg5 harg5 arg6 harg6 arg7 harg7 arg8 harg8) K := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3; obtain rfl := harg8.eq_unread hf4
  have h1' : k0_cond1 (View.readAt (Elt F) validRef.view (Rect.unit (s := S30) (k0_off1 i) S1.size (k0_off1_inb i)).toLoadRect tv (Shape.Idx.first (numel1_S1.symm ▸ Nat.one_pos))) = 1#1 := by
    rw [word_eq]; exact h1
  sl_exec (disch := first | sl_exact h1' | sl_exact h2 | sl_exact h3)
  sl_step
  iapply Hk
  isplitl [H0]
  · iexists _; isplitr; swap; iexact H0; ipureintro; exact harg4.read_unread _
  isplitl [H1]
  · iexists _; isplitr; swap; iexact H1; ipureintro; exact harg5.read_unread _
  isplitl [H2]
  · iexists _; isplitr; swap; iexact H2; ipureintro; exact harg6.read_unread _
  isplitl [H3]
  · iexists _; isplitr; swap; iexact H3; ipureintro; exact harg7.read_unread _
  isplitl [H4]
  · iexists _; isplitr; swap; iexact H4; ipureintro
    rw [read_stored]
    simp only [View.readAt_eq_ld, harg4.read_unread, harg5.read_unread, harg6.read_unread, harg7.read_unread, harg8.read_unread, View.ld_unit_zero (S := S768x2048) zero2, View.ld_unit_zero (S := S1x2048x512) zero3, View.ld_unit_zero (S := S1x512x2048) zero3]
  isplitl [HT0]; iexact HT0
  iexact HT1

set_option maxHeartbeats 1000000 in
/-- The body at a tile in use, at a later chunk. -/
theorem body_next (c : Dev nD) (i : grid0.Coords)
    (arg4 : Memref sig .tc .vmem S768x2048 .f32) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S1x512x2048 .f32) (harg7 : arg7.IsWhole)
    (arg8 : Memref sig .tc .vmem S768x2048 .f32) (harg8 : arg8.IsWhole)
    (x : Vec F S768x2048 .f32) (g u : Vec F S1x2048x512 .f32) (d : Vec F S1x512x2048 .f32) (y : Vec F S768x2048 .f32)
    (te : Buf (Elt F) (expertRef.view.loc (c : Thread nD τ))) (tv : Buf (Elt F) (validRef.view.loc (c : Thread nD τ)))
    (h1 : k0_cond1 (validWord i tv) = 1#1) (h2 : ¬ k0_cond2 i = 1#1) (h3 : k0_cond3 i = 1#1) :
      ∀ (E : Set ℕ) (K : PUnit → sProp 𝕄),
        iprop(owns (c : Thread nD τ) arg4 fullShare x ∗ owns (c : Thread nD τ) arg5 fullShare g ∗ owns (c : Thread nD τ) arg6 fullShare u ∗ owns (c : Thread nD τ) arg7 fullShare d ∗ owns (c : Thread nD τ) arg8 fullShare y
            ∗ tableAt c expertRef te ∗ tableAt c validRef tv
            ∗ (iprop(owns (c : Thread nD τ) arg4 fullShare x ∗ owns (c : Thread nD τ) arg5 fullShare g ∗ owns (c : Thread nD τ) arg6 fullShare u ∗ owns (c : Thread nD τ) arg7 fullShare d ∗ owns (c : Thread nD τ) arg8 fullShare (k0_pay2 x g u d y)
                ∗ tableAt c expertRef te ∗ tableAt c validRef tv) -∗ K ⟨⟩))
          ⊢ wp frame (wpE (defs₀ (F := F)) Variants.none c none) E
              (cc0_moe_experts i expertRef (Memref.isWhole_whole _) validRef (Memref.isWhole_whole _) arg4 harg4 arg5 harg5 arg6 harg6 arg7 harg7 arg8 harg8) K := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3; obtain rfl := harg8.eq_unread hf4
  have h1' : k0_cond1 (View.readAt (Elt F) validRef.view (Rect.unit (s := S30) (k0_off1 i) S1.size (k0_off1_inb i)).toLoadRect tv (Shape.Idx.first (numel1_S1.symm ▸ Nat.one_pos))) = 1#1 := by
    rw [word_eq]; exact h1
  sl_exec (disch := first | sl_exact h1' | sl_exact h2 | sl_exact h3)
  sl_step
  iapply Hk
  isplitl [H0]
  · iexists _; isplitr; swap; iexact H0; ipureintro; exact harg4.read_unread _
  isplitl [H1]
  · iexists _; isplitr; swap; iexact H1; ipureintro; exact harg5.read_unread _
  isplitl [H2]
  · iexists _; isplitr; swap; iexact H2; ipureintro; exact harg6.read_unread _
  isplitl [H3]
  · iexists _; isplitr; swap; iexact H3; ipureintro; exact harg7.read_unread _
  isplitl [H4]
  · iexists _; isplitr; swap; iexact H4; ipureintro
    rw [read_stored]
    simp only [View.readAt_eq_ld, harg4.read_unread, harg5.read_unread, harg6.read_unread, harg7.read_unread, harg8.read_unread, View.ld_unit_zero (S := S768x2048) zero2, View.ld_unit_zero (S := S1x2048x512) zero3, View.ld_unit_zero (S := S1x512x2048) zero3]
  isplitl [HT0]; iexact HT0
  iexact HT1

set_option maxHeartbeats 1000000 in
/-- The body at a tile not in use. -/
theorem body_unused (c : Dev nD) (i : grid0.Coords)
    (arg4 : Memref sig .tc .vmem S768x2048 .f32) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S1x512x2048 .f32) (harg7 : arg7.IsWhole)
    (arg8 : Memref sig .tc .vmem S768x2048 .f32) (harg8 : arg8.IsWhole)
    (x : Vec F S768x2048 .f32) (g u : Vec F S1x2048x512 .f32) (d : Vec F S1x512x2048 .f32) (y : Vec F S768x2048 .f32)
    (te : Buf (Elt F) (expertRef.view.loc (c : Thread nD τ))) (tv : Buf (Elt F) (validRef.view.loc (c : Thread nD τ)))
    (h1 : ¬ k0_cond1 (validWord i tv) = 1#1) :
      ∀ (E : Set ℕ) (K : PUnit → sProp 𝕄),
        iprop(owns (c : Thread nD τ) arg4 fullShare x ∗ owns (c : Thread nD τ) arg5 fullShare g ∗ owns (c : Thread nD τ) arg6 fullShare u ∗ owns (c : Thread nD τ) arg7 fullShare d ∗ owns (c : Thread nD τ) arg8 fullShare y
            ∗ tableAt c expertRef te ∗ tableAt c validRef tv
            ∗ (iprop(owns (c : Thread nD τ) arg4 fullShare x ∗ owns (c : Thread nD τ) arg5 fullShare g ∗ owns (c : Thread nD τ) arg6 fullShare u ∗ owns (c : Thread nD τ) arg7 fullShare d ∗ owns (c : Thread nD τ) arg8 fullShare y
                ∗ tableAt c expertRef te ∗ tableAt c validRef tv) -∗ K ⟨⟩))
          ⊢ wp frame (wpE (defs₀ (F := F)) Variants.none c none) E
              (cc0_moe_experts i expertRef (Memref.isWhole_whole _) validRef (Memref.isWhole_whole _) arg4 harg4 arg5 harg5 arg6 harg6 arg7 harg7 arg8 harg8) K := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, Hk⟩
  obtain rfl := harg4.eq_unread hf0; obtain rfl := harg5.eq_unread hf1; obtain rfl := harg6.eq_unread hf2; obtain rfl := harg7.eq_unread hf3; obtain rfl := harg8.eq_unread hf4
  have h1' : ¬ k0_cond1 (View.readAt (Elt F) validRef.view (Rect.unit (s := S30) (k0_off1 i) S1.size (k0_off1_inb i)).toLoadRect tv (Shape.Idx.first (numel1_S1.symm ▸ Nat.one_pos))) = 1#1 := by
    rw [word_eq]; exact h1
  sl_exec (disch := first | sl_exact h1')
  sl_step
  iapply Hk
  isplitl [H0]
  · iexists _; isplitr; swap; iexact H0; ipureintro; exact harg4.read_unread _
  isplitl [H1]
  · iexists _; isplitr; swap; iexact H1; ipureintro; exact harg5.read_unread _
  isplitl [H2]
  · iexists _; isplitr; swap; iexact H2; ipureintro; exact harg6.read_unread _
  isplitl [H3]
  · iexists _; isplitr; swap; iexact H3; ipureintro; exact harg7.read_unread _
  isplitl [H4]
  · iexists _; isplitr; swap; iexact H4; ipureintro
    exact harg8.read_unread _
  isplitl [HT0]; iexact HT0
  iexact HT1

/-- The first chunk is the one at coordinate `0`. -/
theorem cond2_iff (i : grid0.Coords) : k0_cond2 i = 1#1 ↔ (i 1).val = 0 := by
  have h : ∀ n : Fin 14, (k0_cond2 (fun a => match a with | ⟨0, _⟩ => (0 : Fin 30) | ⟨1, _⟩ => n) = 1#1 ↔ n.val = 0) := by decide +kernel
  exact h (i 1)
theorem cond3_iff (i : grid0.Coords) : k0_cond3 i = 1#1 ↔ ¬ (i 1).val = 0 := by
  have h : ∀ n : Fin 14, (k0_cond3 (fun a => match a with | ⟨0, _⟩ => (0 : Fin 30) | ⟨1, _⟩ => n) = 1#1 ↔ ¬ n.val = 0) := by decide +kernel
  exact h (i 1)

/-- The body at any point: it leaves the output block at `step`, everything else as found. -/
theorem body_step (c : Dev nD) (i : grid0.Coords)
    (arg4 : Memref sig .tc .vmem S768x2048 .f32) (harg4 : arg4.IsWhole) (arg5 : Memref sig .tc .vmem S1x2048x512 .f32) (harg5 : arg5.IsWhole)
    (arg6 : Memref sig .tc .vmem S1x2048x512 .f32) (harg6 : arg6.IsWhole) (arg7 : Memref sig .tc .vmem S1x512x2048 .f32) (harg7 : arg7.IsWhole)
    (arg8 : Memref sig .tc .vmem S768x2048 .f32) (harg8 : arg8.IsWhole)
    (x : Vec F S768x2048 .f32) (g u : Vec F S1x2048x512 .f32) (d : Vec F S1x512x2048 .f32) (y : Vec F S768x2048 .f32)
    (te : Buf (Elt F) (expertRef.view.loc (c : Thread nD τ))) (tv : Buf (Elt F) (validRef.view.loc (c : Thread nD τ))) :
      ∀ (E : Set ℕ) (K : PUnit → sProp 𝕄),
        iprop(owns (c : Thread nD τ) arg4 fullShare x ∗ owns (c : Thread nD τ) arg5 fullShare g ∗ owns (c : Thread nD τ) arg6 fullShare u ∗ owns (c : Thread nD τ) arg7 fullShare d ∗ owns (c : Thread nD τ) arg8 fullShare y
            ∗ tableAt c expertRef te ∗ tableAt c validRef tv
            ∗ (iprop(owns (c : Thread nD τ) arg4 fullShare x ∗ owns (c : Thread nD τ) arg5 fullShare g ∗ owns (c : Thread nD τ) arg6 fullShare u ∗ owns (c : Thread nD τ) arg7 fullShare d ∗ owns (c : Thread nD τ) arg8 fullShare (step i tv x g u d y)
                ∗ tableAt c expertRef te ∗ tableAt c validRef tv) -∗ K ⟨⟩))
          ⊢ wp frame (wpE (defs₀ (F := F)) Variants.none c none) E
              (cc0_moe_experts i expertRef (Memref.isWhole_whole _) validRef (Memref.isWhole_whole _) arg4 harg4 arg5 harg5 arg6 harg6 arg7 harg7 arg8 harg8) K := by
  by_cases h1 : k0_cond1 (validWord i tv) = 1#1
  · by_cases h2 : (i 1).val = 0
    · rw [show step i tv x g u d y = k0_pay1 x g u d by unfold step; rw [if_pos h1, if_pos h2]]
      exact body_first c i arg4 harg4 arg5 harg5 arg6 harg6 arg7 harg7 arg8 harg8 x g u d y te tv h1 ((cond2_iff i).mpr h2) (fun h => (cond3_iff i).mp h h2)
    · rw [show step i tv x g u d y = k0_pay2 x g u d y by unfold step; rw [if_pos h1, if_neg h2]]
      exact body_next c i arg4 harg4 arg5 harg5 arg6 harg6 arg7 harg7 arg8 harg8 x g u d y te tv h1 (fun h => h2 ((cond2_iff i).mp h)) ((cond3_iff i).mpr h2)
  · rw [show step i tv x g u d y = y by unfold step; rw [if_neg h1]]
    exact body_unused c i arg4 harg4 arg5 harg5 arg6 harg6 arg7 harg7 arg8 harg8 x g u d y te tv h1

end Cert.Proof.Moe

end
-- ==== Proof.MoeRun.lean ====
/- The mixture-of-experts call from launch to end: the run of its grid, stated by what each point does to the block it
   writes (`data`), so that tiles not in use, whose block nothing is known of, need no name for what they leave. -/
module

public import proofs.«01_k».proof.Proof.MoeBody

@[expose] public section

set_option maxRecDepth 16384

noncomputable section

namespace Cert.Proof.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.MoeKernelIdeal Cert.MoeKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the call finds them. -/
abbrev entry (c : Dev nD) (b : Ref sig .tc) : Buf (Elt F) ((c : Thread nD τ).loc b) := m ((c : Thread nD τ).loc b)

/-- The two tables' contents. -/
def tables : pre0.Contents (Elt F) := fun j => entry m (0 : Dev nD) (pre0.ref j)

/-- The tables name blocks inside their arrays. -/
abbrev InRange : Prop := ok0 (F := F) (tables m)

abbrev admissible (hO : InRange m) : (pcfg0 (F := F)).Adm := ⟨tables m, hO⟩

/-- The pipeline at these tables. -/
abbrev pipe (hO : InRange m) : Cfg sig Λ₀ := cfg0 (admissible m hO)

theorem tables_split (c : Dev nD) : (Pipeline.ΦT pre0 (tables m) c : sProp 𝕄) = iprop(tableAt c expertRef (tables m 0) ∗ tableAt c validRef (tables m 1)) := by
  unfold Pipeline.ΦT Pipeline.prefHeld
  rw [show (Finset.univ : Finset (Fin 2)) = insert (0 : Fin 2) {(1 : Fin 2)} from by decide, bigSep_insert (by decide), bigSep_singleton]
  rfl

/-- The block of window `w` at point `t`, read off its array at entry. -/
def blockAt (hO : InRange m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (entry m c (Pipeline.arrRef spec0 w))

/-- What point `t` may leave in each window's buffer: an input as found, the result's block at `step` of what was found. -/
def data (hO : InRange m) (c : Dev nD) : RDat τ (Elt F) Unit ℕ (UR sig nD τ) ℕ (pipe m hO) c where
  A w := entry m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = step (grid0.coords t) (tables m 1) (blockAt m hO c 0 t) (blockAt m hO c 1 t) (blockAt m hO c 2 t) (blockAt m hO c 3 t) Y
  Φ _ := iprop(Pipeline.ΦA spec0 c ∗ Pipeline.ΦT pre0 (tables m) c)
  q w := Pipeline.shareOf spec0 w
  owed _ := 0

theorem found0 (hO : InRange m) (c : Dev nD) (t : Fin (pipe m hO).N) (Y) (h : (data m hO c).Finds 0 t Y) : Y = blockAt m hO c 0 t := by
  obtain ⟨d, hd⟩ := (data m hO c).finds_in_eq_fetched 0 rfl (fun _ _ _ => rfl) (fun _ _ _ h => h) t Y h
  rw [hd]; rfl
theorem found1 (hO : InRange m) (c : Dev nD) (t : Fin (pipe m hO).N) (Y) (h : (data m hO c).Finds 1 t Y) : Y = blockAt m hO c 1 t := by
  obtain ⟨d, hd⟩ := (data m hO c).finds_in_eq_fetched 1 rfl (fun _ _ _ => rfl) (fun _ _ _ h => h) t Y h
  rw [hd]; rfl
theorem found2 (hO : InRange m) (c : Dev nD) (t : Fin (pipe m hO).N) (Y) (h : (data m hO c).Finds 2 t Y) : Y = blockAt m hO c 2 t := by
  obtain ⟨d, hd⟩ := (data m hO c).finds_in_eq_fetched 2 rfl (fun _ _ _ => rfl) (fun _ _ _ h => h) t Y h
  rw [hd]; rfl
theorem found3 (hO : InRange m) (c : Dev nD) (t : Fin (pipe m hO).N) (Y) (h : (data m hO c).Finds 3 t Y) : Y = blockAt m hO c 3 t := by
  obtain ⟨d, hd⟩ := (data m hO c).finds_in_eq_fetched 3 rfl (fun _ _ _ => rfl) (fun _ _ _ h => h) t Y h
  rw [hd]; rfl

/-- The body at point `t`, on the buffers the pipeline hands it. -/
abbrev bodyAt (hO : InRange m) (t : Fin (pipe m hO).N) : Prog (TpuEff nD τ sig (Elt F) Λ₀ .tc) PUnit :=
  cc0_moe_experts (grid0.coords t) expertRef (Memref.isWhole_whole _) validRef (Memref.isWhole_whole _)
    (spec0_0.stage ((pipe m hO).slots t 0)) (hstage0_0 (((pipe m hO).slots t 0).cast nbuf0_0))
    (spec0_1.stage ((pipe m hO).slots t 1)) (hstage0_1 (((pipe m hO).slots t 1).cast nbuf0_1))
    (spec0_2.stage ((pipe m hO).slots t 2)) (hstage0_2 (((pipe m hO).slots t 2).cast nbuf0_2))
    (spec0_3.stage ((pipe m hO).slots t 3)) (hstage0_3 (((pipe m hO).slots t 3).cast nbuf0_3))
    (spec0_4.stage ((pipe m hO).slots t 4)) (hstage0_4 (((pipe m hO).slots t 4).cast nbuf0_4))

theorem body_row (hO : InRange m) (t : Fin (pipe m hO).N) :
    defs₀ (F := F) .tc (pipe m hO).body ((pipe m hO).bodyArgs t ((pipe m hO).slots t)) = bodyAt m hO t := by
  unfold defs₀; rw [Defs.onTc_tc]

set_option maxHeartbeats 1000000 in
/-- The body keeps to `data`, at every point. -/
theorem body_sound (hO : InRange m) (c : Dev nD) : (data m hO c).BodyObligation (defs₀ (F := F)) Variants.none () Set.univ := by
  intro t Y hY
  have e0 := found0 m hO c t _ (hY 0); have e1 := found1 m hO c t _ (hY 1); have e2 := found2 m hO c t _ (hY 2); have e3 := found3 m hO c t _ (hY 3)
  rw [bigSep_W0, body_row m hO]
  simp only [bigSep_W0]
  rw [show (data m hO c).Φ t.succ = (data m hO c).Φ t.castSucc from rfl,
    show (data m hO c).owesAt () t.succ = (data m hO c).owesAt () t.castSucc from rfl,
    show (data m hO c).Φ t.castSucc = iprop(Pipeline.ΦA spec0 c ∗ Pipeline.ΦT pre0 (tables m) c) from rfl, tables_split]
  refine triple_restated (W := wp frame (wpE (defs₀ (F := F)) Variants.none c none) Set.univ (bodyAt m hO t)) ?_ rfl .rfl fun _ => .rfl
  iintro ⟨⟨HΦ, ⟨HT0, HT1⟩⟩, Ho, H0, H1, H2, H3, H4⟩
  iapply (body_step c (grid0.coords t) _ _ _ _ _ _ _ _ _ _ (Y 0) (Y 1) (Y 2) (Y 3) (Y 4) (tables m 0) (tables m 1) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]
  · iexists _; isplitr; swap; iexact H0; ipureintro; rfl
  isplitl [H1]
  · iexists _; isplitr; swap; iexact H1; ipureintro; rfl
  isplitl [H2]
  · iexists _; isplitr; swap; iexact H2; ipureintro; rfl
  isplitl [H3]
  · iexists _; isplitr; swap; iexact H3; ipureintro; rfl
  iexists _; isplitr; swap; iexact H4; ipureintro
  rw [e0, e1, e2, e3]; rfl

theorem main_region (𝒱₀ : Variants) : Pipeline.HMainP (Ix := Unit) (Name := ℕ) (U := UR sig nD τ) (Lvl := ℕ) pcfgs 0 defs₀ 𝒱₀ m (main (F := F)) (entry m) :=
  Pipeline.hmainP_region pcfgs 0 defs₀ 𝒱₀ m main fun c => (main_chain c).trans rfl

set_option backward.isDefEq.respectTransparency.types false in
/-- The launch: every execution ends, the result in the relation `data` states, every counter at zero. -/
theorem launched (hO : InRange m) : θ_run defs (onTc (τ := τ) (main (F := F))) (s₀ m ρ) (fun r =>
    (RDat.FramePost ((Pipeline.pin pcfgs fun _ => admissible m hO) 0) (data m hO) (entry m)) r ∧ r.2.sem = fun _ => 0) :=
  Pipeline.RDat.θ_run_frameP_track_shared (Q' := _) pcfgs (fun _ => admissible m hO) (0 : Fin 1) launch₀0 defs₀ Variants.none (data m hO) m ρ main
    (hbody := body_sound m hO) (hq := fun _ _ _ => rfl) (howed := fun _ _ => rfl) (V := entry m) (hmain := main_region m Variants.none)
    (hA := fun _ _ => rfl) (hpf := fun c k => by obtain rfl : c = 0 := Subsingleton.elim _ _; rfl)
    (hin := fun _ => .rfl) (hout := fun c => show iprop(Pipeline.ΦA spec0 c ∗ Pipeline.ΦT pre0 (tables m) c) ⊢ Pipeline.ΦA spec0 c from by iintro ⟨H, -⟩; iexact H)

/-- What a run leaves in the argument arrays. -/
theorem kept (hO : InRange m) (r : PUnit × MemSt nD τ sig (Elt F)) (h : RDat.FramePost ((Pipeline.pin pcfgs fun _ => admissible m hO) 0) (data m hO) (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c).2 main_arg0 (by decide : main_arg0 ∈ Pipeline.restRefs sig spec0), (h c).2 main_arg1 (by decide : main_arg1 ∈ Pipeline.restRefs sig spec0),
    RDat.FramePost.arr_in h c 0 rfl, RDat.FramePost.arr_in h c 2 rfl, RDat.FramePost.arr_in h c 3 rfl⟩

end Cert.Proof.Moe

end
-- ==== Proof.MoeTables.lean ====
/- The tables of the mixture-of-experts call, read at a tile: which blocks the windows stage there, and that they lie
   inside their arrays when every tile's expert is one of the eight. -/
module

public import proofs.«01_k».proof.Proof.MoeRun
public import proofs.«01_k».proof.Proof.Gen.Pre_experts_named

@[expose] public section

set_option maxRecDepth 16384

noncomputable section

namespace Cert.Proof.Moe

open Idealize.ShloMosaic Idealize.ShloMosaic.TcCoe
open Cert.MoeKernelIdeal Cert.MoeKernelIdeal.Gen

variable {F : FTy → Type} [FloatOps F]

/-- Every tile names one of the eight experts. -/
def Named (te : S30.Idx → BitVec 32) : Prop := ∀ a, (te a).toNat < 8

/-- The precondition says so. -/
theorem named_of_pre (te tv : S30.Idx → BitVec 32) (x : FVec F S23040x2048 .f32) (w : FVec F S8x2048x14336 .f32) (d : FVec F S8x7168x2048 .f32)
    (h : Cert.Pre_experts_named.fn (F := F) te tv x w d = fun _ => 1#1) : Named te := by
  intro a
  have h' := congrFun h a
  have e : IntOp.cmpi .sge (te a) 0#32 &&& IntOp.cmpi .slt (te a) 8#32 = 1#1 := h'
  generalize te a = b at e
  have key : ∀ p q : BitVec 1, p &&& q = 1#1 → p = 1#1 ∧ q = 1#1 := by decide
  obtain ⟨h0, h1⟩ := key _ _ e
  have h0' : (0#32).sle b = true := by
    by_contra hc; rw [Bool.not_eq_true] at hc; have h0 : BitVec.ofBool ((0#32).sle b) = 1#1 := h0; rw [hc] at h0; exact absurd h0 (by decide)
  have h1' : b.slt 8#32 = true := by
    by_contra hc; rw [Bool.not_eq_true] at hc; have h1 : BitVec.ofBool (b.slt 8#32) = 1#1 := h1; rw [hc] at h1; exact absurd h1 (by decide)
  rw [BitVec.sle_eq_decide, decide_eq_true_eq] at h0'
  rw [BitVec.slt_eq_decide, decide_eq_true_eq] at h1'
  have := BitVec.toInt_eq_toNat_cond b
  have h8 : (8#32).toInt = 8 := by decide
  have hz : (0#32).toInt = 0 := by decide
  rw [h8] at h1'; rw [hz] at h0'
  split at this <;> omega

/-- The two tables, as words. -/
def experts (pf : pre0.Contents (Elt F)) : S30.Idx → BitVec 32 := pf 0
def valids (pf : pre0.Contents (Elt F)) : S30.Idx → BitVec 32 := pf 1

/-- A table's word as an index map loads it is the tile's. -/
theorem at_eq (pf : pre0.Contents (Elt F)) (i : grid0.Coords) :
    pf.at 0 (Rect.unit (s := S30) ![(Scalar.indexCast (BitVec.ofNat 32 (i 0).val) : Index).toNat] S1.size (k0_off1_inb i)) numel1_S1 = validWord i (experts pf)
    ∧ pf.at 1 (Rect.unit (s := S30) ![(Scalar.indexCast (BitVec.ofNat 32 (i 0).val) : Index).toNat] S1.size (k0_off1_inb i)) numel1_S1 = validWord i (valids pf) := by
  have e : k0_off1 i 0 = (i 0).val := by
    have hi : (i 0).val < 30 := (i 0).isLt
    simp only [k0_off1]
    show (BitVec.ofNat 32 (i 0).val).toNat = (i 0).val
    rw [BitVec.toNat_ofNat]; omega
  constructor
  · show experts pf _ = experts pf _
    congr 1; funext a
    match a with
    | ⟨0, _⟩ => apply Fin.ext; show k0_off1 i 0 + 0 * 1 = (i 0).val; omega
  · show valids pf _ = valids pf _
    congr 1; funext a
    match a with
    | ⟨0, _⟩ => apply Fin.ext; show k0_off1 i 0 + 0 * 1 = (i 0).val; omega

/-- A tile is in use when its validity word is positive. -/
abbrev InUse (i : grid0.Coords) (tv : S30.Idx → BitVec 32) : Prop := Scalar.cmpi .sgt (validWord i tv) 0#32 = 1#1

theorem cond1_iff (i : grid0.Coords) (tv : S30.Idx → BitVec 32) : k0_cond1 (validWord i tv) = 1#1 ↔ InUse i tv := by
  have h : ∀ b : BitVec 1, Scalar.cmpi .ne (Scalar.extui b) 0#32 = 1#1 ↔ b = 1#1 := by decide
  exact h (Scalar.cmpi .sgt (validWord i tv) 0#32)

/-- The chunk of its expert a point stages: its own at a tile in use, the last otherwise. -/
def chunkOf (i : grid0.Coords) (tv : S30.Idx → BitVec 32) : ℕ := if InUse i tv then (i 1).val else 13

theorem chunkOf_lt (i : grid0.Coords) (tv : S30.Idx → BitVec 32) : chunkOf i tv < 14 := by
  have hi : (i 1).val < 14 := (i 1).isLt
  unfold chunkOf; split <;> omega

theorem chunk_word (i : grid0.Coords) (tv : S30.Idx → BitVec 32) :
    (Scalar.select (Scalar.cmpi .sgt (validWord i tv) 0#32) (BitVec.ofNat 32 (i 1).val) 13#32 : BitVec 32) = BitVec.ofNat 32 (chunkOf i tv) := by
  unfold chunkOf InUse
  by_cases h : Scalar.cmpi .sgt (validWord i tv) 0#32 = 1#1
  · rw [if_pos h, h]; rfl
  · rw [if_neg h]
    have h0 : Scalar.cmpi .sgt (validWord i tv) 0#32 = 0#1 := by
      generalize Scalar.cmpi .sgt (validWord i tv) 0#32 = b at h; revert h; revert b; decide
    rw [h0]; rfl

theorem map1 (pf : pre0.Contents (Elt F)) (i : grid0.Coords) :
    cc0_transform_1 k0_off1_inb numel1_S1 pf i = ![(validWord i (experts pf)).toNat, 0, chunkOf i (valids pf)] := by
  have hk := chunkOf_lt i (valids pf)
  have e : (Scalar.select (Scalar.cmpi .sgt (validWord i (valids pf)) 0#32) (BitVec.ofNat 32 (i 1).val) 13#32 : BitVec 32).toNat = chunkOf i (valids pf) := by
    rw [chunk_word, BitVec.toNat_ofNat]; omega
  unfold cc0_transform_1
  simp only [(at_eq pf i).1, (at_eq pf i).2]
  rw [e]; rfl
theorem map2 (pf : pre0.Contents (Elt F)) (i : grid0.Coords) :
    cc0_transform_2 k0_off1_inb numel1_S1 pf i = ![(validWord i (experts pf)).toNat, 0, chunkOf i (valids pf) + 14] := by
  have hk := chunkOf_lt i (valids pf)
  have e : (Scalar.addi (Scalar.select (Scalar.cmpi .sgt (validWord i (valids pf)) 0#32) (BitVec.ofNat 32 (i 1).val) 13#32 : BitVec 32) 14#32).toNat = chunkOf i (valids pf) + 14 := by
    rw [chunk_word]
    show (BitVec.ofNat 32 (chunkOf i (valids pf)) + 14#32).toNat = _
    rw [BitVec.toNat_add, BitVec.toNat_ofNat]; show (_ + 14) % _ = _; omega
  unfold cc0_transform_2
  simp only [(at_eq pf i).1, (at_eq pf i).2]
  rw [e]; rfl
theorem map3 (pf : pre0.Contents (Elt F)) (i : grid0.Coords) :
    cc0_transform_3 k0_off1_inb numel1_S1 pf i = ![(validWord i (experts pf)).toNat, chunkOf i (valids pf), 0] := by
  have hk := chunkOf_lt i (valids pf)
  have e : (Scalar.select (Scalar.cmpi .sgt (validWord i (valids pf)) 0#32) (BitVec.ofNat 32 (i 1).val) 13#32 : BitVec 32).toNat = chunkOf i (valids pf) := by
    rw [chunk_word, BitVec.toNat_ofNat]; omega
  unfold cc0_transform_3
  simp only [(at_eq pf i).1, (at_eq pf i).2]
  rw [e]; rfl

/-- With the experts named, every block lies inside its array. -/
theorem inRange_of_named (pf : pre0.Contents (Elt F)) (h : Named (experts pf)) : ok0 (F := F) pf := by
  have ht (i : grid0.Coords) : (validWord i (experts pf)).toNat < 8 := h _
  refine ⟨fun i => ⟨fun a => ?_, .inl rfl⟩, fun i => ⟨fun a => ?_, .inl rfl⟩, fun i => ⟨fun a => ?_, .inl rfl⟩⟩
  · have := ht i; have := chunkOf_lt i (valids pf)
    rw [map1]
    match a with
    | ⟨0, _⟩ => show ((validWord i (experts pf)).toNat + 1) * 1 ≤ 8; omega
    | ⟨1, _⟩ => show (0 + 1) * 2048 ≤ 2048; omega
    | ⟨2, _⟩ => show (chunkOf i (valids pf) + 1) * 512 ≤ 14336; omega
  · have := ht i; have := chunkOf_lt i (valids pf)
    rw [map2]
    match a with
    | ⟨0, _⟩ => show ((validWord i (experts pf)).toNat + 1) * 1 ≤ 8; omega
    | ⟨1, _⟩ => show (0 + 1) * 2048 ≤ 2048; omega
    | ⟨2, _⟩ => show (chunkOf i (valids pf) + 14 + 1) * 512 ≤ 14336; omega
  · have := ht i; have := chunkOf_lt i (valids pf)
    rw [map3]
    match a with
    | ⟨0, _⟩ => show ((validWord i (experts pf)).toNat + 1) * 1 ≤ 8; omega
    | ⟨1, _⟩ => show (chunkOf i (valids pf) + 1) * 512 ≤ 7168; omega
    | ⟨2, _⟩ => show (0 + 1) * 2048 ≤ 2048; omega

end Cert.Proof.Moe

end
-- ==== Proof.Swiglu.lean ====
/- The gate of a SwiGLU layer, one entry of it. -/
module

public import Idealize.ShloMosaic.PureOps.Ideal

@[expose] public section

noncomputable section

namespace Cert.Proof

open Idealize.ShloMosaic

/-- SwiGLU's hidden entry: the gate passed through its sigmoid, times the other half. -/
def gated (g u : EReal) : EReal := g * Ideal.logistic g * u

end Cert.Proof

end
-- ==== Proof.MoeValue.lean ====
/- What the mixture-of-experts call computes: a row of a tile in use, through its tile's expert. The fourteen points of
   such a tile leave in the block the sum of their chunks (`leaves_sum`), which is the sum over all 7168 hidden units. -/
module

public import proofs.«01_k».proof.Proof.MoeTables
public import proofs.«01_k».proof.Proof.Swiglu
public import Idealize.ShloMosaic.Lib.Pointwise
public import Idealize.ShloMosaic.Lib.Pipeline.ValueKit
public import Idealize.ShloMosaic.Lib.Pipeline.ValueKit.Point
public import Idealize.ShloMosaic.Lib.Pipeline.ArrRel
public import Idealize.ShloMosaic.PureOps.Ideal.Laws

@[expose] public section

set_option maxRecDepth 16384

noncomputable section

namespace Cert.Proof.Moe

open Idealize.ShloMosaic Idealize.ShloMosaic.TcCoe Idealize.SL.Sem
open Idealize.ShloMosaic.Pipeline (RDat Cfg Window)
open Cert.MoeKernelIdeal Cert.MoeKernelIdeal.Gen

/-- One chunk's contribution to a block. -/
def chunk (x : Vec Ideal S768x2048 .f32) (g u : Vec Ideal S1x2048x512 .f32) (d : Vec Ideal S1x512x2048 .f32) (j : S768x2048.Idx) : EReal :=
  ∑ k : Fin 512, gated (∑ q : Fin 2048, x (ix2 (j 0) q) * g (ix3 0 q k)) (∑ q : Fin 2048, x (ix2 (j 0) q) * u (ix3 0 q k)) * d (ix3 0 k (j 1))

theorem pay1_apply (x : Vec Ideal S768x2048 .f32) (g u : Vec Ideal S1x2048x512 .f32) (d : Vec Ideal S1x512x2048 .f32) (j : S768x2048.Idx) :
    k0_pay1 (F := Ideal) x g u d j = chunk x g u d j := by
  unfold k0_pay1 chunk gated
  pointwise

theorem pay2_apply (x : Vec Ideal S768x2048 .f32) (g u : Vec Ideal S1x2048x512 .f32) (d : Vec Ideal S1x512x2048 .f32) (y : Vec Ideal S768x2048 .f32) (j : S768x2048.Idx) :
    k0_pay2 (F := Ideal) x g u d y j = y j + chunk x g u d j := by
  rw [← pay1_apply]
  unfold k0_pay2
  pointwise

/-- A row through an expert: the hidden unit `k` of row `r`. -/
def hidden (x : S23040x2048.Idx → EReal) (w : S8x2048x14336.Idx → EReal) (e : Fin 8) (r : Fin 23040) (k : Fin 7168) : EReal :=
  gated (∑ q : Fin 2048, x (ix2 r q) * w (ix3 e q ⟨k.val, by omega⟩)) (∑ q : Fin 2048, x (ix2 r q) * w (ix3 e q ⟨7168 + k.val, by omega⟩))

/-- The row `i 0` through expert `e`, at column `i 1`. -/
def spec (x : S23040x2048.Idx → EReal) (w : S8x2048x14336.Idx → EReal) (d : S8x7168x2048.Idx → EReal) (e : Fin 8) (i : S23040x2048.Idx) : EReal :=
  ∑ k : Fin 7168, hidden x w e (i 0) k * d (ix3 e k (i 1))

variable (m : (ℓ : Loc nD τ sig) → Buf (Elt Ideal) ℓ)

theorem points (hO : InRange m) : (pipe m hO).N = 420 := N_0

theorem coord0 (t : Fin grid0.N) : (grid0.coords t 0).val = t.val / 14 % 30 := Pipeline.Grid.coords_val t 0 (by decide) rfl
theorem coord1 (t : Fin grid0.N) : (grid0.coords t 1).val = t.val / 1 % 14 := Pipeline.Grid.coords_val t 1 (by decide) rfl

/-- The result's block is written back after a tile's last chunk. -/
theorem flush_iff (hO : InRange m) : ∀ t : Fin (pipe m hO).N, ((pipe m hO).win 4).flush t = true ↔ t.val % 14 = 13 :=
  (fun t => Pipeline.Window.flushOf_reads cc0_transform_4 reads0_4 hreads0_4 0 (by decide) (by decide) (Pipeline.Window.sep_of_coord cc0_transform_4 0 0 (fun _ => rfl) (by decide)) (P := 14) (m := 13) (by decide) rfl t
    : ∀ t : Fin grid0.N, Pipeline.Window.flushOf grid0 true cc0_transform_4 t = true ↔ t.val % 14 = 13)

/-- What the chunk at point `n` adds. -/
def addend (hO : InRange m) (c : Dev nD) (n : ℕ) (j : S768x2048.Idx) : EReal :=
  if h : n < (pipe m hO).N then chunk (blockAt m hO c 0 ⟨n, h⟩) (blockAt m hO c 1 ⟨n, h⟩) (blockAt m hO c 2 ⟨n, h⟩) (blockAt m hO c 3 ⟨n, h⟩) j else 0

/-- The word of tile `b`. -/
def word (f : S30.Idx → BitVec 32) (b : Fin 30) : BitVec 32 := f (fun a => match a with | ⟨0, _⟩ => b)

theorem validWord_eq (i : grid0.Coords) (f : S30.Idx → BitVec 32) : validWord i f = word f (i 0) := rfl

theorem step_first (i : grid0.Coords) (tv : S30.Idx → BitVec 32) (x : Vec Ideal S768x2048 .f32) (g u : Vec Ideal S1x2048x512 .f32) (d : Vec Ideal S1x512x2048 .f32) (y : Vec Ideal S768x2048 .f32)
    (hu : Scalar.cmpi .sgt (word tv (i 0)) 0#32 = 1#1) (h : (i 1).val = 0) (j : S768x2048.Idx) : step i tv x g u d y j = chunk x g u d j := by
  unfold step; rw [if_pos ((cond1_iff i tv).mpr hu), if_pos h, pay1_apply]

theorem step_next (i : grid0.Coords) (tv : S30.Idx → BitVec 32) (x : Vec Ideal S768x2048 .f32) (g u : Vec Ideal S1x2048x512 .f32) (d : Vec Ideal S1x512x2048 .f32) (y : Vec Ideal S768x2048 .f32)
    (hu : Scalar.cmpi .sgt (word tv (i 0)) 0#32 = 1#1) (h : ¬ (i 1).val = 0) (j : S768x2048.Idx) : step i tv x g u d y j = y j + chunk x g u d j := by
  unfold step; rw [if_pos ((cond1_iff i tv).mpr hu), if_neg h, pay2_apply]

/-- At a tile in use, a point leaves the sum of the chunks so far. -/
theorem leaves_sum (hO : InRange m) (c : Dev nD) (b : Fin 30) (hb : Scalar.cmpi .sgt (word (valids (tables m)) b) 0#32 = 1#1) :
    ∀ (s : ℕ) (t : Fin (pipe m hO).N), t.val = 14 * b.val + s → s < 14 → ∀ X, (data m hO c).Leaves 4 t X →
      ∀ j : S768x2048.Idx, X j = ∑ s' ∈ Finset.range (s + 1), addend m hO c (14 * b.val + s') j := by
  intro s
  induction s with
  | zero =>
    intro t ht hs X ⟨Y, hY, hX⟩ j
    have c0 : grid0.coords t 0 = b := Fin.ext (by rw [coord0]; omega)
    have c1 : (grid0.coords t 1).val = 0 := by rw [coord1]; omega
    have hX' : X = step (grid0.coords t) (tables m 1) (blockAt m hO c 0 t) (blockAt m hO c 1 t) (blockAt m hO c 2 t) (blockAt m hO c 3 t) Y := hX
    rw [hX']; refine (step_first _ (valids (tables m)) _ _ _ _ _ (by rw [c0]; exact hb) c1 j).trans ?_
    rw [Finset.sum_range_one]
    unfold addend
    rw [dif_pos (by rw [points]; omega)]
    have : (⟨14 * b.val + 0, by rw [points]; omega⟩ : Fin (pipe m hO).N) = t := Fin.ext (by dsimp only; omega)
    rw [this]
  | succ s ih =>
    intro t ht hs X ⟨Y, hY, hX⟩ j
    have c0 : grid0.coords t 0 = b := Fin.ext (by rw [coord0]; omega)
    have c1 : ¬ (grid0.coords t 1).val = 0 := by rw [coord1]; omega
    have hX' : X = step (grid0.coords t) (tables m 1) (blockAt m hO c 0 t) (blockAt m hO c 1 t) (blockAt m hO c 2 t) (blockAt m hO c 3 t) Y := hX
    have hN := points m hO
    have hY' := ((data m hO c).finds_of_pos (w := 4) (t := t) rfl (by omega) Y).mp hY
    have hL : (data m hO c).Leaves 4 ⟨t.val - 1, Nat.lt_of_le_of_lt (Nat.sub_le _ _) t.isLt⟩ Y := by
      rcases hY' with h | h
      · have := (flush_iff m hO _).mp h
        dsimp only at this; omega
      · exact h
    rw [hX']; refine (step_next _ (valids (tables m)) _ _ _ _ _ (by rw [c0]; exact hb) c1 j).trans ?_
    rw [Finset.sum_range_succ]
    rw [ih ⟨t.val - 1, _⟩ (by dsimp only; omega) (by omega) Y hL j]
    congr 1
    unfold addend
    rw [dif_pos (by rw [points]; omega)]
    have : (⟨14 * b.val + (s + 1), by rw [points]; omega⟩ : Fin (pipe m hO).N) = t := Fin.ext (by dsimp only; omega)
    rw [this]

theorem idx0 : ∀ t : Fin grid0.N, cc0_transform_0 (grid0.coords t) = ![t.val / 14, 0] := by decide +kernel
theorem idx4 : ∀ t : Fin grid0.N, cc0_transform_4 (grid0.coords t) = ![t.val / 14, 0] := by decide +kernel

/-- The block index of each window at point `s` of a tile in use. -/
theorem index_eq (hO : InRange m) (b : Fin 30) (hb : Scalar.cmpi .sgt (word (valids (tables m)) b) 0#32 = 1#1) (s : ℕ) (hs : s < 14)
    (t : Fin (pipe m hO).N) (ht : t.val = 14 * b.val + s) :
    ((pipe m hO).win 0).index t = ![b.val, 0] ∧ ((pipe m hO).win 1).index t = ![(word (experts (tables m)) b).toNat, 0, s]
    ∧ ((pipe m hO).win 2).index t = ![(word (experts (tables m)) b).toNat, 0, s + 14] ∧ ((pipe m hO).win 3).index t = ![(word (experts (tables m)) b).toNat, s, 0] := by
  have c0 : grid0.coords t 0 = b := Fin.ext (by rw [coord0]; omega)
  have c1 : (grid0.coords t 1).val = s := by rw [coord1]; omega
  have hk : chunkOf (grid0.coords t) (valids (tables m)) = s := by
    unfold chunkOf InUse; rw [validWord_eq, c0, if_pos hb, c1]
  have hw : validWord (grid0.coords t) (experts (tables m)) = word (experts (tables m)) b := by rw [validWord_eq, c0]
  refine ⟨?_, ?_, ?_, ?_⟩
  · refine (idx0 t).trans ?_
    rw [show t.val / 14 = b.val by omega]
  · refine (map1 (tables m) (grid0.coords t)).trans ?_
    rw [hk, hw]
  · refine (map2 (tables m) (grid0.coords t)).trans ?_
    rw [hk, hw]
  · refine (map3 (tables m) (grid0.coords t)).trans ?_
    rw [hk, hw]

/-- The sum of a tile's chunks is its rows through its expert. -/
theorem chunks_eq (hO : InRange m) (c : Dev nD) (b : Fin 30) (hb : Scalar.cmpi .sgt (word (valids (tables m)) b) 0#32 = 1#1)
    (e : Fin 8) (he : (word (experts (tables m)) b).toNat = e.val) (i : S23040x2048.Idx) (j : S768x2048.Idx) (h0 : (i 0).val = 768 * b.val + (j 0).val) (h1 : (i 1).val = (j 1).val) :
    ∑ s ∈ Finset.range 14, addend m hO c (14 * b.val + s) j
      = spec (m ((c : Thread nD τ).loc main_arg2)) (m ((c : Thread nD τ).loc main_arg3)) (m ((c : Thread nD τ).loc main_arg4)) e i := by
  unfold spec
  rw [Fin.sum_univ_tiles 14 512 rfl, Finset.sum_range]
  refine Finset.sum_congr rfl fun s _ => ?_
  have hlt : 14 * b.val + s.val < (pipe m hO).N := by rw [points]; omega
  have hj0 : (j 0).val < 768 := (j 0).isLt
  have := index_eq m hO b hb s.val s.isLt ⟨_, hlt⟩ rfl
  rw [he] at this
  unfold addend
  rw [dif_pos hlt]
  unfold chunk hidden
  refine Finset.sum_congr rfl fun k _ => ?_
  refine congr (congrArg _ (congr (congrArg _ (Finset.sum_congr rfl fun q _ => ?_)) (Finset.sum_congr rfl fun q _ => ?_))) ?_
  · refine congr (congrArg _ ?_) ?_ <;> blk_ext [blockAt, entry, this]
  · refine congr (congrArg _ ?_) ?_ <;> blk_ext [blockAt, entry, this]
  · blk_ext [blockAt, entry, this]

/-- The tile a row lies in. -/
def tileOf (i : S23040x2048.Idx) : Fin 30 := ⟨(i 0).val / 768, by have h : (i 0).val < 23040 := (i 0).isLt; omega⟩

theorem nblk4 (hO : InRange m) : ((pipe m hO).win 4).nblk ⟨0, show 0 < 2 by omega⟩ = 30 ∧ ((pipe m hO).win 4).nblk ⟨1, show 1 < 2 by omega⟩ = 1 := by
  have a0 : ((pipe m hO).win 4).shape.size ⟨0, show 0 < 2 by omega⟩ = 23040 := rfl
  have a1 : ((pipe m hO).win 4).shape.size ⟨1, show 1 < 2 by omega⟩ = 2048 := rfl
  have b0 : ((pipe m hO).win 4).size ⟨0, show 0 < 2 by omega⟩ = 768 := rfl
  have b1 : ((pipe m hO).win 4).size ⟨1, show 1 < 2 by omega⟩ = 2048 := rfl
  refine ⟨?_, ?_⟩
  · unfold Pipeline.Window.nblk; rw [a0, b0]
  · unfold Pipeline.Window.nblk; rw [a1, b1]

theorem covers4 (hO : InRange m) : ((pipe m hO).win 4).Covers := by
  refine ⟨fun a => ?_, fun β => ?_⟩
  · match a with
    | ⟨0, _⟩ => show 0 < 768; omega
    | ⟨1, _⟩ => show 0 < 2048; omega
  · obtain ⟨b, hb⟩ : ∃ b : Fin 30, b.val = (β ⟨0, show 0 < 2 by omega⟩).val := ⟨⟨(β ⟨0, show 0 < 2 by omega⟩).val, (β ⟨0, show 0 < 2 by omega⟩).isLt.trans_eq (nblk4 m hO).1⟩, rfl⟩
    obtain ⟨z, hz⟩ : ∃ z : Fin 1, z.val = (β ⟨1, show 1 < 2 by omega⟩).val := ⟨⟨(β ⟨1, show 1 < 2 by omega⟩).val, (β ⟨1, show 1 < 2 by omega⟩).isLt.trans_eq (nblk4 m hO).2⟩, rfl⟩
    have hlt : 14 * b.val + 13 < (pipe m hO).N := lt_of_lt_of_eq (show 14 * b.val + 13 < 420 by omega) (points m hO).symm
    refine ⟨⟨14 * b.val + 13, hlt⟩, (flush_iff m hO _).mpr (by dsimp only; omega), fun a => ?_⟩
    have e : ((pipe m hO).win 4).index ⟨14 * b.val + 13, hlt⟩ = ![(14 * b.val + 13) / 14, 0] := idx4 ⟨14 * b.val + 13, hlt⟩
    rw [e]
    match a with
    | ⟨0, _⟩ => exact ⟨Eq.trans (show (14 * b.val + 13) / 14 = b.val by omega) hb, .inl rfl⟩
    | ⟨1, _⟩ => exact ⟨Eq.trans (show 0 = z.val by omega) hz, .inl rfl⟩

/-- Where an element of the result's block at a point lies in the result. -/
def posAt (hO : InRange m) (t : Fin (pipe m hO).N) (y : S768x2048.Idx) : S23040x2048.Idx := (((pipe m hO).win 4).blk t).view.emb y

theorem posAt_zero (hO : InRange m) (t : Fin (pipe m hO).N) (y : S768x2048.Idx) : (posAt m hO t y 0).val = 768 * (t.val / 14) + (y 0).val := by
  have hx : ((pipe m hO).win 4).index t = ![t.val / 14, 0] := idx4 t
  unfold posAt
  blk_simp [hx]
  omega

theorem posAt_one (hO : InRange m) (t : Fin (pipe m hO).N) (y : S768x2048.Idx) : (posAt m hO t y 1).val = (y 1).val := by
  have hx : ((pipe m hO).win 4).index t = ![t.val / 14, 0] := idx4 t
  unfold posAt
  blk_simp [hx]

/-- After a run, a row of a tile in use is the row through the tile's expert. -/
theorem result_apply (hO : InRange m) (r : PUnit × MemSt nD τ sig (Elt Ideal))
    (h : RDat.FramePost ((Pipeline.pin pcfgs fun _ => admissible m hO) 0) (data m hO) (entry m) r) (c : Dev nD) (i : S23040x2048.Idx)
    (hi : Scalar.cmpi .sgt (word (valids (tables m)) (tileOf i)) 0#32 = 1#1)
    (e : Fin 8) (he : (word (experts (tables m)) (tileOf i)).toNat = e.val) :
    r.2.mem ((c : Thread nD τ).loc main_v0) i
      = spec (m ((c : Thread nD τ).loc main_arg2)) (m ((c : Thread nD τ).loc main_arg3)) (m ((c : Thread nD τ).loc main_arg4)) e i := by
  obtain ⟨after, hL, hA⟩ := h.exists_exact c
  have hr : r.2.mem ((c : Thread nD τ).loc main_v0) = ((data m hO c).withAfter after).arrAt 4 (pipe m hO).N := hA 4
  rw [hr]
  suffices H : ∀ (t : Fin (pipe m hO).N), t.val % 14 = 13 → ∀ y : S768x2048.Idx, ∀ X : S768x2048.Idx → EReal, (data m hO c).Leaves 4 t X →
      ∀ e : Fin 8, Scalar.cmpi .sgt (word (valids (tables m)) (tileOf (posAt m hO t y))) 0#32 = 1#1 →
        (word (experts (tables m)) (tileOf (posAt m hO t y))).toNat = e.val →
        X y = spec (m ((c : Thread nD τ).loc main_arg2)) (m ((c : Thread nD τ).loc main_arg3)) (m ((c : Thread nD τ).loc main_arg4)) e (posAt m hO t y) by
    exact Pipeline.Dat.arrAt_forall_of_covers ((data m hO c).withAfter after) (4 : Fin 5) (P := fun i v => ∀ e : Fin 8, Scalar.cmpi .sgt (word (valids (tables m)) (tileOf i)) 0#32 = 1#1 →
      (word (experts (tables m)) (tileOf i)).toNat = e.val →
      v = spec (m ((c : Thread nD τ).loc main_arg2)) (m ((c : Thread nD τ).loc main_arg3)) (m ((c : Thread nD τ).loc main_arg4)) e i)
      (covers4 m hO) (fun t hf y => H t ((flush_iff m hO t).mp hf) y _ (hL 4 t hf)) i (Memref.isWhole_whole _) e hi he
  intro t hm y X hl e hi he
  have hN := points m hO
  have ht : t.val < 420 := by have := t.isLt; omega
  have hy0 : (y 0).val < 768 := (y 0).isLt
  have hb : tileOf (posAt m hO t y) = ⟨t.val / 14, by omega⟩ := by
    apply Fin.ext; unfold tileOf; dsimp only; rw [posAt_zero]; omega
  rw [hb] at hi he
  refine Eq.trans ?_ (chunks_eq m hO c ⟨t.val / 14, by omega⟩ hi e he _ y (posAt_zero m hO t y) (posAt_one m hO t y))
  exact leaves_sum m hO c ⟨t.val / 14, by omega⟩ hi 13 t (by dsimp only; omega) (by omega) X hl y

end Cert.Proof.Moe

end
-- ==== Proof.MoeReference.lean ====
/- The plain layer over experts, read at an index: every expert's layer of every row, gated by the row's one-hot expert. -/
module

public import proofs.«01_k».proof.Proof.MoeValue
public import proofs.«01_k».proof.Proof.Gen.MoeReferenceIdeal.Read
public import proofs.«01_k».proof.Proof.Gen.On_valid_rows
public import Idealize.ShloMosaic.Lib.StableHlo.Predicate
public import Idealize.ShloMosaic.Lib.Routing.Words

@[expose] public section

set_option maxRecDepth 16384

noncomputable section

namespace Cert.Proof.Moe
open Idealize.ShloMosaic
open Cert.MoeReferenceIdeal.Read Cert.MoeReferenceIdeal.Gen

/-! ## The tile of a row -/

/-- The sign of a word. -/
def sign (x : BitVec 32) : BitVec 32 := if x = 0 then 0 else if x.msb then -1 else 1

/-- Rounding the quotient of two words down: one less where the signs differ and a remainder is left. -/
def quotient (x y : BitVec 32) : BitVec 32 :=
  Scalar.select (IntOp.andi (IntOp.cmpi .ne (sign x) (sign y))
    (IntOp.cmpi .ne (IntOp.remsi .host x y) 0#32)) (IntOp.subi (IntOp.divsi .host x y) 1#32) (IntOp.divsi .host x y)

theorem quotient_word (n : ℕ) (hn : n < 23040) : quotient (BitVec.ofNat 32 n) 768#32 = BitVec.ofNat 32 (n / 768) := by
  have hd : IntOp.divsi .host (BitVec.ofNat 32 n) 768#32 = BitVec.ofNat 32 (n / 768) := Routing.divsi_word .host (by omega) (by omega) (by omega)
  have hr : IntOp.remsi .host (BitVec.ofNat 32 n) 768#32 = BitVec.ofNat 32 (n % 768) := Routing.remsi_word .host (by omega) (by omega) (by omega)
  unfold quotient
  rw [hd, hr]
  rcases Nat.eq_zero_or_pos n with rfl | hp
  · decide
  · have h0 : ¬ BitVec.ofNat 32 n = 0 := Routing.ofNat32_ne_zero hp (by omega)
    have hm : (BitVec.ofNat 32 n).msb = false := Routing.msb_ofNat32 (by omega)
    have hs : sign (BitVec.ofNat 32 n) = 1#32 := by
      unfold sign
      rw [if_neg h0, hm]
      rfl
    have hz : ∀ p : BitVec 1, IntOp.andi (IntOp.cmpi .ne 1#32 (sign 768#32)) p = 0#1 := by decide
    rw [hs, hz]
    rfl

/-- The word of the tile a row lies in. -/
theorem rowTile (p : Fin 23040) : val_main_v6 (F := Ideal) (Shape.Idx.ofFin p) = BitVec.ofNat 32 (p.val / 768) := by
  have h1 : val_main_v1 (F := Ideal) (Shape.Idx.ofFin p) = BitVec.ofNat 32 (p.val / 768) :=
    (show val_main_v1 (F := Ideal) (Shape.Idx.ofFin p) = quotient (BitVec.ofNat 32 p.val) 768#32 from rfl).trans (quotient_word p.val p.isLt)
  have h : val_main_v6 (F := Ideal) (Shape.Idx.ofFin p) = Scalar.select (IntOp.cmpi .slt (val_main_v1 (F := Ideal) (Shape.Idx.ofFin p)) 0#32)
    (IntOp.addi (val_main_v1 (F := Ideal) (Shape.Idx.ofFin p)) 30#32) (val_main_v1 (F := Ideal) (Shape.Idx.ofFin p)) := rfl
  rw [h, h1]
  have hp := p.isLt
  obtain ⟨q, hq⟩ : ∃ q : Fin 30, q.val = p.val / 768 := ⟨⟨p.val / 768, by omega⟩, rfl⟩
  rw [← hq]
  clear hq
  revert q
  decide +kernel

/-- Taking a table at the rows' tiles gives a row its tile's word. -/
theorem row_take (f : Cert.MoeReferenceIdeal.S30.Idx → BitVec 32) (p : Fin 23040) :
    val_main_v8 (F := Ideal) f (Shape.Idx.ofFin p) = word f ⟨p.val / 768, by omega⟩ := by
  unfold val_main_v8
  refine (StableHlo.Predicate.gather_take _ rfl rfl rfl rfl f _ p (by omega)).trans ?_
  have h : val_main_v7 (F := Ideal) (StableHlo.Predicate.ixP p) = BitVec.ofNat 32 (p.val / 768) := rowTile p
  have hp := p.isLt
  have e : min (BitVec.ofNat 32 (p.val / 768)).toInt.toNat (30 - 1) = p.val / 768 := by
    obtain ⟨q, hq⟩ : ∃ q : Fin 30, q.val = p.val / 768 := ⟨⟨p.val / 768, by omega⟩, rfl⟩
    rw [← hq]
    clear hq
    revert q
    decide +kernel
  unfold word
  congr 1
  funext a
  match a with
  | ⟨0, _⟩ => exact Fin.ext (by show min (val_main_v7 (F := Ideal) (StableHlo.Predicate.ixP p)).toInt.toNat (30 - 1) = p.val / 768; rw [h]; exact e)

/-- The mask of rows compared, read at an index: the row's tile is in use. -/
theorem mask_apply (te tv : Cert.On_valid_rows.S30.Idx → BitVec 32) (x : FVec Ideal Cert.On_valid_rows.S23040x2048 .f32)
    (w : FVec Ideal Cert.On_valid_rows.S8x2048x14336 .f32) (d : FVec Ideal Cert.On_valid_rows.S8x7168x2048 .f32) (i : Cert.On_valid_rows.S23040x2048.Idx) :
    Cert.On_valid_rows.fn (F := Ideal) te tv x w d i = Scalar.cmpi .sgt (word tv (tileOf i)) 0#32 := by
  have h : Cert.On_valid_rows.fn (F := Ideal) te tv x w d
      = broadcastInDim Cert.On_valid_rows.S23040x2048 ![0, 1] Cert.On_valid_rows.Facts.bcast_S23040x1_S23040x2048_0_1
        (broadcastInDim Cert.On_valid_rows.S23040x1 ![0] Cert.On_valid_rows.Facts.bcast_S23040_S23040x1_0
          (fun j => IntOp.cmpi .sgt (val_main_v8 (F := Ideal) tv j) 0#32)) := rfl
  refine (congrFun h i).trans ((broadcastInDim_apply _ _ _ i (ix2 (i 0) (0 : Fin 1)) (fun a => match a with
      | ⟨0, _⟩ => by show (i 0).val = if (23040 : Nat) = 1 then 0 else (i 0).val; rw [if_neg (by decide)]
      | ⟨1, _⟩ => by show 0 = if (1 : Nat) = 1 then 0 else (i 1).val; rw [if_pos rfl])).trans
    ((broadcastInDim_apply _ _ _ (ix2 (i 0) (0 : Fin 1)) (Shape.Idx.ofFin (i 0)) (fun a => match a with
      | ⟨0, _⟩ => by show (i 0).val = if (23040 : Nat) = 1 then 0 else (i 0).val; rw [if_neg (by decide)])).trans ?_))
  exact congrArg (fun z => IntOp.cmpi .sgt z 0#32) (row_take tv (i 0))

/-! ## One expert's layer -/

section
open Cert.MoeReferenceIdeal

/-- One expert's layer of every row, as the reference writes it. -/
def plain (x : FVec Ideal S23040x2048 .f32) (w : FVec Ideal S2048x14336 .f32) (d : FVec Ideal S7168x2048 .f32) : FVec Ideal S23040x2048 .f32 :=
  let p := Host.dotGeneral dot_S23040x2048_S2048x14336_S23040x14336_1_0_0_1_n_n none x w
  let g := extractStridedSlice S23040x7168 ![0, 0] p slices_S23040x14336_S23040x7168_0_0
  let u := extractStridedSlice S23040x7168 ![0, 7168] p slices_S23040x14336_S23040x7168_0_7168
  let one := broadcastInDim S23040x7168 ![] bcast_S_S23040x7168 (constant S_ .f32 0x3F800000#32)
  Host.dotGeneral dot_S23040x7168_S7168x2048_S23040x2048_1_0_0_1_n_n none (mulf (mulf g (Host.divf one (addf one (Host.exp (Host.negf g))))) u) d

theorem plain_apply (x : FVec Ideal S23040x2048 .f32) (w : FVec Ideal S2048x14336 .f32) (d : FVec Ideal S7168x2048 .f32) (i : S23040x2048.Idx) :
    plain x w d i = (∑ k : Fin 7168, gated (∑ q : Fin 2048, x (ix2 (i 0) q) * w (ix2 q ⟨k.val, by omega⟩))
      (∑ q : Fin 2048, x (ix2 (i 0) q) * w (ix2 q ⟨7168 + k.val, by omega⟩)) * d (ix2 k (i 1)) : EReal) := by
  unfold plain
  dsimp only
  unfold gated
  pointwise
  rfl

/-- The position an expert's first weights are read at. -/
theorem up_at (f : S8x2048x14336.Idx) (e : Fin 8) (q : Fin 2048) (k : Fin 14336) (h0 : (f 0).val = e.val)
    (h1 : (f 1).val = (q.val * 14336 + k.val) / 14336 % 2048) (h2 : (f 2).val = (q.val * 14336 + k.val) % 14336) : f = ix3 e q k := by
  funext a
  match a with
  | ⟨0, _⟩ => exact Fin.ext h0
  | ⟨1, _⟩ => exact Fin.ext (h1.trans (show (q.val * 14336 + k.val) / 14336 % 2048 = q.val by omega))
  | ⟨2, _⟩ => exact Fin.ext (h2.trans (show (q.val * 14336 + k.val) % 14336 = k.val by omega))

/-- The position an expert's second weights are read at. -/
theorem down_at (f : S8x7168x2048.Idx) (e : Fin 8) (q : Fin 7168) (k : Fin 2048) (h0 : (f 0).val = e.val)
    (h1 : (f 1).val = (q.val * 2048 + k.val) / 2048 % 7168) (h2 : (f 2).val = (q.val * 2048 + k.val) % 2048) : f = ix3 e q k := by
  funext a
  match a with
  | ⟨0, _⟩ => exact Fin.ext h0
  | ⟨1, _⟩ => exact Fin.ext (h1.trans (show (q.val * 2048 + k.val) / 2048 % 7168 = q.val by omega))
  | ⟨2, _⟩ => exact Fin.ext (h2.trans (show (q.val * 2048 + k.val) % 2048 = k.val by omega))

/-- One expert's layer of every row, the expert's weights read out of all of them. -/
theorem plain_spec (x : FVec Ideal S23040x2048 .f32) (w : FVec Ideal S8x2048x14336 .f32) (d : FVec Ideal S8x7168x2048 .f32) (e : Fin 8)
    (w' : FVec Ideal S2048x14336 .f32) (d' : FVec Ideal S7168x2048 .f32) (hw : ∀ q k, w' (ix2 q k) = w (ix3 e q k))
    (hd : ∀ q k, d' (ix2 q k) = d (ix3 e q k)) (i : S23040x2048.Idx) : plain x w' d' i = spec x w d e i := by
  rw [plain_apply]
  simp only [hw]
  exact Finset.sum_congr rfl fun k _ => congrArg (_ * ·) (hd k (i 1))

/-- A row's gate for an expert: one for the row's own, zero for the others. -/
def gate (te : S30.Idx → BitVec 32) (i : S23040x2048.Idx) (e : Fin 8) : EReal := if (word te (tileOf i)).toNat = e.val then 1 else 0

theorem gate_apply (te : S30.Idx → BitVec 32) (i : S23040x2048.Idx) (e : Fin 8) :
    val_main_v9 (F := Ideal) te (ix2 (i 0) e) = gate te i e := by
  rw [val_main_v9_apply]
  have h : val_main_call1_v4 (F := Ideal) te (ix2 (i 0) e) = IntOp.cmpi .eq (word te (tileOf i)) (BitVec.ofNat 32 e.val) := by
    rw [val_main_call1_v4_apply, val_main_call1_v2_apply, val_main_call1_v0_apply]
    exact congrArg (fun z => IntOp.cmpi .eq z (BitVec.ofNat 32 e.val)) (row_take te (i 0))
  rw [h]
  unfold gate
  generalize word te (tileOf i) = b
  by_cases hb : b.toNat = e.val
  · obtain rfl : b = BitVec.ofNat 32 e.val := BitVec.eq_of_toNat_eq (by rw [hb, BitVec.toNat_ofNat]; omega)
    rw [if_pos hb, (show IntOp.cmpi .eq (BitVec.ofNat 32 e.val) (BitVec.ofNat 32 e.val) = 1#1 by simp [IntOp.cmpi])]
    show (((1#1 : BitVec 1).toNat : ℝ) : EReal) = 1
    simp
  · have hn : ¬ b = BitVec.ofNat 32 e.val := fun h => hb (by rw [h, BitVec.toNat_ofNat]; omega)
    rw [if_neg hb, (show IntOp.cmpi .eq b (BitVec.ofNat 32 e.val) = 0#1 by unfold IntOp.cmpi; dsimp only; rw [beq_eq_false_iff_ne.mpr hn]; rfl)]
    show (((0#1 : BitVec 1).toNat : ℝ) : EReal) = 0
    simp

end

theorem expert0 (te : Cert.MoeReferenceIdeal.S30.Idx → BitVec 32) (x : FVec Ideal Cert.MoeReferenceIdeal.S23040x2048 .f32)
    (w : FVec Ideal Cert.MoeReferenceIdeal.S8x2048x14336 .f32) (d : FVec Ideal Cert.MoeReferenceIdeal.S8x7168x2048 .f32) (i : Cert.MoeReferenceIdeal.S23040x2048.Idx) :
    val_main_v23 (F := Ideal) te x w d i = (spec x w d 0 i * gate te i 0 : EReal) := by
  have h : val_main_v20 (F := Ideal) x w d i = spec x w d 0 i :=
    plain_spec x w d 0 (val_main_v12 (F := Ideal) w) (val_main_v14 (F := Ideal) d)
      (fun q k => by rw [val_main_v12_apply, val_main_v11_apply]; exact congrArg w (up_at _ _ q k rfl rfl rfl))
      (fun q k => by rw [val_main_v14_apply, val_main_v13_apply]; exact congrArg d (down_at _ _ q k rfl rfl rfl)) i
  have hg : val_main_v22 (F := Ideal) te i = gate te i 0 := by
    rw [val_main_v22_apply, val_main_v21_apply]
    exact (congrArg (val_main_v9 (F := Ideal) te) (funext fun a => by match a with | ⟨0, _⟩ => rfl | ⟨1, _⟩ => rfl)).trans (gate_apply te i 0)
  rw [val_main_v23_apply, h, hg]
  rfl

theorem expert1 (te : Cert.MoeReferenceIdeal.S30.Idx → BitVec 32) (x : FVec Ideal Cert.MoeReferenceIdeal.S23040x2048 .f32)
    (w : FVec Ideal Cert.MoeReferenceIdeal.S8x2048x14336 .f32) (d : FVec Ideal Cert.MoeReferenceIdeal.S8x7168x2048 .f32) (i : Cert.MoeReferenceIdeal.S23040x2048.Idx) :
    val_main_v37 (F := Ideal) te x w d i = (spec x w d 1 i * gate te i 1 : EReal) := by
  have h : val_main_v34 (F := Ideal) x w d i = spec x w d 1 i :=
    plain_spec x w d 1 (val_main_v26 (F := Ideal) w) (val_main_v28 (F := Ideal) d)
      (fun q k => by rw [val_main_v26_apply, val_main_v25_apply]; exact congrArg w (up_at _ _ q k rfl rfl rfl))
      (fun q k => by rw [val_main_v28_apply, val_main_v27_apply]; exact congrArg d (down_at _ _ q k rfl rfl rfl)) i
  have hg : val_main_v36 (F := Ideal) te i = gate te i 1 := by
    rw [val_main_v36_apply, val_main_v35_apply]
    exact (congrArg (val_main_v9 (F := Ideal) te) (funext fun a => by match a with | ⟨0, _⟩ => rfl | ⟨1, _⟩ => rfl)).trans (gate_apply te i 1)
  rw [val_main_v37_apply, h, hg]
  rfl

theorem expert2 (te : Cert.MoeReferenceIdeal.S30.Idx → BitVec 32) (x : FVec Ideal Cert.MoeReferenceIdeal.S23040x2048 .f32)
    (w : FVec Ideal Cert.MoeReferenceIdeal.S8x2048x14336 .f32) (d : FVec Ideal Cert.MoeReferenceIdeal.S8x7168x2048 .f32) (i : Cert.MoeReferenceIdeal.S23040x2048.Idx) :
    val_main_v51 (F := Ideal) te x w d i = (spec x w d 2 i * gate te i 2 : EReal) := by
  have h : val_main_v48 (F := Ideal) x w d i = spec x w d 2 i :=
    plain_spec x w d 2 (val_main_v40 (F := Ideal) w) (val_main_v42 (F := Ideal) d)
      (fun q k => by rw [val_main_v40_apply, val_main_v39_apply]; exact congrArg w (up_at _ _ q k rfl rfl rfl))
      (fun q k => by rw [val_main_v42_apply, val_main_v41_apply]; exact congrArg d (down_at _ _ q k rfl rfl rfl)) i
  have hg : val_main_v50 (F := Ideal) te i = gate te i 2 := by
    rw [val_main_v50_apply, val_main_v49_apply]
    exact (congrArg (val_main_v9 (F := Ideal) te) (funext fun a => by match a with | ⟨0, _⟩ => rfl | ⟨1, _⟩ => rfl)).trans (gate_apply te i 2)
  rw [val_main_v51_apply, h, hg]
  rfl

theorem expert3 (te : Cert.MoeReferenceIdeal.S30.Idx → BitVec 32) (x : FVec Ideal Cert.MoeReferenceIdeal.S23040x2048 .f32)
    (w : FVec Ideal Cert.MoeReferenceIdeal.S8x2048x14336 .f32) (d : FVec Ideal Cert.MoeReferenceIdeal.S8x7168x2048 .f32) (i : Cert.MoeReferenceIdeal.S23040x2048.Idx) :
    val_main_v65 (F := Ideal) te x w d i = (spec x w d 3 i * gate te i 3 : EReal) := by
  have h : val_main_v62 (F := Ideal) x w d i = spec x w d 3 i :=
    plain_spec x w d 3 (val_main_v54 (F := Ideal) w) (val_main_v56 (F := Ideal) d)
      (fun q k => by rw [val_main_v54_apply, val_main_v53_apply]; exact congrArg w (up_at _ _ q k rfl rfl rfl))
      (fun q k => by rw [val_main_v56_apply, val_main_v55_apply]; exact congrArg d (down_at _ _ q k rfl rfl rfl)) i
  have hg : val_main_v64 (F := Ideal) te i = gate te i 3 := by
    rw [val_main_v64_apply, val_main_v63_apply]
    exact (congrArg (val_main_v9 (F := Ideal) te) (funext fun a => by match a with | ⟨0, _⟩ => rfl | ⟨1, _⟩ => rfl)).trans (gate_apply te i 3)
  rw [val_main_v65_apply, h, hg]
  rfl

theorem expert4 (te : Cert.MoeReferenceIdeal.S30.Idx → BitVec 32) (x : FVec Ideal Cert.MoeReferenceIdeal.S23040x2048 .f32)
    (w : FVec Ideal Cert.MoeReferenceIdeal.S8x2048x14336 .f32) (d : FVec Ideal Cert.MoeReferenceIdeal.S8x7168x2048 .f32) (i : Cert.MoeReferenceIdeal.S23040x2048.Idx) :
    val_main_v79 (F := Ideal) te x w d i = (spec x w d 4 i * gate te i 4 : EReal) := by
  have h : val_main_v76 (F := Ideal) x w d i = spec x w d 4 i :=
    plain_spec x w d 4 (val_main_v68 (F := Ideal) w) (val_main_v70 (F := Ideal) d)
      (fun q k => by rw [val_main_v68_apply, val_main_v67_apply]; exact congrArg w (up_at _ _ q k rfl rfl rfl))
      (fun q k => by rw [val_main_v70_apply, val_main_v69_apply]; exact congrArg d (down_at _ _ q k rfl rfl rfl)) i
  have hg : val_main_v78 (F := Ideal) te i = gate te i 4 := by
    rw [val_main_v78_apply, val_main_v77_apply]
    exact (congrArg (val_main_v9 (F := Ideal) te) (funext fun a => by match a with | ⟨0, _⟩ => rfl | ⟨1, _⟩ => rfl)).trans (gate_apply te i 4)
  rw [val_main_v79_apply, h, hg]
  rfl

theorem expert5 (te : Cert.MoeReferenceIdeal.S30.Idx → BitVec 32) (x : FVec Ideal Cert.MoeReferenceIdeal.S23040x2048 .f32)
    (w : FVec Ideal Cert.MoeReferenceIdeal.S8x2048x14336 .f32) (d : FVec Ideal Cert.MoeReferenceIdeal.S8x7168x2048 .f32) (i : Cert.MoeReferenceIdeal.S23040x2048.Idx) :
    val_main_v93 (F := Ideal) te x w d i = (spec x w d 5 i * gate te i 5 : EReal) := by
  have h : val_main_v90 (F := Ideal) x w d i = spec x w d 5 i :=
    plain_spec x w d 5 (val_main_v82 (F := Ideal) w) (val_main_v84 (F := Ideal) d)
      (fun q k => by rw [val_main_v82_apply, val_main_v81_apply]; exact congrArg w (up_at _ _ q k rfl rfl rfl))
      (fun q k => by rw [val_main_v84_apply, val_main_v83_apply]; exact congrArg d (down_at _ _ q k rfl rfl rfl)) i
  have hg : val_main_v92 (F := Ideal) te i = gate te i 5 := by
    rw [val_main_v92_apply, val_main_v91_apply]
    exact (congrArg (val_main_v9 (F := Ideal) te) (funext fun a => by match a with | ⟨0, _⟩ => rfl | ⟨1, _⟩ => rfl)).trans (gate_apply te i 5)
  rw [val_main_v93_apply, h, hg]
  rfl

theorem expert6 (te : Cert.MoeReferenceIdeal.S30.Idx → BitVec 32) (x : FVec Ideal Cert.MoeReferenceIdeal.S23040x2048 .f32)
    (w : FVec Ideal Cert.MoeReferenceIdeal.S8x2048x14336 .f32) (d : FVec Ideal Cert.MoeReferenceIdeal.S8x7168x2048 .f32) (i : Cert.MoeReferenceIdeal.S23040x2048.Idx) :
    val_main_v107 (F := Ideal) te x w d i = (spec x w d 6 i * gate te i 6 : EReal) := by
  have h : val_main_v104 (F := Ideal) x w d i = spec x w d 6 i :=
    plain_spec x w d 6 (val_main_v96 (F := Ideal) w) (val_main_v98 (F := Ideal) d)
      (fun q k => by rw [val_main_v96_apply, val_main_v95_apply]; exact congrArg w (up_at _ _ q k rfl rfl rfl))
      (fun q k => by rw [val_main_v98_apply, val_main_v97_apply]; exact congrArg d (down_at _ _ q k rfl rfl rfl)) i
  have hg : val_main_v106 (F := Ideal) te i = gate te i 6 := by
    rw [val_main_v106_apply, val_main_v105_apply]
    exact (congrArg (val_main_v9 (F := Ideal) te) (funext fun a => by match a with | ⟨0, _⟩ => rfl | ⟨1, _⟩ => rfl)).trans (gate_apply te i 6)
  rw [val_main_v107_apply, h, hg]
  rfl

theorem expert7 (te : Cert.MoeReferenceIdeal.S30.Idx → BitVec 32) (x : FVec Ideal Cert.MoeReferenceIdeal.S23040x2048 .f32)
    (w : FVec Ideal Cert.MoeReferenceIdeal.S8x2048x14336 .f32) (d : FVec Ideal Cert.MoeReferenceIdeal.S8x7168x2048 .f32) (i : Cert.MoeReferenceIdeal.S23040x2048.Idx) :
    val_main_v121 (F := Ideal) te x w d i = (spec x w d 7 i * gate te i 7 : EReal) := by
  have h : val_main_v118 (F := Ideal) x w d i = spec x w d 7 i :=
    plain_spec x w d 7 (val_main_v110 (F := Ideal) w) (val_main_v112 (F := Ideal) d)
      (fun q k => by rw [val_main_v110_apply, val_main_v109_apply]; exact congrArg w (up_at _ _ q k rfl rfl rfl))
      (fun q k => by rw [val_main_v112_apply, val_main_v111_apply]; exact congrArg d (down_at _ _ q k rfl rfl rfl)) i
  have hg : val_main_v120 (F := Ideal) te i = gate te i 7 := by
    rw [val_main_v120_apply, val_main_v119_apply]
    exact (congrArg (val_main_v9 (F := Ideal) te) (funext fun a => by match a with | ⟨0, _⟩ => rfl | ⟨1, _⟩ => rfl)).trans (gate_apply te i 7)
  rw [val_main_v121_apply, h, hg]
  rfl

/-- The reference's result at an index is the row through its tile's expert. -/
theorem reference_apply (te : Cert.MoeReferenceIdeal.S30.Idx → BitVec 32) (x : FVec Ideal Cert.MoeReferenceIdeal.S23040x2048 .f32)
    (w : FVec Ideal Cert.MoeReferenceIdeal.S8x2048x14336 .f32) (d : FVec Ideal Cert.MoeReferenceIdeal.S8x7168x2048 .f32) (i : Cert.MoeReferenceIdeal.S23040x2048.Idx)
    (e : Fin 8) (he : (word te (tileOf i)).toNat = e.val) : val_main_v122 (F := Ideal) te x w d i = (spec x w d e i : EReal) := by
  have hz : val_main_v10 (F := Ideal) i = (0 : EReal) := by
    unfold val_main_v10 val_main_cst
    pointwise
  rw [val_main_v122_apply, val_main_v108_apply, val_main_v94_apply, val_main_v80_apply, val_main_v66_apply, val_main_v52_apply, val_main_v38_apply, val_main_v24_apply, hz, expert0, expert1, expert2, expert3, expert4, expert5, expert6, expert7]
  unfold gate
  rw [he]
  show ((0 : EReal) + spec x w d 0 i * _ + spec x w d 1 i * _ + spec x w d 2 i * _ + spec x w d 3 i * _ + spec x w d 4 i * _ + spec x w d 5 i * _
    + spec x w d 6 i * _ + spec x w d 7 i * _) = spec x w d e i
  clear he hz
  revert e
  intro e
  fin_cases e <;> simp

end Cert.Proof.Moe

end
-- ==== Proof.MoeClaim.lean ====
/- The claims of the layer over experts, from the run of the kernel and the reading of the reference. -/
module

public import proofs.«01_k».proof.Proof.MoeReference
public import proofs.«01_k».proof.Proof.Gen.MoeKernel
public import proofs.«01_k».proof.Proof.Gen.MoeReferenceIdeal.Run
public import proofs.«01_k».proof.Proof.Gen.Pre_experts_named
public import proofs.«01_k».proof.Proof.Gen.On_valid_rows
public import proofs.«01_k».proof.Defs
public import Idealize.ShloMosaic.Adequacy
public import Idealize.ShloMosaic.Init
public import Idealize.ShloMosaic.Lib.Quiescent

@[expose] public section

set_option maxRecDepth 16384

noncomputable section

namespace Cert.Proof.Moe

open Idealize.ShloMosaic Idealize.ShloMosaic.StableHlo Idealize.SL.Sem

section
open Cert.MoeKernelIdeal

/-- A run leaves its arguments as they were and its semaphores at zero. -/
theorem quiet {F : FTy → Type} [FloatOps F] (m : (ℓ : Loc nD τ sig) → Buf (Elt F) ℓ) (ρ : Dev nD → PrngReg) (hN : Named (experts (F := F) (tables m))) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => kept m (inRange_of_named (tables m) hN) r h.1 c, h.2⟩) (launched m ρ (inRange_of_named (tables m) hN))

end

variable {F : FTy → Type} [FloatOps F]
/-! The program printed for its bits is the program printed for its values. -/

theorem body_eq (i a2 h2 a3 h3 a4 h4 a5 h5 a6 h6 a7 h7 a8 h8) : Cert.MoeKernel.cc0_moe_experts (F := F) i a2 h2 a3 h3 a4 h4 a5 h5 a6 h6 a7 h7 a8 h8 = Cert.MoeKernelIdeal.cc0_moe_experts (F := F) i a2 h2 a3 h3 a4 h4 a5 h5 a6 h6 a7 h7 a8 h8 := by
  unfold Cert.MoeKernel.cc0_moe_experts Cert.MoeKernelIdeal.cc0_moe_experts
  rfl

theorem defs₀_eq : Cert.MoeKernel.defs₀ (F := F) = Cert.MoeKernelIdeal.defs₀ (F := F) := by
  unfold Cert.MoeKernel.defs₀ Cert.MoeKernelIdeal.defs₀
  refine congrArg Defs.onTc (funext fun l => ?_)
  match l with
  | ⟨0, _⟩ => exact funext fun x => body_eq ..
  | ⟨_ + 1, h⟩ => exact absurd h (Nat.not_lt.2 (Nat.le_add_left _ _))

theorem defs_eq : Cert.MoeKernel.defs (F := F) = Cert.MoeKernelIdeal.defs (F := F) := congrArg (Pipeline.defs Cert.MoeKernelIdeal.pcfgs) defs₀_eq

theorem main_eq : Cert.MoeKernel.main (F := F) = Cert.MoeKernelIdeal.main (F := F) := rfl

theorem frame_ideal : quiescent_MoeKernelIdeal := fun m ρ hp =>
  quiet (F := Ideal) m ρ (named_of_pre (F := Ideal) _ _ _ _ _ (hp 0))

theorem frame_kernel : quiescent_MoeKernel := by
  intro m ρ hp
  have h := quiet (F := Bits) m ρ (named_of_pre (F := Bits) _ _ _ _ _ (hp 0))
  rw [← defs_eq, ← main_eq] at h
  exact h

theorem frame_reference : quiescent_MoeReferenceIdeal := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

/-- Equal arguments give the reference equal results. -/
theorem same_value (te te' : Cert.MoeReferenceIdeal.S30.Idx → BitVec 32) (x x' : FVec Ideal Cert.MoeReferenceIdeal.S23040x2048 .f32)
    (w w' : FVec Ideal Cert.MoeReferenceIdeal.S8x2048x14336 .f32) (d d' : FVec Ideal Cert.MoeReferenceIdeal.S8x7168x2048 .f32) (i : Cert.MoeReferenceIdeal.S23040x2048.Idx)
    (h0 : te = te') (h2 : x = x') (h3 : w = w') (h4 : d = d') :
    Cert.MoeReferenceIdeal.Read.val_main_v122 (F := Ideal) te x w d i = Cert.MoeReferenceIdeal.Read.val_main_v122 (F := Ideal) te' x' w' d' i := by
  subst h0 h2 h3 h4
  rfl

theorem equal : algebraic_MoeKernelIdeal_MoeReferenceIdeal_on_valid_rows := by
  intro m ρ m' ρ' hp hagree
  have hN : Named (experts (F := Ideal) (tables m)) := named_of_pre (F := Ideal) _ _ _ _ _ (hp 0)
  have hO := inRange_of_named (tables m) hN
  refine ⟨fun c => Cert.MoeReferenceIdeal.Read.val_main_v122 (F := Ideal) (m (c.tc.loc Cert.MoeKernelIdeal.main_arg0)) (m (c.tc.loc Cert.MoeKernelIdeal.main_arg2))
    (m (c.tc.loc Cert.MoeKernelIdeal.main_arg3)) (m (c.tc.loc Cert.MoeKernelIdeal.main_arg4)), ?_, ?_⟩
  · refine (θ_run Cert.MoeKernelIdeal.defs _ _).mono (fun r h c => ⟨fun i hi => ?_, kept m hO r h.1 c⟩) (launched m ρ hO)
    obtain rfl : c = 0 := Subsingleton.elim _ _
    rw [mask_apply] at hi
    have he : (word (experts (F := Ideal) (tables m)) (tileOf i)).toNat < 8 := hN _
    exact (result_apply m hO r h.1 0 i hi ⟨_, he⟩ rfl).trans (reference_apply _ _ _ _ i ⟨_, he⟩ rfl).symm
  · refine (θ_run Cert.MoeReferenceIdeal.defs _ _).mono (fun r h c => ⟨fun i _ => ?_, (h c).2⟩) (Cert.MoeReferenceIdeal.Value.run (F := Ideal) m' ρ')
    have hv := (h c).1.trans (Cert.MoeReferenceIdeal.Read.val_main_v122_eq (F := Ideal) (launchContents m' c))
    obtain ⟨h0, -, h2, h3, h4⟩ := hagree c
    exact (congrFun hv i).trans (same_value _ _ _ _ _ _ _ _ i h0 h2 h3 h4)

end Cert.Proof.Moe

end
-- ==== Proof.Norm.lean ====
/- A row scaled to unit mean square (RMS normalisation), and its product with a column. -/
module

public import Idealize.ShloMosaic.PureOps.Ideal

@[expose] public section

noncomputable section

namespace Cert.Proof

open Idealize.ShloMosaic

/-- The inverse root of a row's mean square, 2048 and 1e-6 as the programs' f32 constants. -/
def inverseRms (row : Fin 2048 → EReal) : EReal :=
  Ideal.rsqrt (Ideal.div (∑ q, row q * row q) (Ideal.ofBits FTy.f32 1157627904#32) + Ideal.ofBits FTy.f32 897988541#32)

/-- A normalised row times a column. -/
def projected (row gain column : Fin 2048 → EReal) : EReal := ∑ q, row q * inverseRms row * gain q * column q

end Cert.Proof

end
-- ==== Proof.EvenRun.lean ====
/- The even layer's in-projection call by call: what each of its two normalisations and two matrix products leaves in its array, and the run of all four. -/
module

public import proofs.«01_k».proof.Proof.Gen.EvenKernelIdeal.Frame
public import proofs.«01_k».proof.Proof.Norm
public import Idealize.ShloMosaic.Lib.Pointwise
public import Idealize.ShloMosaic.Lib.Pipeline.ValueKit
public import Idealize.ShloMosaic.Lib.Pipeline.ValueKit.Point
public import Idealize.ShloMosaic.PureOps.Ideal.Laws

@[expose] public section

set_option maxRecDepth 16384

noncomputable section

namespace Cert.Proof.Even

open Idealize.ShloMosaic Idealize.ShloMosaic.TcCoe Idealize.SL.Sem
open Idealize.ShloMosaic.Pipeline (Dat Cfg Window)
open Cert.EvenKernelIdeal Cert.EvenKernelIdeal.Gen

/-- The normalised rows' entry. -/
def normed8192 (x : S8192x2048.Idx → EReal) (g : S1x2048.Idx → EReal) (i : S8192x2048.Idx) : EReal :=
  x i * inverseRms (fun q => x (ix2 (i 0) q)) * g (ix2 0 (i 1))

/-- A matrix product's entry. -/
def product8192 (x : S8192x2048.Idx → EReal) (w : S2048x2560.Idx → EReal) (i : S8192x2560.Idx) : EReal := ∑ q : Fin 2048, x (ix2 (i 0) q) * w (ix2 q (i 1))

/-- The normalised rows' entry. -/
def normed128 (x : S128x2048.Idx → EReal) (g : S1x2048.Idx → EReal) (i : S128x2048.Idx) : EReal :=
  x i * inverseRms (fun q => x (ix2 (i 0) q)) * g (ix2 0 (i 1))

/-- A matrix product's entry. -/
def product128 (x : S128x2048.Idx → EReal) (w : S2048x2560.Idx → EReal) (i : S128x2560.Idx) : EReal := ∑ q : Fin 2048, x (ix2 (i 0) q) * w (ix2 q (i 1))

variable (V : (c : Dev nD) → (b : Ref sig .tc) → Buf (Elt Ideal) ((c : Thread nD τ).loc b))

theorem indices0 : ∀ t : Fin grid0.N, win0_0.index t (0 : Fin 2) = win0_2.index t (0 : Fin 2) ∧ win0_0.index t (1 : Fin 2) = 0 ∧ win0_2.index t (1 : Fin 2) = 0
    ∧ win0_1.index t (0 : Fin 2) = 0 ∧ win0_1.index t (1 : Fin 2) = 0 := by decide +kernel

theorem array0 (c : Dev nD) : (dat0 V c).arrAt 2 cfg0.N = normed8192 (V c main_v0) (V c main_v4) := by
  refine funext fun i => ?_
  refine Dat.arrAt_forall_of_covers (dat0 V c) (2 : Fin 3) (P := fun i v => v = normed8192 (V c main_v0) (V c main_v4) i) (by decide +kernel) (fun t hf y => ?_) i (Memref.isWhole_whole _)
  obtain ⟨a, b, b', d, e⟩ := indices0 t
  blk_simp
  rw [after0_2]
  frame_out
  unfold k0_pay1 normed8192 inverseRms
  pointwise
  refine congr (congrArg _ (congr (congrArg _ ?_) (congrArg Ideal.rsqrt (congrArg (fun z : EReal => Ideal.div z _ + _) (Finset.sum_congr (M := EReal) rfl fun q _ => ?_))))) ?_
  · blk_ext [iblk0] <;> omega
  · refine congr (congrArg _ ?_) ?_ <;> blk_ext [iblk0] <;> omega
  · blk_ext [iblk0] <;> omega

theorem indices1 : ∀ t : Fin grid1.N, win1_0.index t (0 : Fin 2) = win1_2.index t (0 : Fin 2) ∧ win1_0.index t (1 : Fin 2) = 0
    ∧ win1_1.index t (0 : Fin 2) = 0 ∧ win1_1.index t (1 : Fin 2) = win1_2.index t (1 : Fin 2) := by decide +kernel

theorem array1 (c : Dev nD) : (dat1 V c).arrAt 2 cfg1.N = product8192 (V c main_v5) (V c main_v6) := by
  refine funext fun i => ?_
  refine Dat.arrAt_forall_of_covers (dat1 V c) (2 : Fin 3) (P := fun i v => v = product8192 (V c main_v5) (V c main_v6) i) (by decide +kernel) (fun t hf y => ?_) i (Memref.isWhole_whole _)
  obtain ⟨a, b, d, e⟩ := indices1 t
  blk_simp
  rw [after1_2]
  frame_out
  unfold k1_pay1 product8192
  pointwise
  refine Finset.sum_congr (M := EReal) rfl fun q _ => ?_
  refine congr (congrArg _ ?_) ?_ <;> blk_ext [iblk1] <;> omega

theorem indices2 : ∀ t : Fin grid2.N, win2_0.index t (0 : Fin 2) = win2_2.index t (0 : Fin 2) ∧ win2_0.index t (1 : Fin 2) = 0 ∧ win2_2.index t (1 : Fin 2) = 0
    ∧ win2_1.index t (0 : Fin 2) = 0 ∧ win2_1.index t (1 : Fin 2) = 0 := by decide +kernel

theorem array2 (c : Dev nD) : (dat2 V c).arrAt 2 cfg2.N = normed128 (V c main_v1) (V c main_v8) := by
  refine funext fun i => ?_
  refine Dat.arrAt_forall_of_covers (dat2 V c) (2 : Fin 3) (P := fun i v => v = normed128 (V c main_v1) (V c main_v8) i) (by decide +kernel) (fun t hf y => ?_) i (Memref.isWhole_whole _)
  obtain ⟨a, b, b', d, e⟩ := indices2 t
  blk_simp
  rw [after2_2]
  frame_out
  unfold k2_pay1 normed128 inverseRms
  pointwise
  refine congr (congrArg _ (congr (congrArg _ ?_) (congrArg Ideal.rsqrt (congrArg (fun z : EReal => Ideal.div z _ + _) (Finset.sum_congr (M := EReal) rfl fun q _ => ?_))))) ?_
  · blk_ext [iblk2] <;> omega
  · refine congr (congrArg _ ?_) ?_ <;> blk_ext [iblk2] <;> omega
  · blk_ext [iblk2] <;> omega

theorem indices3 : ∀ t : Fin grid3.N, win3_0.index t (0 : Fin 2) = win3_2.index t (0 : Fin 2) ∧ win3_0.index t (1 : Fin 2) = 0
    ∧ win3_1.index t (0 : Fin 2) = 0 ∧ win3_1.index t (1 : Fin 2) = win3_2.index t (1 : Fin 2) := by decide +kernel

theorem array3 (c : Dev nD) : (dat3 V c).arrAt 2 cfg3.N = product128 (V c main_v9) (V c main_v10) := by
  refine funext fun i => ?_
  refine Dat.arrAt_forall_of_covers (dat3 V c) (2 : Fin 3) (P := fun i v => v = product128 (V c main_v9) (V c main_v10) i) (by decide +kernel) (fun t hf y => ?_) i (Memref.isWhole_whole _)
  obtain ⟨a, b, d, e⟩ := indices3 t
  blk_simp
  rw [after3_2]
  frame_out
  unfold k3_pay1 product128
  pointwise
  refine Finset.sum_congr (M := EReal) rfl fun q _ => ?_
  refine congr (congrArg _ ?_) ?_ <;> blk_ext [iblk3] <;> omega

open Idealize.SL Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run leaves every buffer that outlives the calls as the fold through the program says. -/
theorem run : θ_run defs (onTc (τ := τ) (main (F := Ideal))) ⟨m, fun _ => 0, ρ⟩ (fun r => ∀ c : Dev nD, ∀ b ∈ Pipeline.ucRefs τ sig, r.2.mem ((c : Thread nD τ).1, b) = W9 m ρ c b) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := Rounds.initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W9 m ρ c b)
    ?_ ?_ ?_ ?_ (fun s h => h)
  · iintro H; imodintro
    isplitl [H]
    · iapply (show (ownU (Rounds.initOf (Pipeline.cells cfgs cellOf_inj) (Pipeline.launchToks cfgs cellOf_inj)) : sProp 𝕄)
        ⊢ BI.own (emb₁ (Rounds.initOf (Pipeline.cells cfgs cellOf_inj) (Pipeline.launchToks cfgs cellOf_inj))) from .rfl)
      iexact H
    iapply (show (BI.emp : sProp 𝕄) ⊢ bigSep Finset.univ (fun _ : Dev nD => (BI.emp : sProp 𝕄)) from by rw [BI.bigSep_emp_const])
    iempintro
  · refine ⟨fun _ => .rfl, fun _ => .rfl, fun _ => .rfl, fun _ => .rfl, fun _ => .rfl, fun _ => .rfl, fun _ => .rfl, fun _ => .rfl, fun _ => .rfl, fun c => ?_⟩
    dsimp only [Pipeline.Seg.post, hseg, Pipeline.HostSeg.ofOps]
    iintro ⟨H, G, O⟩
    isplitl [H G]
    · isplitl [H] <;> iassumption
    iexact O
  · refine Pipeline.initEach L lv fun c => ?_
    rw [show unscopedBufs c (fun b => m ((c : Thread nD τ).loc b)) = StableHlo.held (c : Thread nD τ) (Pipeline.ucRefs τ sig) (W0 m ρ c) from Pipeline.unscopedBufs_held c (W0 m ρ c)]
    iintro ⟨⟨H, -, O, -, G, -⟩, -⟩
    imodintro
    isplitl [H]; · iexact H
    isplitl [G]
    · iexists _; iexact G
    iexists ∅; iexact O
  · intro c s
    iintro ⟨⟨H, -⟩, I⟩
    unfold StableHlo.held
    imodintro
    iapply (pointsTo_read_all (Pipeline.ucRefs τ sig) (fun b => (((c : Thread nD τ)).1, b)) (W9 m ρ c) s)
    isplitl [H] <;> iassumption

end Cert.Proof.Even

end
-- ==== Proof.EvenClaim.lean ====
/- The even layer's pool state and window keys and values, read at an index on both sides. -/
module

public import proofs.«01_k».proof.Proof.EvenRun
public import proofs.«01_k».proof.Proof.Gen.EvenReferenceIdeal.Run
public import proofs.«01_k».proof.Proof.Gen.EvenReferenceIdeal.Read
public import proofs.«01_k».proof.Defs
public import Idealize.ShloMosaic.Adequacy
public import Idealize.ShloMosaic.Init
public import Idealize.ShloMosaic.Lib.Quiescent

@[expose] public section

set_option maxRecDepth 16384

noncomputable section

namespace Cert.Proof.Even

open Idealize.ShloMosaic Idealize.ShloMosaic.TcCoe Idealize.SL.Sem Idealize.ShloMosaic.StableHlo
open Cert.EvenKernelIdeal Cert.EvenKernelIdeal.Gen

variable (m : (ℓ : Loc nD τ sig) → Buf (Elt Ideal) ℓ) (ρ : Dev nD → PrngReg)

/-- The even layer's gain as a row. -/
def gainRow (g : S2x3x2048.Idx → EReal) (i : S1x2048.Idx) : EReal := g (ix3 0 0 (i 1))

/-- The stacked weights' only layer. -/
def weights (w : S1x2048x2560.Idx → EReal) (i : S2048x2560.Idx) : EReal := w (ix3 0 (i 0) (i 1))

/-- The prompt's rows as a matrix. -/
def promptRows (x : S1x8192x2048.Idx → EReal) (i : S8192x2048.Idx) : EReal := x (ix3 0 (i 0) (i 1))

/-- The samples' rows as a matrix. -/
def sampleRows (x : S128x1x2048.Idx → EReal) (i : S128x2048.Idx) : EReal := x (ix3 (i 0) 0 (i 1))

/-- Prompt row `r`, normalised, through weight column `k`. -/
def promptAt (x : S1x8192x2048.Idx → EReal) (g : S2x3x2048.Idx → EReal) (w : S1x2048x2560.Idx → EReal) (r : Fin 8192) (k : Fin 2560) : EReal :=
  projected (fun q => x (ix3 0 r q)) (fun q => g (ix3 0 0 q)) (fun q => w (ix3 0 q k))

/-- Sample row `r`, normalised, through weight column `k`. -/
def sampleAt (x : S128x1x2048.Idx → EReal) (g : S2x3x2048.Idx → EReal) (w : S1x2048x2560.Idx → EReal) (r : Fin 128) (k : Fin 2560) : EReal :=
  projected (fun q => x (ix3 r 0 q)) (fun q => g (ix3 0 0 q)) (fun q => w (ix3 0 q k))

/-- A pool lane's weight column. -/
def poolColumn (d : Fin 1024) : Fin 2560 := ⟨d.val, by omega⟩

/-- A key's weight column: head `h`, lane `d`. -/
def keyColumn (h : Fin 4) (d : Fin 64) : Fin 2560 := ⟨2048 + (h.val * 64 + d.val), by omega⟩

/-- A value's weight column: head `h`, lane `d`. -/
def valueColumn (h : Fin 4) (d : Fin 64) : Fin 2560 := ⟨2304 + (h.val * 64 + d.val), by omega⟩

theorem gain_after (c : Dev nD) : W1 m ρ c (Proc.devRef .tc main_v3) = fun i => m ((c : Thread nD τ).loc main_arg5) (ix3 0 0 (i 0)) := by
  show StableHlo.after hostOps0 (W0 m ρ c) _ = _
  after_results
  funext i
  pointwise

theorem samples_after (c : Dev nD) : W1 m ρ c (Proc.devRef .tc main_v1) = sampleRows (m ((c : Thread nD τ).loc main_arg1)) := by
  show StableHlo.after hostOps0 (W0 m ρ c) _ = _
  after_results
  unfold sampleRows
  funext i
  pointwise

theorem prompt_rows (c : Dev nD) : V1 m ρ c main_v0 = promptRows (m ((c : Thread nD τ).loc main_arg0)) := by
  show StableHlo.after hostOps0 (W0 m ρ c) _ = _
  after_results
  unfold promptRows
  funext i
  pointwise

theorem sample_rows (c : Dev nD) : V5 m ρ c main_v1 = sampleRows (m ((c : Thread nD τ).loc main_arg1)) :=
  (W5_of m ρ c main_v1 (by decide)).trans <| (W4_of m ρ c main_v1 (by decide)).trans <| (W3_of m ρ c main_v1 (by decide)).trans <| (W2_of m ρ c main_v1 (by decide)).trans (samples_after m ρ c)

theorem entry_gain0 (c : Dev nD) : V1 m ρ c main_v4 = gainRow (m ((c : Thread nD τ).loc main_arg5)) := by
  show StableHlo.after hostOps0 (W0 m ρ c) _ = _
  after_results
  unfold gainRow
  funext i
  pointwise

theorem entry_weights1 (c : Dev nD) : V3 m ρ c main_v6 = weights (m ((c : Thread nD τ).loc main_arg6)) := by
  show StableHlo.after hostOps1 (W2 m ρ c) _ = _
  after_results
  refine Eq.trans ?_ (congrArg weights (W2_args m ρ c main_arg6 (by decide)))
  unfold weights
  funext i
  pointwise

theorem entry_gain2 (c : Dev nD) : V5 m ρ c main_v8 = gainRow (m ((c : Thread nD τ).loc main_arg5)) := by
  show StableHlo.after hostOps2 (W4 m ρ c) _ = _
  after_results
  have h : W4 m ρ c (Proc.devRef .tc main_v3) = _ := (W4_of m ρ c main_v3 (by decide)).trans <| (W3_of m ρ c main_v3 (by decide)).trans <| (W2_of m ρ c main_v3 (by decide)).trans (gain_after m ρ c)
  rw [h]
  unfold gainRow
  funext i
  pointwise

theorem entry_weights3 (c : Dev nD) : V7 m ρ c main_v10 = weights (m ((c : Thread nD τ).loc main_arg6)) := by
  show StableHlo.after hostOps3 (W6 m ρ c) _ = _
  after_results
  refine Eq.trans ?_ (congrArg weights (W6_args m ρ c main_arg6 (by decide)))
  unfold weights
  funext i
  pointwise

theorem prompt_left (c : Dev nD) : W8 m ρ c (Proc.devRef .tc main_v7)
    = fun i => promptAt (m ((c : Thread nD τ).loc main_arg0)) (m ((c : Thread nD τ).loc main_arg5)) (m ((c : Thread nD τ).loc main_arg6)) (i 0) (i 1) :=
  ((W8_of m ρ c main_v7 (by decide)).trans <| (W7_of m ρ c main_v7 (by decide)).trans <| (W6_of m ρ c main_v7 (by decide)).trans <| W5_of m ρ c main_v7 (by decide)).trans <| (W4_arr m ρ c 2).trans <| (array1 (V3 m ρ) c).trans <|
    congr (congrArg product8192 ((W3_of m ρ c main_v5 (by decide)).trans <| (W2_arr m ρ c 2).trans <| (array0 (V1 m ρ) c).trans <| congr (congrArg normed8192 (prompt_rows m ρ c)) (entry_gain0 m ρ c))) (entry_weights1 m ρ c)

theorem sample_left (c : Dev nD) : W8 m ρ c (Proc.devRef .tc main_v11)
    = fun i => sampleAt (m ((c : Thread nD τ).loc main_arg1)) (m ((c : Thread nD τ).loc main_arg5)) (m ((c : Thread nD τ).loc main_arg6)) (i 0) (i 1) :=
  (W8_arr m ρ c 2).trans <| (array3 (V7 m ρ) c).trans <|
    congr (congrArg product128 ((W7_of m ρ c main_v9 (by decide)).trans <| (W6_arr m ρ c 2).trans <| (array2 (V5 m ρ) c).trans <| congr (congrArg normed128 (sample_rows m ρ c)) (entry_gain2 m ρ c))) (entry_weights3 m ρ c)

/-- The prompt's last fifteen pool rows. -/
def promptPool (x : S1x8192x2048.Idx → EReal) (g : S2x3x2048.Idx → EReal) (w : S1x2048x2560.Idx → EReal) (i : S1x1x15x1024.Idx) : EReal := promptAt x g w ⟨8177 + (i 2).val, by have h : (i 2).val < 15 := (i 2).isLt; omega⟩ (poolColumn (i 3))

/-- The keys of the prompt's last window. -/
def promptKeys (x : S1x8192x2048.Idx → EReal) (g : S2x3x2048.Idx → EReal) (w : S1x2048x2560.Idx → EReal) (i : S1x1x128x4x64.Idx) : EReal := promptAt x g w ⟨8064 + (i 2).val, by have h : (i 2).val < 128 := (i 2).isLt; omega⟩ (keyColumn (i 3) (i 4))

/-- The values of the prompt's last window. -/
def promptValues (x : S1x8192x2048.Idx → EReal) (g : S2x3x2048.Idx → EReal) (w : S1x2048x2560.Idx → EReal) (i : S1x1x128x4x64.Idx) : EReal := promptAt x g w ⟨8064 + (i 2).val, by have h : (i 2).val < 128 := (i 2).isLt; omega⟩ (valueColumn (i 3) (i 4))

/-- The pool state moved on by one row, the sample's own row last. -/
def samplePool (x : S128x1x2048.Idx → EReal) (old : S1x128x15x1024.Idx → EReal) (g : S2x3x2048.Idx → EReal) (w : S1x2048x2560.Idx → EReal) (i : S1x128x15x1024.Idx) : EReal :=
  if h : (i 2).val < 14 then old (ix4 0 (i 1) ⟨1 + (i 2).val, by omega⟩ (i 3)) else sampleAt x g w (i 1) (poolColumn (i 3))

/-- The window's keys moved on by one row, the sample's own key last. -/
def sampleKeys (x : S128x1x2048.Idx → EReal) (old : S1x128x128x4x64.Idx → EReal) (g : S2x3x2048.Idx → EReal) (w : S1x2048x2560.Idx → EReal) (i : S1x128x128x4x64.Idx) : EReal :=
  if h : (i 2).val < 127 then old (ix5 0 (i 1) ⟨1 + (i 2).val, by omega⟩ (i 3) (i 4)) else sampleAt x g w (i 1) (keyColumn (i 3) (i 4))

/-- The window's values moved on by one row, the sample's own value last. -/
def sampleValues (x : S128x1x2048.Idx → EReal) (old : S1x128x128x4x64.Idx → EReal) (g : S2x3x2048.Idx → EReal) (w : S1x2048x2560.Idx → EReal) (i : S1x128x128x4x64.Idx) : EReal :=
  if h : (i 2).val < 127 then old (ix5 0 (i 1) ⟨1 + (i 2).val, by omega⟩ (i 3) (i 4)) else sampleAt x g w (i 1) (valueColumn (i 3) (i 4))

/-- A head and a lane flattened and split again are themselves. -/
theorem split_lane (old : S1x128x128x4x64.Idx → EReal) (a b : Fin 128) (h : Fin 4) (d : Fin 64) (p : (h.val * 64 + d.val) / 64 < 4) (q : (h.val * 64 + d.val) % 64 < 64) :
    old (ix5 0 a b ⟨(h.val * 64 + d.val) / 64, p⟩ ⟨(h.val * 64 + d.val) % 64, q⟩) = old (ix5 0 a b h d) := by
  rw [show (⟨(h.val * 64 + d.val) / 64, p⟩ : Fin 4) = h from Fin.ext (show (h.val * 64 + d.val) / 64 = h.val by omega), show (⟨(h.val * 64 + d.val) % 64, q⟩ : Fin 64) = d from Fin.ext (show (h.val * 64 + d.val) % 64 = d.val by omega)]

theorem kernel_promptPool (c : Dev nD) : W9 m ρ c (Proc.devRef .tc main_v25)
    = promptPool (m ((c : Thread nD τ).loc main_arg0)) (m ((c : Thread nD τ).loc main_arg5)) (m ((c : Thread nD τ).loc main_arg6)) := by
  show StableHlo.after hostOps4 (W8 m ρ c) _ = _
  after_results
  rw [prompt_left m ρ c]
  funext i
  unfold promptPool poolColumn
  pointwise

theorem kernel_samplePool (c : Dev nD) : W9 m ρ c (Proc.devRef .tc main_v31)
    = samplePool (m ((c : Thread nD τ).loc main_arg1)) (m ((c : Thread nD τ).loc main_arg2)) (m ((c : Thread nD τ).loc main_arg5)) (m ((c : Thread nD τ).loc main_arg6)) := by
  show StableHlo.after hostOps4 (W8 m ρ c) _ = _
  after_results
  rw [sample_left m ρ c, W8_args m ρ c main_arg2 (by decide)]
  funext i
  unfold samplePool poolColumn
  pointwise

theorem kernel_promptKeys (c : Dev nD) : W9 m ρ c (Proc.devRef .tc main_v33)
    = promptKeys (m ((c : Thread nD τ).loc main_arg0)) (m ((c : Thread nD τ).loc main_arg5)) (m ((c : Thread nD τ).loc main_arg6)) := by
  show StableHlo.after hostOps4 (W8 m ρ c) _ = _
  after_results
  rw [prompt_left m ρ c]
  funext i
  unfold promptKeys keyColumn
  pointwise

theorem kernel_promptValues (c : Dev nD) : W9 m ρ c (Proc.devRef .tc main_v35)
    = promptValues (m ((c : Thread nD τ).loc main_arg0)) (m ((c : Thread nD τ).loc main_arg5)) (m ((c : Thread nD τ).loc main_arg6)) := by
  show StableHlo.after hostOps4 (W8 m ρ c) _ = _
  after_results
  rw [prompt_left m ρ c]
  funext i
  unfold promptValues valueColumn
  pointwise

theorem kernel_sampleKeys (c : Dev nD) : W9 m ρ c (Proc.devRef .tc main_v36)
    = sampleKeys (m ((c : Thread nD τ).loc main_arg1)) (m ((c : Thread nD τ).loc main_arg3)) (m ((c : Thread nD τ).loc main_arg5)) (m ((c : Thread nD τ).loc main_arg6)) := by
  show StableHlo.after hostOps4 (W8 m ρ c) _ = _
  after_results
  rw [sample_left m ρ c, W8_args m ρ c main_arg3 (by decide)]
  funext i
  unfold sampleKeys keyColumn
  pointwise
  exact dite_congr rfl (fun h => split_lane _ _ _ _ _ _ _) (fun _ => rfl)

theorem kernel_sampleValues (c : Dev nD) : W9 m ρ c (Proc.devRef .tc main_v37)
    = sampleValues (m ((c : Thread nD τ).loc main_arg1)) (m ((c : Thread nD τ).loc main_arg4)) (m ((c : Thread nD τ).loc main_arg5)) (m ((c : Thread nD τ).loc main_arg6)) := by
  show StableHlo.after hostOps4 (W8 m ρ c) _ = _
  after_results
  rw [sample_left m ρ c, W8_args m ρ c main_arg4 (by decide)]
  funext i
  unfold sampleValues valueColumn
  pointwise
  exact dite_congr rfl (fun h => split_lane _ _ _ _ _ _ _) (fun _ => rfl)

open Cert.EvenReferenceIdeal.Read in
theorem reference_promptPool (x : S1x8192x2048.Idx → EReal) (g : S2x3x2048.Idx → EReal) (w : S1x2048x2560.Idx → EReal) : val_main_v58 (F := Ideal) x g w = promptPool x g w := by
  funext i
  unfold val_main_v58 val_main_v24 val_main_v23 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  unfold promptPool promptAt projected inverseRms poolColumn
  pointwise

open Cert.EvenReferenceIdeal.Read in
theorem reference_samplePool (x : S128x1x2048.Idx → EReal) (old : S1x128x15x1024.Idx → EReal) (g : S2x3x2048.Idx → EReal) (w : S1x2048x2560.Idx → EReal) : val_main_v59 (F := Ideal) x old g w = samplePool x old g w := by
  funext i
  unfold val_main_v59 val_main_v51 val_main_v50 val_main_v49 val_main_v48 val_main_v41 val_main_v40 val_main_v39 val_main_v38 val_main_v37 val_main_v36 val_main_v35 val_main_v34 val_main_v33 val_main_v32 val_main_v31 val_main_v30 val_main_v29 val_main_v28 val_main_v27 val_main_v1 val_main_v0 val_main_cst_2 val_main_cst_3 val_main_cst_4
  unfold samplePool sampleAt projected inverseRms poolColumn
  pointwise
  refine dite_congr (propext (by omega)) (fun _ => rfl) (fun _ => Finset.sum_congr (M := EReal) rfl fun q _ => ?_)
  exact congrArg (fun z : Fin 1 => x (ix3 (i 1) z q) * _ * _ * _) (Subsingleton.elim _ _)

open Cert.EvenReferenceIdeal.Read in
theorem reference_promptKeys (x : S1x8192x2048.Idx → EReal) (g : S2x3x2048.Idx → EReal) (w : S1x2048x2560.Idx → EReal) : val_main_v60 (F := Ideal) x g w = promptKeys x g w := by
  funext i
  unfold val_main_v60 val_main_v25 val_main_v20 val_main_v19 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  unfold promptKeys promptAt projected inverseRms keyColumn
  pointwise

open Cert.EvenReferenceIdeal.Read in
theorem reference_promptValues (x : S1x8192x2048.Idx → EReal) (g : S2x3x2048.Idx → EReal) (w : S1x2048x2560.Idx → EReal) : val_main_v61 (F := Ideal) x g w = promptValues x g w := by
  funext i
  unfold val_main_v61 val_main_v26 val_main_v22 val_main_v21 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  unfold promptValues promptAt projected inverseRms valueColumn
  pointwise

open Cert.EvenReferenceIdeal.Read in
theorem reference_sampleKeys (x : S128x1x2048.Idx → EReal) (old : S1x128x128x4x64.Idx → EReal) (g : S2x3x2048.Idx → EReal) (w : S1x2048x2560.Idx → EReal) : val_main_v62 (F := Ideal) x old g w = sampleKeys x old g w := by
  funext i
  unfold val_main_v62 val_main_v54 val_main_v53 val_main_v52 val_main_v45 val_main_v44 val_main_v41 val_main_v40 val_main_v39 val_main_v38 val_main_v37 val_main_v36 val_main_v35 val_main_v34 val_main_v33 val_main_v32 val_main_v31 val_main_v30 val_main_v29 val_main_v28 val_main_v27 val_main_v1 val_main_v0 val_main_cst_2 val_main_cst_3 val_main_cst_4
  unfold sampleKeys sampleAt projected inverseRms keyColumn
  pointwise
  exact dite_congr (propext (by omega)) (fun _ => rfl) (fun _ => rfl)

open Cert.EvenReferenceIdeal.Read in
theorem reference_sampleValues (x : S128x1x2048.Idx → EReal) (old : S1x128x128x4x64.Idx → EReal) (g : S2x3x2048.Idx → EReal) (w : S1x2048x2560.Idx → EReal) : val_main_v63 (F := Ideal) x old g w = sampleValues x old g w := by
  funext i
  unfold val_main_v63 val_main_v57 val_main_v56 val_main_v55 val_main_v47 val_main_v46 val_main_v41 val_main_v40 val_main_v39 val_main_v38 val_main_v37 val_main_v36 val_main_v35 val_main_v34 val_main_v33 val_main_v32 val_main_v31 val_main_v30 val_main_v29 val_main_v28 val_main_v27 val_main_v1 val_main_v0 val_main_cst_2 val_main_cst_3 val_main_cst_4
  unfold sampleValues sampleAt projected inverseRms valueColumn
  pointwise
  exact dite_congr (propext (by omega)) (fun _ => rfl) (fun _ => rfl)

theorem quiet : quiescent_EvenReferenceIdeal := fun m ρ _ =>
  (θ_run Cert.EvenReferenceIdeal.defs _ _).mono (fun r h => ⟨fun c => (h c).2.2.2.2.2.2, sem_eq_zero_of_no_sems (by decide) r.2⟩)
    (Cert.EvenReferenceIdeal.Value.run (F := Ideal) m ρ)

theorem equal : algebraic_EvenKernelIdeal_EvenReferenceIdeal := by
  intro m ρ m' ρ' _ hagree
  refine ⟨fun c => promptPool (m ((c.tc : Thread nD τ).loc main_arg0)) (m ((c.tc : Thread nD τ).loc main_arg5)) (m ((c.tc : Thread nD τ).loc main_arg6)), fun c => samplePool (m ((c.tc : Thread nD τ).loc main_arg1)) (m ((c.tc : Thread nD τ).loc main_arg2)) (m ((c.tc : Thread nD τ).loc main_arg5)) (m ((c.tc : Thread nD τ).loc main_arg6)), fun c => promptKeys (m ((c.tc : Thread nD τ).loc main_arg0)) (m ((c.tc : Thread nD τ).loc main_arg5)) (m ((c.tc : Thread nD τ).loc main_arg6)), fun c => promptValues (m ((c.tc : Thread nD τ).loc main_arg0)) (m ((c.tc : Thread nD τ).loc main_arg5)) (m ((c.tc : Thread nD τ).loc main_arg6)), fun c => sampleKeys (m ((c.tc : Thread nD τ).loc main_arg1)) (m ((c.tc : Thread nD τ).loc main_arg3)) (m ((c.tc : Thread nD τ).loc main_arg5)) (m ((c.tc : Thread nD τ).loc main_arg6)), fun c => sampleValues (m ((c.tc : Thread nD τ).loc main_arg1)) (m ((c.tc : Thread nD τ).loc main_arg4)) (m ((c.tc : Thread nD τ).loc main_arg5)) (m ((c.tc : Thread nD τ).loc main_arg6)), ?_, ?_⟩
  · refine (θ_run defs _ _).mono (fun r h c => ⟨(h c _ (mem_uc main_v25 (by decide))).trans (kernel_promptPool m ρ c), (h c _ (mem_uc main_v31 (by decide))).trans (kernel_samplePool m ρ c), (h c _ (mem_uc main_v33 (by decide))).trans (kernel_promptKeys m ρ c), (h c _ (mem_uc main_v35 (by decide))).trans (kernel_promptValues m ρ c), (h c _ (mem_uc main_v36 (by decide))).trans (kernel_sampleKeys m ρ c), (h c _ (mem_uc main_v37 (by decide))).trans (kernel_sampleValues m ρ c),
      (h c _ (mem_uc main_arg0 (by decide))).trans (W9_main_arg0 m ρ c), (h c _ (mem_uc main_arg1 (by decide))).trans (W9_main_arg1 m ρ c), (h c _ (mem_uc main_arg2 (by decide))).trans (W9_main_arg2 m ρ c), (h c _ (mem_uc main_arg3 (by decide))).trans (W9_main_arg3 m ρ c), (h c _ (mem_uc main_arg4 (by decide))).trans (W9_main_arg4 m ρ c), (h c _ (mem_uc main_arg5 (by decide))).trans (W9_main_arg5 m ρ c), (h c _ (mem_uc main_arg6 (by decide))).trans (W9_main_arg6 m ρ c)⟩) (run m ρ)
  · refine (θ_run Cert.EvenReferenceIdeal.defs _ _).mono (fun r h c => ⟨?_, ?_, ?_, ?_, ?_, ?_, (h c).2.2.2.2.2.2⟩) (Cert.EvenReferenceIdeal.Value.run (F := Ideal) m' ρ')
    · refine (h c).1.trans ((Cert.EvenReferenceIdeal.Read.val_main_v58_eq _ _ _).trans ((reference_promptPool _ _ _).trans ?_))
      rw [(hagree c).1, (hagree c).2.2.2.2.2.1, (hagree c).2.2.2.2.2.2]
    · refine (h c).2.1.trans ((Cert.EvenReferenceIdeal.Read.val_main_v59_eq _ _ _ _).trans ((reference_samplePool _ _ _ _).trans ?_))
      rw [(hagree c).2.1, (hagree c).2.2.1, (hagree c).2.2.2.2.2.1, (hagree c).2.2.2.2.2.2]
    · refine (h c).2.2.1.trans ((Cert.EvenReferenceIdeal.Read.val_main_v60_eq _ _ _).trans ((reference_promptKeys _ _ _).trans ?_))
      rw [(hagree c).1, (hagree c).2.2.2.2.2.1, (hagree c).2.2.2.2.2.2]
    · refine (h c).2.2.2.1.trans ((Cert.EvenReferenceIdeal.Read.val_main_v61_eq _ _ _).trans ((reference_promptValues _ _ _).trans ?_))
      rw [(hagree c).1, (hagree c).2.2.2.2.2.1, (hagree c).2.2.2.2.2.2]
    · refine (h c).2.2.2.2.1.trans ((Cert.EvenReferenceIdeal.Read.val_main_v62_eq _ _ _ _).trans ((reference_sampleKeys _ _ _ _).trans ?_))
      rw [(hagree c).2.1, (hagree c).2.2.2.1, (hagree c).2.2.2.2.2.1, (hagree c).2.2.2.2.2.2]
    · refine (h c).2.2.2.2.2.1.trans ((Cert.EvenReferenceIdeal.Read.val_main_v63_eq _ _ _ _).trans ((reference_sampleValues _ _ _ _).trans ?_))
      rw [(hagree c).2.1, (hagree c).2.2.2.2.1, (hagree c).2.2.2.2.2.1, (hagree c).2.2.2.2.2.2]

end Cert.Proof.Even

end
-- ==== Proof.OddRun.lean ====
/- The odd layer's projection call by call: what each of its two normalisations and two matrix products leaves in its array, and the run of all four. -/
module

public import proofs.«01_k».proof.Proof.Gen.OddKernelIdeal.Frame
public import proofs.«01_k».proof.Proof.Norm
public import Idealize.ShloMosaic.Lib.Pointwise
public import Idealize.ShloMosaic.Lib.Pipeline.ValueKit
public import Idealize.ShloMosaic.Lib.Pipeline.ValueKit.Point
public import Idealize.ShloMosaic.PureOps.Ideal.Laws

@[expose] public section

set_option maxRecDepth 16384

noncomputable section

namespace Cert.Proof.Odd

open Idealize.ShloMosaic Idealize.ShloMosaic.TcCoe Idealize.SL.Sem
open Idealize.ShloMosaic.Pipeline (Dat Cfg Window)
open Cert.OddKernelIdeal Cert.OddKernelIdeal.Gen

/-- The normalised rows' entry. -/
def normed8192 (x : S8192x2048.Idx → EReal) (g : S1x2048.Idx → EReal) (i : S8192x2048.Idx) : EReal :=
  x i * inverseRms (fun q => x (ix2 (i 0) q)) * g (ix2 0 (i 1))

/-- A matrix product's entry. -/
def product8192 (x : S8192x2048.Idx → EReal) (w : S2048x4096.Idx → EReal) (i : S8192x4096.Idx) : EReal := ∑ q : Fin 2048, x (ix2 (i 0) q) * w (ix2 q (i 1))

/-- The normalised rows' entry. -/
def normed128 (x : S128x2048.Idx → EReal) (g : S1x2048.Idx → EReal) (i : S128x2048.Idx) : EReal :=
  x i * inverseRms (fun q => x (ix2 (i 0) q)) * g (ix2 0 (i 1))

/-- A matrix product's entry. -/
def product128 (x : S128x2048.Idx → EReal) (w : S2048x4096.Idx → EReal) (i : S128x4096.Idx) : EReal := ∑ q : Fin 2048, x (ix2 (i 0) q) * w (ix2 q (i 1))

variable (V : (c : Dev nD) → (b : Ref sig .tc) → Buf (Elt Ideal) ((c : Thread nD τ).loc b))

theorem indices0 : ∀ t : Fin grid0.N, win0_0.index t (0 : Fin 2) = win0_2.index t (0 : Fin 2) ∧ win0_0.index t (1 : Fin 2) = 0 ∧ win0_2.index t (1 : Fin 2) = 0
    ∧ win0_1.index t (0 : Fin 2) = 0 ∧ win0_1.index t (1 : Fin 2) = 0 := by decide +kernel

theorem array0 (c : Dev nD) : (dat0 V c).arrAt 2 cfg0.N = normed8192 (V c main_arg0) (V c main_v2) := by
  refine funext fun i => ?_
  refine Dat.arrAt_forall_of_covers (dat0 V c) (2 : Fin 3) (P := fun i v => v = normed8192 (V c main_arg0) (V c main_v2) i) (by decide +kernel) (fun t hf y => ?_) i (Memref.isWhole_whole _)
  obtain ⟨a, b, b', d, e⟩ := indices0 t
  blk_simp
  rw [after0_2]
  frame_out
  unfold k0_pay1 normed8192 inverseRms
  pointwise
  refine congr (congrArg _ (congr (congrArg _ ?_) (congrArg Ideal.rsqrt (congrArg (fun z : EReal => Ideal.div z _ + _) (Finset.sum_congr (M := EReal) rfl fun q _ => ?_))))) ?_
  · blk_ext [iblk0] <;> omega
  · refine congr (congrArg _ ?_) ?_ <;> blk_ext [iblk0] <;> omega
  · blk_ext [iblk0] <;> omega

theorem indices1 : ∀ t : Fin grid1.N, win1_0.index t (0 : Fin 2) = win1_2.index t (0 : Fin 2) ∧ win1_0.index t (1 : Fin 2) = 0
    ∧ win1_1.index t (0 : Fin 2) = 0 ∧ win1_1.index t (1 : Fin 2) = win1_2.index t (1 : Fin 2) := by decide +kernel

theorem array1 (c : Dev nD) : (dat1 V c).arrAt 2 cfg1.N = product8192 (V c main_v3) (V c main_v4) := by
  refine funext fun i => ?_
  refine Dat.arrAt_forall_of_covers (dat1 V c) (2 : Fin 3) (P := fun i v => v = product8192 (V c main_v3) (V c main_v4) i) (by decide +kernel) (fun t hf y => ?_) i (Memref.isWhole_whole _)
  obtain ⟨a, b, d, e⟩ := indices1 t
  blk_simp
  rw [after1_2]
  frame_out
  unfold k1_pay1 product8192
  pointwise
  refine Finset.sum_congr (M := EReal) rfl fun q _ => ?_
  refine congr (congrArg _ ?_) ?_ <;> blk_ext [iblk1] <;> omega

theorem indices2 : ∀ t : Fin grid2.N, win2_0.index t (0 : Fin 2) = win2_2.index t (0 : Fin 2) ∧ win2_0.index t (1 : Fin 2) = 0 ∧ win2_2.index t (1 : Fin 2) = 0
    ∧ win2_1.index t (0 : Fin 2) = 0 ∧ win2_1.index t (1 : Fin 2) = 0 := by decide +kernel

theorem array2 (c : Dev nD) : (dat2 V c).arrAt 2 cfg2.N = normed128 (V c main_arg1) (V c main_v6) := by
  refine funext fun i => ?_
  refine Dat.arrAt_forall_of_covers (dat2 V c) (2 : Fin 3) (P := fun i v => v = normed128 (V c main_arg1) (V c main_v6) i) (by decide +kernel) (fun t hf y => ?_) i (Memref.isWhole_whole _)
  obtain ⟨a, b, b', d, e⟩ := indices2 t
  blk_simp
  rw [after2_2]
  frame_out
  unfold k2_pay1 normed128 inverseRms
  pointwise
  refine congr (congrArg _ (congr (congrArg _ ?_) (congrArg Ideal.rsqrt (congrArg (fun z : EReal => Ideal.div z _ + _) (Finset.sum_congr (M := EReal) rfl fun q _ => ?_))))) ?_
  · blk_ext [iblk2] <;> omega
  · refine congr (congrArg _ ?_) ?_ <;> blk_ext [iblk2] <;> omega
  · blk_ext [iblk2] <;> omega

theorem indices3 : ∀ t : Fin grid3.N, win3_0.index t (0 : Fin 2) = win3_2.index t (0 : Fin 2) ∧ win3_0.index t (1 : Fin 2) = 0
    ∧ win3_1.index t (0 : Fin 2) = 0 ∧ win3_1.index t (1 : Fin 2) = win3_2.index t (1 : Fin 2) := by decide +kernel

theorem array3 (c : Dev nD) : (dat3 V c).arrAt 2 cfg3.N = product128 (V c main_v7) (V c main_v8) := by
  refine funext fun i => ?_
  refine Dat.arrAt_forall_of_covers (dat3 V c) (2 : Fin 3) (P := fun i v => v = product128 (V c main_v7) (V c main_v8) i) (by decide +kernel) (fun t hf y => ?_) i (Memref.isWhole_whole _)
  obtain ⟨a, b, d, e⟩ := indices3 t
  blk_simp
  rw [after3_2]
  frame_out
  unfold k3_pay1 product128
  pointwise
  refine Finset.sum_congr (M := EReal) rfl fun q _ => ?_
  refine congr (congrArg _ ?_) ?_ <;> blk_ext [iblk3] <;> omega

open Idealize.SL Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run leaves every buffer that outlives the calls as the fold through the program says. -/
theorem run : θ_run defs (onTc (τ := τ) (main (F := Ideal))) ⟨m, fun _ => 0, ρ⟩ (fun r => ∀ c : Dev nD, ∀ b ∈ Pipeline.ucRefs τ sig, r.2.mem ((c : Thread nD τ).1, b) = W9 m ρ c b) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := Rounds.initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W9 m ρ c b)
    ?_ ?_ ?_ ?_ (fun s h => h)
  · iintro H; imodintro
    isplitl [H]
    · iapply (show (ownU (Rounds.initOf (Pipeline.cells cfgs cellOf_inj) (Pipeline.launchToks cfgs cellOf_inj)) : sProp 𝕄)
        ⊢ BI.own (emb₁ (Rounds.initOf (Pipeline.cells cfgs cellOf_inj) (Pipeline.launchToks cfgs cellOf_inj))) from .rfl)
      iexact H
    iapply (show (BI.emp : sProp 𝕄) ⊢ bigSep Finset.univ (fun _ : Dev nD => (BI.emp : sProp 𝕄)) from by rw [BI.bigSep_emp_const])
    iempintro
  · refine ⟨fun _ => .rfl, fun _ => .rfl, fun _ => .rfl, fun _ => .rfl, fun _ => .rfl, fun _ => .rfl, fun _ => .rfl, fun _ => .rfl, fun _ => .rfl, fun c => ?_⟩
    dsimp only [Pipeline.Seg.post, hseg, Pipeline.HostSeg.ofOps]
    iintro ⟨H, G, O⟩
    isplitl [H G]
    · isplitl [H] <;> iassumption
    iexact O
  · refine Pipeline.initEach L lv fun c => ?_
    rw [show unscopedBufs c (fun b => m ((c : Thread nD τ).loc b)) = StableHlo.held (c : Thread nD τ) (Pipeline.ucRefs τ sig) (W0 m ρ c) from Pipeline.unscopedBufs_held c (W0 m ρ c)]
    iintro ⟨⟨H, -, O, -, G, -⟩, -⟩
    imodintro
    isplitl [H]; · iexact H
    isplitl [G]
    · iexists _; iexact G
    iexists ∅; iexact O
  · intro c s
    iintro ⟨⟨H, -⟩, I⟩
    unfold StableHlo.held
    imodintro
    iapply (pointsTo_read_all (Pipeline.ucRefs τ sig) (fun b => (((c : Thread nD τ)).1, b)) (W9 m ρ c) s)
    isplitl [H] <;> iassumption

end Cert.Proof.Odd

end
-- ==== Proof.OddClaim.lean ====
/- The odd layer's keys and values, read at an index on both sides. -/
module

public import proofs.«01_k».proof.Proof.OddRun
public import proofs.«01_k».proof.Proof.Gen.OddReferenceIdeal.Run
public import proofs.«01_k».proof.Proof.Gen.OddReferenceIdeal.Read
public import proofs.«01_k».proof.Defs
public import Idealize.ShloMosaic.Adequacy
public import Idealize.ShloMosaic.Init
public import Idealize.ShloMosaic.Lib.Quiescent

@[expose] public section

set_option maxRecDepth 16384

noncomputable section

namespace Cert.Proof.Odd

open Idealize.ShloMosaic Idealize.ShloMosaic.TcCoe Idealize.SL.Sem Idealize.ShloMosaic.StableHlo
open Cert.OddKernelIdeal Cert.OddKernelIdeal.Gen

variable (m : (ℓ : Loc nD τ sig) → Buf (Elt Ideal) ℓ) (ρ : Dev nD → PrngReg)

/-- The odd layer's gain as a row. -/
def gainRow (g : S2x3x2048.Idx → EReal) (i : S1x2048.Idx) : EReal := g (ix3 1 0 (i 1))

/-- The stacked weights' only layer. -/
def weights (w : S1x2048x4096.Idx → EReal) (i : S2048x4096.Idx) : EReal := w (ix3 0 (i 0) (i 1))

/-- Prompt row `r`, normalised, through weight column `k`. -/
def promptAt (x : S8192x2048.Idx → EReal) (g : S2x3x2048.Idx → EReal) (w : S1x2048x4096.Idx → EReal) (r : Fin 8192) (k : Fin 4096) : EReal :=
  projected (fun q => x (ix2 r q)) (fun q => g (ix3 1 0 q)) (fun q => w (ix3 0 q k))

/-- Sample row `r`, normalised, through weight column `k`. -/
def sampleAt (x : S128x2048.Idx → EReal) (g : S2x3x2048.Idx → EReal) (w : S1x2048x4096.Idx → EReal) (r : Fin 128) (k : Fin 4096) : EReal :=
  projected (fun q => x (ix2 r q)) (fun q => g (ix3 1 0 q)) (fun q => w (ix3 0 q k))

/-- A key's weight column: component `a`, head `h`, lane `d`. -/
def keyColumn (h : Fin 4) (a : Fin 2) (d : Fin 128) : Fin 4096 := ⟨2048 + (h.val * 256 + a.val * 128 + d.val), by omega⟩

/-- A value's weight column: head `h`, lane `d`. -/
def valueColumn (h : Fin 4) (d : Fin 256) : Fin 4096 := ⟨3072 + (h.val * 256 + d.val), by omega⟩

theorem gain_after (c : Dev nD) : W1 m ρ c (Proc.devRef .tc main_v1) = fun i => m ((c : Thread nD τ).loc main_arg2) (ix3 1 0 (i 0)) := by
  show StableHlo.after hostOps0 (W0 m ρ c) _ = _
  after_results
  funext i
  pointwise

theorem entry_gain0 (c : Dev nD) : V1 m ρ c main_v2 = gainRow (m ((c : Thread nD τ).loc main_arg2)) := by
  show StableHlo.after hostOps0 (W0 m ρ c) _ = _
  after_results
  unfold gainRow
  funext i
  pointwise

theorem entry_weights1 (c : Dev nD) : V3 m ρ c main_v4 = weights (m ((c : Thread nD τ).loc main_arg3)) := by
  show StableHlo.after hostOps1 (W2 m ρ c) _ = _
  after_results
  refine Eq.trans ?_ (congrArg weights (W2_args m ρ c main_arg3 (by decide)))
  unfold weights
  funext i
  pointwise

theorem entry_gain2 (c : Dev nD) : V5 m ρ c main_v6 = gainRow (m ((c : Thread nD τ).loc main_arg2)) := by
  show StableHlo.after hostOps2 (W4 m ρ c) _ = _
  after_results
  have h : W4 m ρ c (Proc.devRef .tc main_v1) = _ := (W4_of m ρ c main_v1 (by decide)).trans <| (W3_of m ρ c main_v1 (by decide)).trans <| (W2_of m ρ c main_v1 (by decide)).trans (gain_after m ρ c)
  rw [h]
  unfold gainRow
  funext i
  pointwise

theorem entry_weights3 (c : Dev nD) : V7 m ρ c main_v8 = weights (m ((c : Thread nD τ).loc main_arg3)) := by
  show StableHlo.after hostOps3 (W6 m ρ c) _ = _
  after_results
  refine Eq.trans ?_ (congrArg weights (W6_args m ρ c main_arg3 (by decide)))
  unfold weights
  funext i
  pointwise

theorem prompt_rows (c : Dev nD) : V1 m ρ c main_arg0 = m ((c : Thread nD τ).loc main_arg0) := W1_args m ρ c main_arg0 (by decide)

theorem sample_rows (c : Dev nD) : V5 m ρ c main_arg1 = m ((c : Thread nD τ).loc main_arg1) := W5_args m ρ c main_arg1 (by decide)

theorem prompt_left (c : Dev nD) : W8 m ρ c (Proc.devRef .tc main_v5)
    = fun i => promptAt (m ((c : Thread nD τ).loc main_arg0)) (m ((c : Thread nD τ).loc main_arg2)) (m ((c : Thread nD τ).loc main_arg3)) (i 0) (i 1) :=
  ((W8_of m ρ c main_v5 (by decide)).trans <| (W7_of m ρ c main_v5 (by decide)).trans <| (W6_of m ρ c main_v5 (by decide)).trans <| W5_of m ρ c main_v5 (by decide)).trans <| (W4_arr m ρ c 2).trans <| (array1 (V3 m ρ) c).trans <|
    congr (congrArg product8192 ((W3_of m ρ c main_v3 (by decide)).trans <| (W2_arr m ρ c 2).trans <| (array0 (V1 m ρ) c).trans <| congr (congrArg normed8192 (prompt_rows m ρ c)) (entry_gain0 m ρ c))) (entry_weights1 m ρ c)

theorem sample_left (c : Dev nD) : W8 m ρ c (Proc.devRef .tc main_v9)
    = fun i => sampleAt (m ((c : Thread nD τ).loc main_arg1)) (m ((c : Thread nD τ).loc main_arg2)) (m ((c : Thread nD τ).loc main_arg3)) (i 0) (i 1) :=
  (W8_arr m ρ c 2).trans <| (array3 (V7 m ρ) c).trans <|
    congr (congrArg product128 ((W7_of m ρ c main_v7 (by decide)).trans <| (W6_arr m ρ c 2).trans <| (array2 (V5 m ρ) c).trans <| congr (congrArg normed128 (sample_rows m ρ c)) (entry_gain2 m ρ c))) (entry_weights3 m ρ c)

def promptKeys (x : S8192x2048.Idx → EReal) (g : S2x3x2048.Idx → EReal) (w : S1x2048x4096.Idx → EReal) (i : S1x8192x1x4x2x128.Idx) : EReal := promptAt x g w (i 1) (keyColumn (i 3) (i 4) (i 5))

def promptValues (x : S8192x2048.Idx → EReal) (g : S2x3x2048.Idx → EReal) (w : S1x2048x4096.Idx → EReal) (i : S1x8192x1x4x256.Idx) : EReal := promptAt x g w (i 1) (valueColumn (i 3) (i 4))

def sampleKeys (x : S128x2048.Idx → EReal) (g : S2x3x2048.Idx → EReal) (w : S1x2048x4096.Idx → EReal) (i : S128x1x1x4x2x128.Idx) : EReal := sampleAt x g w (i 0) (keyColumn (i 3) (i 4) (i 5))

def sampleValues (x : S128x2048.Idx → EReal) (g : S2x3x2048.Idx → EReal) (w : S1x2048x4096.Idx → EReal) (i : S128x1x1x4x256.Idx) : EReal := sampleAt x g w (i 0) (valueColumn (i 3) (i 4))

theorem kernel_promptKeys (c : Dev nD) : W9 m ρ c (Proc.devRef .tc main_v11)
    = promptKeys (m ((c : Thread nD τ).loc main_arg0)) (m ((c : Thread nD τ).loc main_arg2)) (m ((c : Thread nD τ).loc main_arg3)) := by
  show StableHlo.after hostOps4 (W8 m ρ c) _ = _
  after_results
  rw [prompt_left m ρ c]
  funext i
  unfold promptKeys keyColumn
  pointwise

theorem kernel_promptValues (c : Dev nD) : W9 m ρ c (Proc.devRef .tc main_v13)
    = promptValues (m ((c : Thread nD τ).loc main_arg0)) (m ((c : Thread nD τ).loc main_arg2)) (m ((c : Thread nD τ).loc main_arg3)) := by
  show StableHlo.after hostOps4 (W8 m ρ c) _ = _
  after_results
  rw [prompt_left m ρ c]
  funext i
  unfold promptValues valueColumn
  pointwise

theorem kernel_sampleKeys (c : Dev nD) : W9 m ρ c (Proc.devRef .tc main_v15)
    = sampleKeys (m ((c : Thread nD τ).loc main_arg1)) (m ((c : Thread nD τ).loc main_arg2)) (m ((c : Thread nD τ).loc main_arg3)) := by
  show StableHlo.after hostOps4 (W8 m ρ c) _ = _
  after_results
  rw [sample_left m ρ c]
  funext i
  unfold sampleKeys keyColumn
  pointwise

theorem kernel_sampleValues (c : Dev nD) : W9 m ρ c (Proc.devRef .tc main_v17)
    = sampleValues (m ((c : Thread nD τ).loc main_arg1)) (m ((c : Thread nD τ).loc main_arg2)) (m ((c : Thread nD τ).loc main_arg3)) := by
  show StableHlo.after hostOps4 (W8 m ρ c) _ = _
  after_results
  rw [sample_left m ρ c]
  funext i
  unfold sampleValues valueColumn
  pointwise

open Cert.OddReferenceIdeal.Read in
theorem reference_promptKeys (x : S8192x2048.Idx → EReal) (g : S2x3x2048.Idx → EReal) (w : S1x2048x4096.Idx → EReal) : val_main_v42 (F := Ideal) x g w = promptKeys x g w := by
  funext i
  unfold val_main_v42 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  unfold promptKeys promptAt projected inverseRms keyColumn
  pointwise

open Cert.OddReferenceIdeal.Read in
theorem reference_promptValues (x : S8192x2048.Idx → EReal) (g : S2x3x2048.Idx → EReal) (w : S1x2048x4096.Idx → EReal) : val_main_v43 (F := Ideal) x g w = promptValues x g w := by
  funext i
  unfold val_main_v43 val_main_v21 val_main_v20 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  unfold promptValues promptAt projected inverseRms valueColumn
  pointwise

open Cert.OddReferenceIdeal.Read in
theorem reference_sampleKeys (x : S128x2048.Idx → EReal) (g : S2x3x2048.Idx → EReal) (w : S1x2048x4096.Idx → EReal) : val_main_v44 (F := Ideal) x g w = sampleKeys x g w := by
  funext i
  unfold val_main_v44 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v1 val_main_v0 val_main_cst_2 val_main_cst_3 val_main_cst_4
  unfold sampleKeys sampleAt projected inverseRms keyColumn
  pointwise

open Cert.OddReferenceIdeal.Read in
theorem reference_sampleValues (x : S128x2048.Idx → EReal) (g : S2x3x2048.Idx → EReal) (w : S1x2048x4096.Idx → EReal) : val_main_v45 (F := Ideal) x g w = sampleValues x g w := by
  funext i
  unfold val_main_v45 val_main_v41 val_main_v40 val_main_v37 val_main_v36 val_main_v35 val_main_v34 val_main_v33 val_main_v32 val_main_v31 val_main_v30 val_main_v29 val_main_v28 val_main_v27 val_main_v26 val_main_v25 val_main_v24 val_main_v23 val_main_v22 val_main_v1 val_main_v0 val_main_cst_2 val_main_cst_3 val_main_cst_4
  unfold sampleValues sampleAt projected inverseRms valueColumn
  pointwise

theorem quiet : quiescent_OddReferenceIdeal := fun m ρ _ =>
  (θ_run Cert.OddReferenceIdeal.defs _ _).mono (fun r h => ⟨fun c => (h c).2.2.2.2, sem_eq_zero_of_no_sems (by decide) r.2⟩)
    (Cert.OddReferenceIdeal.Value.run (F := Ideal) m ρ)

theorem equal : algebraic_OddKernelIdeal_OddReferenceIdeal := by
  intro m ρ m' ρ' _ hagree
  refine ⟨fun c => promptKeys (m ((c.tc : Thread nD τ).loc main_arg0)) (m ((c.tc : Thread nD τ).loc main_arg2)) (m ((c.tc : Thread nD τ).loc main_arg3)), fun c => promptValues (m ((c.tc : Thread nD τ).loc main_arg0)) (m ((c.tc : Thread nD τ).loc main_arg2)) (m ((c.tc : Thread nD τ).loc main_arg3)), fun c => sampleKeys (m ((c.tc : Thread nD τ).loc main_arg1)) (m ((c.tc : Thread nD τ).loc main_arg2)) (m ((c.tc : Thread nD τ).loc main_arg3)), fun c => sampleValues (m ((c.tc : Thread nD τ).loc main_arg1)) (m ((c.tc : Thread nD τ).loc main_arg2)) (m ((c.tc : Thread nD τ).loc main_arg3)), ?_, ?_⟩
  · refine (θ_run defs _ _).mono (fun r h c => ⟨(h c _ (mem_uc main_v11 (by decide))).trans (kernel_promptKeys m ρ c), (h c _ (mem_uc main_v13 (by decide))).trans (kernel_promptValues m ρ c), (h c _ (mem_uc main_v15 (by decide))).trans (kernel_sampleKeys m ρ c), (h c _ (mem_uc main_v17 (by decide))).trans (kernel_sampleValues m ρ c),
      (h c _ (mem_uc main_arg0 (by decide))).trans (W9_main_arg0 m ρ c), (h c _ (mem_uc main_arg1 (by decide))).trans (W9_main_arg1 m ρ c), (h c _ (mem_uc main_arg2 (by decide))).trans (W9_main_arg2 m ρ c), (h c _ (mem_uc main_arg3 (by decide))).trans (W9_main_arg3 m ρ c)⟩) (run m ρ)
  · refine (θ_run Cert.OddReferenceIdeal.defs _ _).mono (fun r h c => ⟨?_, ?_, ?_, ?_, (h c).2.2.2.2⟩) (Cert.OddReferenceIdeal.Value.run (F := Ideal) m' ρ')
    · refine (h c).1.trans ((Cert.OddReferenceIdeal.Read.val_main_v42_eq _ _ _).trans ((reference_promptKeys _ _ _).trans ?_))
      rw [(hagree c).1, (hagree c).2.2.1, (hagree c).2.2.2]
    · refine (h c).2.1.trans ((Cert.OddReferenceIdeal.Read.val_main_v43_eq _ _ _).trans ((reference_promptValues _ _ _).trans ?_))
      rw [(hagree c).1, (hagree c).2.2.1, (hagree c).2.2.2]
    · refine (h c).2.2.1.trans ((Cert.OddReferenceIdeal.Read.val_main_v44_eq _ _ _).trans ((reference_sampleKeys _ _ _).trans ?_))
      rw [(hagree c).2.1, (hagree c).2.2.1, (hagree c).2.2.2]
    · refine (h c).2.2.2.1.trans ((Cert.OddReferenceIdeal.Read.val_main_v45_eq _ _ _).trans ((reference_sampleValues _ _ _).trans ?_))
      rw [(hagree c).2.1, (hagree c).2.2.1, (hagree c).2.2.2]

end Cert.Proof.Odd

end
-- ==== Proof.MemRun.lean ====
/- The memory projections call by call: what each of the four matrix products leaves in its array, and the run of all four. -/
module

public import proofs.«01_k».proof.Proof.Gen.MemKernelIdeal.Frame
public import Idealize.ShloMosaic.Lib.Pointwise
public import Idealize.ShloMosaic.Lib.Pipeline.ValueKit
public import Idealize.ShloMosaic.Lib.Pipeline.ValueKit.Point
public import Idealize.ShloMosaic.PureOps.Ideal.Laws

@[expose] public section

set_option maxRecDepth 16384

noncomputable section

namespace Cert.Proof.Mem

open Idealize.ShloMosaic Idealize.ShloMosaic.TcCoe Idealize.SL.Sem
open Idealize.ShloMosaic.Pipeline (Dat Cfg Window)
open Cert.MemKernelIdeal Cert.MemKernelIdeal.Gen

/-- A matrix product's entry. -/
def product (x : S256x2048.Idx → EReal) (w : S2048x512.Idx → EReal) (i : S256x512.Idx) : EReal := ∑ q : Fin 2048, x (ix2 (i 0) q) * w (ix2 q (i 1))

variable (V : (c : Dev nD) → (b : Ref sig .tc) → Buf (Elt Ideal) ((c : Thread nD τ).loc b))

theorem indices0 : ∀ t : Fin grid0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) := by decide +kernel

theorem array0 (c : Dev nD) : (dat0 V c).arrAt 2 cfg0.N = product (V c main_v0) (V c main_v2) := by
  refine funext fun i => ?_
  refine Dat.arrAt_forall_of_covers (dat0 V c) (2 : Fin 3) (P := fun i v => v = product (V c main_v0) (V c main_v2) i) (by decide +kernel) (fun t hf y => ?_) i (Memref.isWhole_whole _)
  obtain ⟨a, b, d, e⟩ := indices0 t
  blk_simp
  rw [after0_2]
  frame_out
  unfold k0_pay1 product
  pointwise
  refine Finset.sum_congr (M := EReal) rfl fun q _ => ?_
  refine congr (congrArg _ ?_) ?_ <;> blk_ext [iblk0] <;> omega

theorem indices1 : ∀ t : Fin grid1.N, win1_0.index t (0 : Fin 2) = win1_2.index t (0 : Fin 2) ∧ win1_0.index t (1 : Fin 2) = 0
    ∧ win1_1.index t (0 : Fin 2) = 0 ∧ win1_1.index t (1 : Fin 2) = win1_2.index t (1 : Fin 2) := by decide +kernel

theorem array1 (c : Dev nD) : (dat1 V c).arrAt 2 cfg1.N = product (V c main_v0) (V c main_v5) := by
  refine funext fun i => ?_
  refine Dat.arrAt_forall_of_covers (dat1 V c) (2 : Fin 3) (P := fun i v => v = product (V c main_v0) (V c main_v5) i) (by decide +kernel) (fun t hf y => ?_) i (Memref.isWhole_whole _)
  obtain ⟨a, b, d, e⟩ := indices1 t
  blk_simp
  rw [after1_2]
  frame_out
  unfold k1_pay1 product
  pointwise
  refine Finset.sum_congr (M := EReal) rfl fun q _ => ?_
  refine congr (congrArg _ ?_) ?_ <;> blk_ext [iblk1] <;> omega

theorem indices2 : ∀ t : Fin grid2.N, win2_0.index t (0 : Fin 2) = win2_2.index t (0 : Fin 2) ∧ win2_0.index t (1 : Fin 2) = 0
    ∧ win2_1.index t (0 : Fin 2) = 0 ∧ win2_1.index t (1 : Fin 2) = win2_2.index t (1 : Fin 2) := by decide +kernel

theorem array2 (c : Dev nD) : (dat2 V c).arrAt 2 cfg2.N = product (V c main_v0) (V c main_v8) := by
  refine funext fun i => ?_
  refine Dat.arrAt_forall_of_covers (dat2 V c) (2 : Fin 3) (P := fun i v => v = product (V c main_v0) (V c main_v8) i) (by decide +kernel) (fun t hf y => ?_) i (Memref.isWhole_whole _)
  obtain ⟨a, b, d, e⟩ := indices2 t
  blk_simp
  rw [after2_2]
  frame_out
  unfold k2_pay1 product
  pointwise
  refine Finset.sum_congr (M := EReal) rfl fun q _ => ?_
  refine congr (congrArg _ ?_) ?_ <;> blk_ext [iblk2] <;> omega

theorem indices3 : ∀ t : Fin grid3.N, win3_0.index t (0 : Fin 2) = win3_2.index t (0 : Fin 2) ∧ win3_0.index t (1 : Fin 2) = 0
    ∧ win3_1.index t (0 : Fin 2) = 0 ∧ win3_1.index t (1 : Fin 2) = win3_2.index t (1 : Fin 2) := by decide +kernel

theorem array3 (c : Dev nD) : (dat3 V c).arrAt 2 cfg3.N = product (V c main_v0) (V c main_v11) := by
  refine funext fun i => ?_
  refine Dat.arrAt_forall_of_covers (dat3 V c) (2 : Fin 3) (P := fun i v => v = product (V c main_v0) (V c main_v11) i) (by decide +kernel) (fun t hf y => ?_) i (Memref.isWhole_whole _)
  obtain ⟨a, b, d, e⟩ := indices3 t
  blk_simp
  rw [after3_2]
  frame_out
  unfold k3_pay1 product
  pointwise
  refine Finset.sum_congr (M := EReal) rfl fun q _ => ?_
  refine congr (congrArg _ ?_) ?_ <;> blk_ext [iblk3] <;> omega

open Idealize.SL Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run leaves every buffer that outlives the calls as the fold through the program says. -/
theorem run : θ_run defs (onTc (τ := τ) (main (F := Ideal))) ⟨m, fun _ => 0, ρ⟩ (fun r => ∀ c : Dev nD, ∀ b ∈ Pipeline.ucRefs τ sig, r.2.mem ((c : Thread nD τ).1, b) = W9 m ρ c b) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := Rounds.initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W9 m ρ c b)
    ?_ ?_ ?_ ?_ (fun s h => h)
  · iintro H; imodintro
    isplitl [H]
    · iapply (show (ownU (Rounds.initOf (Pipeline.cells cfgs cellOf_inj) (Pipeline.launchToks cfgs cellOf_inj)) : sProp 𝕄)
        ⊢ BI.own (emb₁ (Rounds.initOf (Pipeline.cells cfgs cellOf_inj) (Pipeline.launchToks cfgs cellOf_inj))) from .rfl)
      iexact H
    iapply (show (BI.emp : sProp 𝕄) ⊢ bigSep Finset.univ (fun _ : Dev nD => (BI.emp : sProp 𝕄)) from by rw [BI.bigSep_emp_const])
    iempintro
  · refine ⟨fun _ => .rfl, fun _ => .rfl, fun _ => .rfl, fun _ => .rfl, fun _ => .rfl, fun _ => .rfl, fun _ => .rfl, fun _ => .rfl, fun _ => .rfl, fun c => ?_⟩
    dsimp only [Pipeline.Seg.post, hseg, Pipeline.HostSeg.ofOps]
    iintro ⟨H, G, O⟩
    isplitl [H G]
    · isplitl [H] <;> iassumption
    iexact O
  · refine Pipeline.initEach L lv fun c => ?_
    rw [show unscopedBufs c (fun b => m ((c : Thread nD τ).loc b)) = StableHlo.held (c : Thread nD τ) (Pipeline.ucRefs τ sig) (W0 m ρ c) from Pipeline.unscopedBufs_held c (W0 m ρ c)]
    iintro ⟨⟨H, -, O, -, G, -⟩, -⟩
    imodintro
    isplitl [H]; · iexact H
    isplitl [G]
    · iexists _; iexact G
    iexists ∅; iexact O
  · intro c s
    iintro ⟨⟨H, -⟩, I⟩
    unfold StableHlo.held
    imodintro
    iapply (pointsTo_read_all (Pipeline.ucRefs τ sig) (fun b => (((c : Thread nD τ)).1, b)) (W9 m ρ c) s)
    isplitl [H] <;> iassumption

end Cert.Proof.Mem

end
-- ==== Proof.MemClaim.lean ====
/- The memory projections' results, read at an index on both sides. -/
module

public import proofs.«01_k».proof.Proof.MemRun
public import proofs.«01_k».proof.Proof.Gen.MemReferenceIdeal.Run
public import proofs.«01_k».proof.Proof.Gen.MemReferenceIdeal.Read
public import proofs.«01_k».proof.Defs
public import Idealize.ShloMosaic.Adequacy
public import Idealize.ShloMosaic.Init
public import Idealize.ShloMosaic.Lib.Quiescent

@[expose] public section

set_option maxRecDepth 16384

noncomputable section

namespace Cert.Proof.Mem

open Idealize.ShloMosaic Idealize.ShloMosaic.TcCoe Idealize.SL.Sem Idealize.ShloMosaic.StableHlo
open Cert.MemKernelIdeal Cert.MemKernelIdeal.Gen

variable (m : (ℓ : Loc nD τ sig) → Buf (Elt Ideal) ℓ) (ρ : Dev nD → PrngReg)

/-- The memory's rows as a matrix. -/
def rows (x : S1x256x2048.Idx → EReal) (i : S256x2048.Idx) : EReal := x (ix3 0 (i 0) (i 1))

/-- One layer of the stacked weights. -/
def layer (w : S2x2048x512.Idx → EReal) (l : Fin 2) (i : S2048x512.Idx) : EReal := w (ix3 l (i 0) (i 1))

theorem entry_rows (c : Dev nD) : V1 m ρ c main_v0 = rows (m ((c : Thread nD τ).loc main_arg0)) := by
  show StableHlo.after hostOps0 (W0 m ρ c) _ = _
  after_results
  unfold rows
  funext i
  pointwise

theorem entry_weights0 (c : Dev nD) : V1 m ρ c main_v2 = layer (m ((c : Thread nD τ).loc main_arg1)) 0 := by
  show StableHlo.after hostOps0 (W0 m ρ c) _ = _
  after_results
  refine Eq.trans ?_ (congrArg (fun z => layer z 0) (W0_args m ρ c main_arg1 (by decide)))
  unfold layer
  funext i
  pointwise

theorem entry_weights1 (c : Dev nD) : V3 m ρ c main_v5 = layer (m ((c : Thread nD τ).loc main_arg2)) 0 := by
  show StableHlo.after hostOps1 (W2 m ρ c) _ = _
  after_results
  refine Eq.trans ?_ (congrArg (fun z => layer z 0) (W2_args m ρ c main_arg2 (by decide)))
  unfold layer
  funext i
  pointwise

theorem entry_weights2 (c : Dev nD) : V5 m ρ c main_v8 = layer (m ((c : Thread nD τ).loc main_arg1)) 1 := by
  show StableHlo.after hostOps2 (W4 m ρ c) _ = _
  after_results
  refine Eq.trans ?_ (congrArg (fun z => layer z 1) (W4_args m ρ c main_arg1 (by decide)))
  unfold layer
  funext i
  pointwise

theorem entry_weights3 (c : Dev nD) : V7 m ρ c main_v11 = layer (m ((c : Thread nD τ).loc main_arg2)) 1 := by
  show StableHlo.after hostOps3 (W6 m ρ c) _ = _
  after_results
  refine Eq.trans ?_ (congrArg (fun z => layer z 1) (W6_args m ρ c main_arg2 (by decide)))
  unfold layer
  funext i
  pointwise

/-- The product each call leaves. -/
def spec (x : S1x256x2048.Idx → EReal) (w : S2x2048x512.Idx → EReal) (l : Fin 2) : S256x512.Idx → EReal := product (rows x) (layer w l)

theorem left0 (c : Dev nD) : W8 m ρ c (Proc.devRef .tc main_v3) = spec (m ((c : Thread nD τ).loc main_arg0)) (m ((c : Thread nD τ).loc main_arg1)) 0 :=
  ((W8_of m ρ c main_v3 (by decide)).trans <| (W7_of m ρ c main_v3 (by decide)).trans <| (W6_of m ρ c main_v3 (by decide)).trans <| (W5_of m ρ c main_v3 (by decide)).trans <| (W4_of m ρ c main_v3 (by decide)).trans <| (W3_of m ρ c main_v3 (by decide))).trans <| (W2_arr m ρ c 2).trans <| (array0 (V1 m ρ) c).trans <| congr (congrArg product ((entry_rows m ρ c))) (entry_weights0 m ρ c)

theorem left1 (c : Dev nD) : W8 m ρ c (Proc.devRef .tc main_v6) = spec (m ((c : Thread nD τ).loc main_arg0)) (m ((c : Thread nD τ).loc main_arg2)) 0 :=
  ((W8_of m ρ c main_v6 (by decide)).trans <| (W7_of m ρ c main_v6 (by decide)).trans <| (W6_of m ρ c main_v6 (by decide)).trans <| (W5_of m ρ c main_v6 (by decide))).trans <| (W4_arr m ρ c 2).trans <| (array1 (V3 m ρ) c).trans <| congr (congrArg product (((W3_of m ρ c main_v0 (by decide)).trans <| (W2_of m ρ c main_v0 (by decide))).trans (entry_rows m ρ c))) (entry_weights1 m ρ c)

theorem left2 (c : Dev nD) : W8 m ρ c (Proc.devRef .tc main_v9) = spec (m ((c : Thread nD τ).loc main_arg0)) (m ((c : Thread nD τ).loc main_arg1)) 1 :=
  ((W8_of m ρ c main_v9 (by decide)).trans <| (W7_of m ρ c main_v9 (by decide))).trans <| (W6_arr m ρ c 2).trans <| (array2 (V5 m ρ) c).trans <| congr (congrArg product (((W5_of m ρ c main_v0 (by decide)).trans <| (W4_of m ρ c main_v0 (by decide)).trans <| (W3_of m ρ c main_v0 (by decide)).trans <| (W2_of m ρ c main_v0 (by decide))).trans (entry_rows m ρ c))) (entry_weights2 m ρ c)

theorem left3 (c : Dev nD) : W8 m ρ c (Proc.devRef .tc main_v12) = spec (m ((c : Thread nD τ).loc main_arg0)) (m ((c : Thread nD τ).loc main_arg2)) 1 :=
  (W8_arr m ρ c 2).trans <| (array3 (V7 m ρ) c).trans <| congr (congrArg product (((W7_of m ρ c main_v0 (by decide)).trans <| (W6_of m ρ c main_v0 (by decide)).trans <| (W5_of m ρ c main_v0 (by decide)).trans <| (W4_of m ρ c main_v0 (by decide)).trans <| (W3_of m ρ c main_v0 (by decide)).trans <| (W2_of m ρ c main_v0 (by decide))).trans (entry_rows m ρ c))) (entry_weights3 m ρ c)

/-- Memory row `i 2` through layer `l`'s weights, at head `i 3` and lane `i 4`. -/
def entryAt (x : S1x256x2048.Idx → EReal) (w : S2x2048x512.Idx → EReal) (i : S2x1x256x4x128.Idx) (l : Fin 2) : EReal :=
  ∑ q : Fin 2048, x (ix3 0 (i 2) q) * w (ix3 l q ⟨(i 3).val * 128 + (i 4).val, by have h : (i 3).val < 4 := (i 3).isLt; have h' : (i 4).val < 128 := (i 4).isLt; omega⟩)

/-- The results' entries: the layer is `i 0`. -/
def entry (x : S1x256x2048.Idx → EReal) (w : S2x2048x512.Idx → EReal) (i : S2x1x256x4x128.Idx) : EReal := entryAt x w i (i 0)

theorem choose (P : Fin 2 → EReal) (b : Fin 2) : (if h : b.val < 1 then P 0 else P 1) = P b := by
  match b with
  | ⟨0, _⟩ => rfl
  | ⟨1, _⟩ => rfl

theorem kernel_keys (c : Dev nD) : W9 m ρ c (Proc.devRef .tc main_v17) = entry (m ((c : Thread nD τ).loc main_arg0)) (m ((c : Thread nD τ).loc main_arg1)) := by
  show StableHlo.after hostOps4 (W8 m ρ c) _ = _
  after_results
  rw [left0 m ρ c, left2 m ρ c]
  funext i
  unfold spec product rows layer
  pointwise
  exact choose (entryAt _ _ i) (i 0)

theorem kernel_values (c : Dev nD) : W9 m ρ c (Proc.devRef .tc main_v22) = entry (m ((c : Thread nD τ).loc main_arg0)) (m ((c : Thread nD τ).loc main_arg2)) := by
  show StableHlo.after hostOps4 (W8 m ρ c) _ = _
  after_results
  rw [left1 m ρ c, left3 m ρ c]
  funext i
  unfold spec product rows layer
  pointwise
  exact choose (entryAt _ _ i) (i 0)

open Cert.MemReferenceIdeal.Read in
theorem reference_keys (x : S1x256x2048.Idx → EReal) (w : S2x2048x512.Idx → EReal) : val_main_v18 (F := Ideal) x w = entry x w := by
  funext i
  unfold val_main_v18 val_main_v17 val_main_v16 val_main_v11 val_main_v10 val_main_v9 val_main_v8 val_main_v3 val_main_v2 val_main_v1 val_main_v0
  pointwise
  exact choose (entryAt _ _ i) (i 0)

open Cert.MemReferenceIdeal.Read in
theorem reference_values (x : S1x256x2048.Idx → EReal) (w : S2x2048x512.Idx → EReal) : val_main_v21 (F := Ideal) x w = entry x w := by
  funext i
  unfold val_main_v21 val_main_v20 val_main_v19 val_main_v15 val_main_v14 val_main_v13 val_main_v12 val_main_v7 val_main_v6 val_main_v5 val_main_v4
  pointwise
  exact choose (entryAt _ _ i) (i 0)

theorem quiet : quiescent_MemReferenceIdeal := fun m ρ _ =>
  (θ_run Cert.MemReferenceIdeal.defs _ _).mono (fun r h => ⟨fun c => (h c).2.2, sem_eq_zero_of_no_sems (by decide) r.2⟩)
    (Cert.MemReferenceIdeal.Value.run (F := Ideal) m ρ)

theorem equal : algebraic_MemKernelIdeal_MemReferenceIdeal := by
  intro m ρ m' ρ' _ hagree
  refine ⟨fun c => entry (m ((c.tc : Thread nD τ).loc main_arg0)) (m ((c.tc : Thread nD τ).loc main_arg1)), fun c => entry (m ((c.tc : Thread nD τ).loc main_arg0)) (m ((c.tc : Thread nD τ).loc main_arg2)), ?_, ?_⟩
  · refine (θ_run defs _ _).mono (fun r h c => ⟨(h c _ (mem_uc main_v17 (by decide))).trans (kernel_keys m ρ c), (h c _ (mem_uc main_v22 (by decide))).trans (kernel_values m ρ c),
      (h c _ (mem_uc main_arg0 (by decide))).trans (W9_main_arg0 m ρ c), (h c _ (mem_uc main_arg1 (by decide))).trans (W9_main_arg1 m ρ c), (h c _ (mem_uc main_arg2 (by decide))).trans (W9_main_arg2 m ρ c)⟩) (run m ρ)
  · refine (θ_run Cert.MemReferenceIdeal.defs _ _).mono (fun r h c => ⟨?_, ?_, (h c).2.2⟩) (Cert.MemReferenceIdeal.Value.run (F := Ideal) m' ρ')
    · refine (h c).1.trans ((Cert.MemReferenceIdeal.Read.val_main_v18_eq _ _).trans ((reference_keys _ _).trans ?_))
      rw [(hagree c).1, (hagree c).2.1]
    · refine (h c).2.1.trans ((Cert.MemReferenceIdeal.Read.val_main_v21_eq _ _).trans ((reference_values _ _).trans ?_))
      rw [(hagree c).1, (hagree c).2.2]

end Cert.Proof.Mem

end
-- ==== Proof.Softmax.lean ====
/- Attention weights over a fixed set of keys, and what a query reads through them. -/
module

public import Idealize.ShloMosaic.PureOps.Ideal
public import Mathlib.Data.Finset.Fold

@[expose] public section

noncomputable section

namespace Cert.Proof

open Idealize.ShloMosaic

/-- A query against one key, scaled. -/
def score {n : ℕ} (q k : Fin n → EReal) : EReal := (∑ d : Fin n, q d * k d) * (FloatOps.ofBits (F := Ideal) .f32 0x3DB504F3#32 : EReal)

/-- The largest score. -/
def peak {n : ℕ} (s : Fin n → EReal) : EReal :=
  (Finset.univ : Finset (Fin n)).fold max (FloatOps.ofBits (F := Ideal) .f32 0xFF800000#32 : EReal) s

/-- The values weighted by the softmax of the scores. -/
def attended {n : ℕ} (s v : Fin n → EReal) : EReal :=
  ∑ t : Fin n, Ideal.div (Ideal.exp (s t - peak s)) (∑ u : Fin n, Ideal.exp (s u - peak s)) * v t

end Cert.Proof

end
-- ==== Proof.CrossRun.lean ====
/- The memory cross-attention call by call: what each of its normalisation, query projection, attention over the memory and output
   projection leaves in its array, and the run of all four. -/
module

public import proofs.«01_k».proof.Proof.Gen.CrossKernelIdeal.Frame
public import proofs.«01_k».proof.Proof.Norm
public import proofs.«01_k».proof.Proof.Softmax
public import Idealize.ShloMosaic.Lib.Pointwise
public import Idealize.ShloMosaic.Lib.Pipeline.ValueKit
public import Idealize.ShloMosaic.Lib.Pipeline.ValueKit.Point
public import Idealize.ShloMosaic.PureOps.Ideal.Laws

@[expose] public section

set_option maxRecDepth 16384

noncomputable section

namespace Cert.Proof.Cross

open Idealize.ShloMosaic Idealize.ShloMosaic.TcCoe Idealize.SL.Sem
open Idealize.ShloMosaic.Pipeline (Dat Cfg Window)
open Cert.CrossKernelIdeal Cert.CrossKernelIdeal.Gen

/-- The normalised rows' entry. -/
def normed (x : S8192x2048.Idx → EReal) (g : S1x2048.Idx → EReal) (i : S8192x2048.Idx) : EReal :=
  x i * inverseRms (fun q => x (ix2 (i 0) q)) * g (ix2 0 (i 1))

/-- A query's entry. -/
def queried (x : S8192x2048.Idx → EReal) (w : S2048x512.Idx → EReal) (i : S8192x512.Idx) : EReal := ∑ q : Fin 2048, x (ix2 (i 0) q) * w (ix2 q (i 1))

/-- Lane `d` of the head that column `j` belongs to. -/
def lane (j : Fin 512) (d : Fin 128) : Fin 512 := ⟨j.val / 128 * 128 + d.val, by omega⟩

/-- What a query row reads from the memory: head by head, the values weighted by the softmax of its scores against the keys. -/
def recalled (x : S8192x512.Idx → EReal) (k v : S256x512.Idx → EReal) (i : S8192x512.Idx) : EReal :=
  attended (fun t : Fin 256 => score (fun d => x (ix2 (i 0) (lane (i 1) d))) (fun d => k (ix2 t (lane (i 1) d)))) (fun t => v (ix2 t (i 1)))

/-- A residual plus a matrix product. -/
def added (x : S8192x512.Idx → EReal) (w : S512x2048.Idx → EReal) (r : S8192x2048.Idx → EReal) (i : S8192x2048.Idx) : EReal :=
  r i + ∑ q : Fin 512, x (ix2 (i 0) q) * w (ix2 q (i 1))

/-- One head's store at a block entry. -/
def headEntry (x : S512x128.Idx → EReal) (k v : S256x128.Idx → EReal) (j : S512x128.Idx) : EReal :=
  attended (fun t : Fin 256 => score (fun d => x (ix2 (j 0) d)) (fun d => k (ix2 t d))) (fun t => v (ix2 t (j 1)))

theorem pay_first (x : Vec Ideal S512x128 .f32) (k v : Vec Ideal S256x128 .f32) (j : S512x128.Idx) : k2_pay2 (F := Ideal) x k v j = headEntry x k v j := by
  unfold k2_pay2 headEntry attended peak score
  pointwise

theorem pay_second (x : Vec Ideal S512x128 .f32) (k v : Vec Ideal S256x128 .f32) (j : S512x128.Idx) :
    k2_pay5 (F := Ideal) (k2_pay3 x k) (k2_pay4 x k) v j = headEntry x k v j := pay_first x k v j

theorem pay_third (x : Vec Ideal S512x128 .f32) (k v : Vec Ideal S256x128 .f32) (j : S512x128.Idx) : k2_pay6 (F := Ideal) x k v j = headEntry x k v j := pay_first x k v j

theorem pay_fourth (x : Vec Ideal S512x128 .f32) (k v : Vec Ideal S256x128 .f32) (j : S512x128.Idx) : k2_pay1 (F := Ideal) (k2_pay7 x) k v j = headEntry x k v j := pay_first x k v j

variable (V : (c : Dev nD) → (b : Ref sig .tc) → Buf (Elt Ideal) ((c : Thread nD τ).loc b))

theorem indices0 : ∀ t : Fin grid0.N, win0_0.index t (0 : Fin 2) = win0_2.index t (0 : Fin 2) ∧ win0_0.index t (1 : Fin 2) = 0 ∧ win0_2.index t (1 : Fin 2) = 0
    ∧ win0_1.index t (0 : Fin 2) = 0 ∧ win0_1.index t (1 : Fin 2) = 0 := by decide +kernel

theorem array0 (c : Dev nD) : (dat0 V c).arrAt 2 cfg0.N = normed (V c main_arg0) (V c main_v2) := by
  refine funext fun i => ?_
  refine Dat.arrAt_forall_of_covers (dat0 V c) (2 : Fin 3) (P := fun i v => v = normed (V c main_arg0) (V c main_v2) i) (by decide +kernel) (fun t hf y => ?_) i (Memref.isWhole_whole _)
  obtain ⟨a, b, b', d, e⟩ := indices0 t
  blk_simp
  rw [after0_2]
  frame_out
  unfold k0_pay1 normed inverseRms
  pointwise
  refine congr (congrArg _ (congr (congrArg _ ?_) (congrArg Ideal.rsqrt (congrArg (fun z : EReal => Ideal.div z _ + _) (Finset.sum_congr (M := EReal) rfl fun q _ => ?_))))) ?_
  · blk_ext [iblk0] <;> omega
  · refine congr (congrArg _ ?_) ?_ <;> blk_ext [iblk0] <;> omega
  · blk_ext [iblk0] <;> omega

theorem indices1 : ∀ t : Fin grid1.N, win1_0.index t (0 : Fin 2) = win1_2.index t (0 : Fin 2) ∧ win1_0.index t (1 : Fin 2) = 0
    ∧ win1_1.index t (0 : Fin 2) = 0 ∧ win1_1.index t (1 : Fin 2) = win1_2.index t (1 : Fin 2) := by decide +kernel

theorem array1 (c : Dev nD) : (dat1 V c).arrAt 2 cfg1.N = queried (V c main_v3) (V c main_v5) := by
  refine funext fun i => ?_
  refine Dat.arrAt_forall_of_covers (dat1 V c) (2 : Fin 3) (P := fun i v => v = queried (V c main_v3) (V c main_v5) i) (by decide +kernel) (fun t hf y => ?_) i (Memref.isWhole_whole _)
  obtain ⟨a, b, d, e⟩ := indices1 t
  blk_simp
  rw [after1_2]
  frame_out
  unfold k1_pay1 queried
  pointwise
  refine Finset.sum_congr (M := EReal) rfl fun q _ => ?_
  refine congr (congrArg _ ?_) ?_ <;> blk_ext [iblk1] <;> omega

theorem indices2 : ∀ t : Fin grid2.N, win2_0.index t (0 : Fin 2) = win2_3.index t (0 : Fin 2) ∧ win2_0.index t (1 : Fin 2) = 0 ∧ win2_3.index t (1 : Fin 2) = 0
    ∧ win2_1.index t (0 : Fin 2) = 0 ∧ win2_1.index t (1 : Fin 2) = 0 ∧ win2_2.index t (0 : Fin 2) = 0 ∧ win2_2.index t (1 : Fin 2) = 0 := by decide +kernel

/-- A block of the attention's result, its four column stores read together. -/
def blockEntry (x : S512x512.Idx → EReal) (k v : S256x512.Idx → EReal) (y : S512x512.Idx) : EReal :=
  attended (fun t : Fin 256 => score (fun d => x (ix2 (y 0) (lane (y 1) d))) (fun d => k (ix2 t (lane (y 1) d)))) (fun t => v (ix2 t (y 1)))

theorem block_apply (x : Vec Ideal S512x512 .f32) (k v : Vec Ideal S256x512 .f32) (y : S512x512.Idx) : out2_3 (F := Ideal) x k v y = blockEntry x k v y := by
  have hy : (y 1).val < 512 := (y 1).isLt
  unfold out2_3
  rw [show (k2_pay1 (F := Ideal) (k2_pay7 (View.ld x r2_6)) (View.ld k r2_7) (View.ld v r2_7)) = headEntry (View.ld x r2_6) (View.ld k r2_7) (View.ld v r2_7) from funext (pay_fourth _ _ _),
    show (k2_pay6 (F := Ideal) (View.ld x r2_4) (View.ld k r2_5) (View.ld v r2_5)) = headEntry (View.ld x r2_4) (View.ld k r2_5) (View.ld v r2_5) from funext (pay_third _ _ _),
    show (k2_pay5 (F := Ideal) (k2_pay3 (View.ld x r2_2) (View.ld k r2_3)) (k2_pay4 (View.ld x r2_2) (View.ld k r2_3)) (View.ld v r2_3)) = headEntry (View.ld x r2_2) (View.ld k r2_3) (View.ld v r2_3) from funext (pay_second _ _ _),
    show (k2_pay2 (F := Ideal) (View.ld x r2_0) (View.ld k r2_1) (View.ld v r2_1)) = headEntry (View.ld x r2_0) (View.ld k r2_1) (View.ld v r2_1) from funext (pay_first _ _ _)]
  canon_tiles z h
  all_goals
    unfold headEntry blockEntry lane
    refine congr (congrArg attended (funext fun t => congr (congrArg score (funext fun d => ?_)) (funext fun d => ?_))) (funext fun t => ?_)
    all_goals
      refine View.ld_unit_apply_of _ _ _ _ _ _ fun a => ?_
      match a with
      | ⟨0, _⟩ => simp; try omega
      | ⟨1, _⟩ => simp; try omega

theorem array2 (c : Dev nD) : (dat2 V c).arrAt 3 cfg2.N = recalled (V c main_v6) (V c main_arg1) (V c main_arg2) := by
  refine funext fun i => ?_
  refine Dat.arrAt_forall_of_covers (dat2 V c) (3 : Fin 4) (P := fun i v => v = recalled (V c main_v6) (V c main_arg1) (V c main_arg2) i) (by decide +kernel) (fun t hf y => ?_) i (Memref.isWhole_whole _)
  obtain ⟨a, b, d, e, f, g, h⟩ := indices2 t
  blk_simp
  rw [after2_3, block_apply]
  unfold blockEntry recalled lane
  refine congr (congrArg attended (funext fun t => congr (congrArg score (funext fun d => ?_)) (funext fun d => ?_))) (funext fun t => ?_)
  all_goals blk_ext [iblk2] <;> omega

theorem indices3 : ∀ t : Fin grid3.N, win3_0.index t (0 : Fin 2) = win3_3.index t (0 : Fin 2) ∧ win3_0.index t (1 : Fin 2) = 0
    ∧ win3_1.index t (0 : Fin 2) = 0 ∧ win3_1.index t (1 : Fin 2) = win3_3.index t (1 : Fin 2)
    ∧ win3_2.index t (0 : Fin 2) = win3_3.index t (0 : Fin 2) ∧ win3_2.index t (1 : Fin 2) = win3_3.index t (1 : Fin 2) := by decide +kernel

theorem array3 (c : Dev nD) : (dat3 V c).arrAt 3 cfg3.N = added (V c main_v7) (V c main_v9) (V c main_arg0) := by
  refine funext fun i => ?_
  refine Dat.arrAt_forall_of_covers (dat3 V c) (3 : Fin 4) (P := fun i v => v = added (V c main_v7) (V c main_v9) (V c main_arg0) i) (by decide +kernel) (fun t hf y => ?_) i (Memref.isWhole_whole _)
  obtain ⟨a, b, d, e, f, g⟩ := indices3 t
  blk_simp
  rw [after3_3]
  frame_out
  unfold k3_pay1 added
  pointwise
  refine congr (congrArg _ ?_) (Finset.sum_congr (M := EReal) rfl fun q _ => ?_)
  · blk_ext [iblk3] <;> omega
  · refine congr (congrArg _ ?_) ?_ <;> blk_ext [iblk3] <;> omega

open Idealize.SL Idealize.SL.RA Idealize.SL.BI
open scoped Idealize.SL.BI
open Idealize.SL.BI.BIBase Idealize.SL.BI.Laws Idealize.SL.ProofMode

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- A run leaves every buffer that outlives the calls as the fold through the program says. -/
theorem run : θ_run defs (onTc (τ := τ) (main (F := Ideal))) ⟨m, fun _ => 0, ρ⟩ (fun r => ∀ c : Dev nD, ∀ b ∈ Pipeline.ucRefs τ sig, r.2.mem ((c : Thread nD τ).1, b) = W7 m ρ c b) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := Rounds.initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W7 m ρ c b)
    ?_ ?_ ?_ ?_ (fun s h => h)
  · iintro H; imodintro
    isplitl [H]
    · iapply (show (ownU (Rounds.initOf (Pipeline.cells cfgs cellOf_inj) (Pipeline.launchToks cfgs cellOf_inj)) : sProp 𝕄)
        ⊢ BI.own (emb₁ (Rounds.initOf (Pipeline.cells cfgs cellOf_inj) (Pipeline.launchToks cfgs cellOf_inj))) from .rfl)
      iexact H
    iapply (show (BI.emp : sProp 𝕄) ⊢ bigSep Finset.univ (fun _ : Dev nD => (BI.emp : sProp 𝕄)) from by rw [BI.bigSep_emp_const])
    iempintro
  · refine ⟨fun _ => .rfl, fun _ => .rfl, fun _ => .rfl, fun _ => .rfl, fun _ => .rfl, fun _ => .rfl, fun _ => .rfl, fun _ => .rfl⟩
  · refine Pipeline.initEach L lv fun c => ?_
    rw [show unscopedBufs c (fun b => m ((c : Thread nD τ).loc b)) = StableHlo.held (c : Thread nD τ) (Pipeline.ucRefs τ sig) (W0 m ρ c) from Pipeline.unscopedBufs_held c (W0 m ρ c)]
    iintro ⟨⟨H, -, O, -, G, -⟩, -⟩
    imodintro
    isplitl [H]; · iexact H
    isplitl [G]
    · iexists _; iexact G
    iexists ∅; iexact O
  · intro c s
    iintro ⟨⟨H, -⟩, I⟩
    unfold StableHlo.held
    imodintro
    iapply (pointsTo_read_all (Pipeline.ucRefs τ sig) (fun b => (((c : Thread nD τ)).1, b)) (W7 m ρ c) s)
    isplitl [H] <;> iassumption

end Cert.Proof.Cross

end
-- ==== Proof.CrossClaim.lean ====
/- The memory cross-attention's result, read at an index on both sides. -/
module

public import proofs.«01_k».proof.Proof.CrossRun
public import proofs.«01_k».proof.Proof.Gen.CrossReferenceIdeal.Run
public import proofs.«01_k».proof.Proof.Gen.CrossReferenceIdeal.Read
public import proofs.«01_k».proof.Defs
public import Idealize.ShloMosaic.Adequacy
public import Idealize.ShloMosaic.Init
public import Idealize.ShloMosaic.Lib.Quiescent

@[expose] public section

set_option maxRecDepth 16384

noncomputable section

namespace Cert.Proof.Cross

open Idealize.ShloMosaic Idealize.ShloMosaic.TcCoe Idealize.SL.Sem Idealize.ShloMosaic.StableHlo
open Cert.CrossKernelIdeal Cert.CrossKernelIdeal.Gen

variable (m : (ℓ : Loc nD τ sig) → Buf (Elt Ideal) ℓ) (ρ : Dev nD → PrngReg)

/-- The first layer's gain before the cross-attention, as a row. -/
def gainRow (g : S2x3x2048.Idx → EReal) (i : S1x2048.Idx) : EReal := g (ix3 0 1 (i 1))

/-- The first layer of the query weights. -/
def queryWeights (w : S2x2048x512.Idx → EReal) (i : S2048x512.Idx) : EReal := w (ix3 0 (i 0) (i 1))

/-- The first layer of the output weights. -/
def outputWeights (w : S2x512x2048.Idx → EReal) (i : S512x2048.Idx) : EReal := w (ix3 0 (i 0) (i 1))

/-- The whole call. -/
def spec (x : S8192x2048.Idx → EReal) (k v : S256x512.Idx → EReal) (g : S2x3x2048.Idx → EReal) (wq : S2x2048x512.Idx → EReal)
    (wo : S2x512x2048.Idx → EReal) : S8192x2048.Idx → EReal :=
  added (recalled (queried (normed x (gainRow g)) (queryWeights wq)) k v) (outputWeights wo) x

theorem entry_gain (c : Dev nD) : V1 m ρ c main_v2 = gainRow (m ((c : Thread nD τ).loc main_arg3)) := by
  show StableHlo.after hostOps0 (W0 m ρ c) _ = _
  after_results
  unfold gainRow
  funext i
  pointwise

theorem entry_queryWeights (c : Dev nD) : V3 m ρ c main_v5 = queryWeights (m ((c : Thread nD τ).loc main_arg4)) := by
  show StableHlo.after hostOps1 (W2 m ρ c) _ = _
  after_results
  refine Eq.trans ?_ (congrArg queryWeights (W2_args m ρ c main_arg4 (by decide)))
  unfold queryWeights
  funext i
  pointwise

theorem entry_outputWeights (c : Dev nD) : V6 m ρ c main_v9 = outputWeights (m ((c : Thread nD τ).loc main_arg5)) := by
  show StableHlo.after hostOps3 (W5 m ρ c) _ = _
  after_results
  refine Eq.trans ?_ (congrArg outputWeights (W5_args m ρ c main_arg5 (by decide)))
  unfold outputWeights
  funext i
  pointwise

theorem after_normed (c : Dev nD) : W2 m ρ c (Proc.devRef .tc main_v3) = normed (m ((c : Thread nD τ).loc main_arg0)) (gainRow (m ((c : Thread nD τ).loc main_arg3))) :=
  (W2_arr m ρ c 2).trans <| (array0 (V1 m ρ) c).trans <| congr (congrArg normed (W1_args m ρ c main_arg0 (by decide))) (entry_gain m ρ c)

theorem after_queried (c : Dev nD) : W4 m ρ c (Proc.devRef .tc main_v6)
    = queried (normed (m ((c : Thread nD τ).loc main_arg0)) (gainRow (m ((c : Thread nD τ).loc main_arg3)))) (queryWeights (m ((c : Thread nD τ).loc main_arg4))) :=
  (W4_arr m ρ c 2).trans <| (array1 (V3 m ρ) c).trans <|
    congr (congrArg queried ((W3_of m ρ c main_v3 (by decide)).trans (after_normed m ρ c))) (entry_queryWeights m ρ c)

theorem after_recalled (c : Dev nD) : W5 m ρ c (Proc.devRef .tc main_v7)
    = recalled (queried (normed (m ((c : Thread nD τ).loc main_arg0)) (gainRow (m ((c : Thread nD τ).loc main_arg3)))) (queryWeights (m ((c : Thread nD τ).loc main_arg4))))
      (m ((c : Thread nD τ).loc main_arg1)) (m ((c : Thread nD τ).loc main_arg2)) :=
  (W5_arr m ρ c 3).trans <| (array2 (V4 m ρ) c).trans <|
    congr (congr (congrArg recalled (after_queried m ρ c)) (W4_args m ρ c main_arg1 (by decide))) (W4_args m ρ c main_arg2 (by decide))

theorem kernel_result (c : Dev nD) : W7 m ρ c (Proc.devRef .tc main_v10)
    = spec (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) :=
  (W7_arr m ρ c 3).trans <| (array3 (V6 m ρ) c).trans <|
    congr (congr (congrArg added ((W6_of m ρ c main_v7 (by decide)).trans (after_recalled m ρ c))) (entry_outputWeights m ρ c)) (W6_args m ρ c main_arg0 (by decide))

section Reference
open Cert.CrossReferenceIdeal.Read

/-- The query rows, reshaped to heads. -/
theorem reference_queries (x : S8192x2048.Idx → EReal) (g : S2x3x2048.Idx → EReal) (wq : S2x2048x512.Idx → EReal) (i : S8192x512.Idx) :
    val_main_v22 (F := Ideal) x g wq (ix3 0 (i 0) (i 1)) = queried (normed x (gainRow g)) (queryWeights wq) i := by
  unfold val_main_v22 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v0 val_main_cst val_main_cst_0 val_main_cst_1
  unfold queried normed inverseRms gainRow queryWeights
  pointwise

/-- The scaled scores of head `h`, row `r`. -/
theorem reference_scores (x : S8192x2048.Idx → EReal) (k : S256x512.Idx → EReal) (g : S2x3x2048.Idx → EReal) (wq : S2x2048x512.Idx → EReal) (h : Fin 4) (r : Fin 8192) (t : Fin 256) :
    val_main_v26 (F := Ideal) x k g wq (ix4 0 h r t)
      = score (fun d : Fin 128 => queried (normed x (gainRow g)) (queryWeights wq) (ix2 r ⟨h.val * 128 + d.val, by omega⟩)) (fun d => k (ix2 t ⟨h.val * 128 + d.val, by omega⟩)) := by
  unfold score
  simp only [← reference_queries]
  unfold val_main_v26 val_main_v25 val_main_v24 val_main_v23 val_main_v1 val_main_cst_2
  generalize val_main_v22 (F := Ideal) x g wq = y
  pointwise

/-- A row's maximum, as the fold over its entries. -/
theorem row_maximum (y : Cert.CrossReferenceIdeal.S1x4x8192x256.Idx → EReal) (c : Cert.CrossReferenceIdeal.S_.Idx → EReal) (h : Fin 4) (r : Fin 8192) :
    Host.reduce (FloatOps.maximumf (F := Ideal) (φ := .f32)) y c Cert.CrossReferenceIdeal.Gen.reducesTo_S1x4x8192x256_S1x4x8192_d3 Cert.CrossReferenceIdeal.Gen.h_S_ (ix3 0 h r)
      = (Finset.univ : Finset (Fin 256)).fold max (c (Shape.Idx.first Cert.CrossReferenceIdeal.Gen.h_S_)) (fun t => y (ix4 0 h r t)) := by
  pointwise

/-- A fold of maxima is at least where it starts. -/
theorem start_le (b : EReal) (s : Fin 256 → EReal) : max b ((Finset.univ : Finset (Fin 256)).fold max b s) = (Finset.univ : Finset (Fin 256)).fold max b s :=
  max_eq_right ((Finset.le_fold_max _).mpr (Or.inl le_rfl))

/-- The largest score of head `h`, row `r`. -/
theorem reference_peak (x : S8192x2048.Idx → EReal) (k : S256x512.Idx → EReal) (g : S2x3x2048.Idx → EReal) (wq : S2x2048x512.Idx → EReal) (h : Fin 4) (r : Fin 8192) :
    val_main_v29 (F := Ideal) x k g wq (ix3 0 h r) = peak (fun t => val_main_v26 (F := Ideal) x k g wq (ix4 0 h r t)) := by
  rw [val_main_v29_apply, val_main_v28_apply, val_main_cst_4_apply]
  unfold val_main_v27
  rw [row_maximum, val_main_cst_3_apply]
  exact start_le _ _

/-- The softmax weight of head `h`, row `r`, key `t`. -/
theorem reference_weight (x : S8192x2048.Idx → EReal) (k : S256x512.Idx → EReal) (g : S2x3x2048.Idx → EReal) (wq : S2x2048x512.Idx → EReal) (h : Fin 4) (r : Fin 8192) (t : Fin 256)
    (s : Fin 256 → EReal) (hs : ∀ u, val_main_v26 (F := Ideal) x k g wq (ix4 0 h r u) = s u) :
    val_main_v37 (F := Ideal) x k g wq (ix4 0 h r t) = Ideal.div (Ideal.exp (s t - peak s)) (∑ u : Fin 256, Ideal.exp (s u - peak s)) := by
  have hp := reference_peak x k g wq h r
  rw [funext hs] at hp
  unfold val_main_v37 val_main_v36 val_main_v35 val_main_v34 val_main_v33 val_main_v32 val_main_v31 val_main_v30 val_main_cst_5
  generalize val_main_v29 (F := Ideal) x k g wq = p at *
  generalize val_main_v26 (F := Ideal) x k g wq = y at *
  pointwise
  simp only [hs, hp]

/-- What the reference reads from the memory, through its weights. -/
theorem reference_read (x : S8192x2048.Idx → EReal) (k v : S256x512.Idx → EReal) (g : S2x3x2048.Idx → EReal) (wq : S2x2048x512.Idx → EReal) (r : Fin 8192) (j : Fin 512) :
    val_main_v40 (F := Ideal) x k v g wq (ix3 0 r j) = ∑ t : Fin 256, val_main_v37 (F := Ideal) x k g wq (ix4 0 ⟨j.val / 128, by omega⟩ r t) * v (ix2 t j) := by
  unfold val_main_v40 val_main_v39 val_main_v38 val_main_v2
  generalize val_main_v37 (F := Ideal) x k g wq = y
  pointwise
  exact Finset.sum_congr (M := EReal) rfl fun t _ => mul_comm _ _

theorem reference_recalled (x : S8192x2048.Idx → EReal) (k v : S256x512.Idx → EReal) (g : S2x3x2048.Idx → EReal) (wq : S2x2048x512.Idx → EReal) (r : Fin 8192) (j : Fin 512) :
    val_main_v40 (F := Ideal) x k v g wq (ix3 0 r j) = recalled (queried (normed x (gainRow g)) (queryWeights wq)) k v (ix2 r j) := by
  rw [reference_read]
  unfold recalled attended
  refine Finset.sum_congr (M := EReal) rfl fun t _ => congrArg (fun z : EReal => z * v (ix2 t j)) ?_
  exact reference_weight x k g wq ⟨j.val / 128, by omega⟩ r t _ fun u => reference_scores x k g wq ⟨j.val / 128, by omega⟩ r u

theorem reference_result (x : S8192x2048.Idx → EReal) (k v : S256x512.Idx → EReal) (g : S2x3x2048.Idx → EReal) (wq : S2x2048x512.Idx → EReal) (wo : S2x512x2048.Idx → EReal) :
    val_main_v43 (F := Ideal) x k v g wq wo = spec x k v g wq wo := by
  funext i
  have hy := reference_recalled x k v g wq
  unfold spec added outputWeights
  unfold val_main_v43 val_main_v42 val_main_v41 val_main_v21 val_main_v20 val_main_v0
  generalize val_main_v40 (F := Ideal) x k v g wq = y at *
  pointwise
  exact congrArg (fun z : EReal => x i + z) (Finset.sum_congr (M := EReal) rfl fun q _ => congrArg (fun z : EReal => z * wo (ix3 0 q (i 1))) (hy (i 0) q))

end Reference

theorem quiet : quiescent_CrossReferenceIdeal := fun m ρ _ =>
  (θ_run Cert.CrossReferenceIdeal.defs _ _).mono (fun r h => ⟨fun c => (h c).2, sem_eq_zero_of_no_sems (by decide) r.2⟩)
    (Cert.CrossReferenceIdeal.Value.run (F := Ideal) m ρ)

theorem equal : algebraic_CrossKernelIdeal_CrossReferenceIdeal := by
  intro m ρ m' ρ' _ hagree
  refine ⟨fun c => spec (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)), ?_, ?_⟩
  · refine (θ_run defs _ _).mono (fun r h c => ⟨(h c _ (mem_uc main_v10 (by decide))).trans (kernel_result m ρ c),
      (h c _ (mem_uc main_arg0 (by decide))).trans (W7_main_arg0 m ρ c), (h c _ (mem_uc main_arg1 (by decide))).trans (W7_main_arg1 m ρ c),
      (h c _ (mem_uc main_arg2 (by decide))).trans (W7_main_arg2 m ρ c), (h c _ (mem_uc main_arg3 (by decide))).trans (W7_main_arg3 m ρ c),
      (h c _ (mem_uc main_arg4 (by decide))).trans (W7_main_arg4 m ρ c), (h c _ (mem_uc main_arg5 (by decide))).trans (W7_main_arg5 m ρ c)⟩) (run m ρ)
  · refine (θ_run Cert.CrossReferenceIdeal.defs _ _).mono (fun r h c => ⟨?_, (h c).2⟩) (Cert.CrossReferenceIdeal.Value.run (F := Ideal) m' ρ')
    refine (h c).1.trans ((Cert.CrossReferenceIdeal.Read.val_main_v43_eq m' c).trans ((reference_result _ _ _ _ _ _).trans ?_))
    rw [(hagree c).1, (hagree c).2.1, (hagree c).2.2.1, (hagree c).2.2.2.1, (hagree c).2.2.2.2.1, (hagree c).2.2.2.2.2]

end Cert.Proof.Cross

end
-- ==== Proof.OutClaim.lean ====
/- The even layer's output projection: the two mixers' outputs side by side, through the weights, on top of the residual. Both
   sides are read at an index as one function of the arguments. -/
module

public import proofs.«01_k».proof.Proof.Gen.OutKernelIdeal.Value
public import proofs.«01_k».proof.Proof.Gen.OutReferenceIdeal.Run
public import proofs.«01_k».proof.Proof.Gen.OutReferenceIdeal.Read
public import proofs.«01_k».proof.Defs
public import Idealize.ShloMosaic.Adequacy
public import Idealize.ShloMosaic.Init
public import Idealize.ShloMosaic.Lib.Quiescent
public import Idealize.ShloMosaic.Lib.Pointwise
public import Idealize.ShloMosaic.Lib.Pipeline.ValueKit
public import Idealize.ShloMosaic.Lib.Pipeline.ValueKit.Point
public import Idealize.ShloMosaic.PureOps.Ideal.Laws

@[expose] public section

set_option maxRecDepth 16384

noncomputable section

namespace Cert.Proof.Out

open Idealize.ShloMosaic Idealize.ShloMosaic.TcCoe Idealize.SL.Sem Idealize.ShloMosaic.StableHlo
open Idealize.ShloMosaic.Pipeline (Dat Cfg Window)
open Cert.OutKernelIdeal Cert.OutKernelIdeal.Gen

/-- The two mixers' outputs side by side. -/
def joined (a b : S8192x1024.Idx → EReal) (i : S8192x2048.Idx) : EReal :=
  if h : (i 1).val < 1024 then a (ix2 (i 0) ⟨(i 1).val, h⟩)
  else b (ix2 (i 0) ⟨(i 1).val - 1024, have h1 : (i 1).val < 2048 := (i 1).isLt; by omega⟩)

/-- The stacked weights' only layer. -/
def weights (w : S1x2048x2048.Idx → EReal) (i : S2048x2048.Idx) : EReal := w (ix3 0 (i 0) (i 1))

/-- A residual plus a matrix product. -/
def added (x : S8192x2048.Idx → EReal) (w : S2048x2048.Idx → EReal) (r : S8192x2048.Idx → EReal) (i : S8192x2048.Idx) : EReal :=
  r i + ∑ q : Fin 2048, x (ix2 (i 0) q) * w (ix2 q (i 1))

/-- The whole call. -/
def spec (a b : S8192x1024.Idx → EReal) (w : S1x2048x2048.Idx → EReal) (r : S8192x2048.Idx → EReal) : S8192x2048.Idx → EReal :=
  added (joined a b) (weights w) r

variable (m : (ℓ : Loc nD τ sig) → Buf (Elt Ideal) ℓ) (ρ : Dev nD → PrngReg)

theorem entry_joined (c : Dev nD) : V m c main_v0 = joined (m ((c : Thread nD τ).loc main_arg0)) (m ((c : Thread nD τ).loc main_arg1)) := by
  show StableHlo.after hostOps0 (fun b => m (c, b)) _ = _
  after_results
  unfold joined
  funext i
  pointwise

theorem entry_weights (c : Dev nD) : V m c main_v1 = weights (m ((c : Thread nD τ).loc main_arg2)) := by
  show StableHlo.after hostOps0 (fun b => m (c, b)) _ = _
  after_results
  unfold weights
  funext i
  pointwise

theorem indices : ∀ t : Fin grid0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = win0_3.index t (0 : Fin 2) ∧ win0_2.index t (1 : Fin 2) = win0_3.index t (1 : Fin 2) := by decide +kernel

theorem array (c : Dev nD) : (dats m 0 c).arrAt 3 cfg0.N = added (V m c main_v0) (V m c main_v1) (V m c main_arg3) := by
  refine funext fun i => ?_
  refine Dat.arrAt_forall_of_covers (dats m 0 c) (3 : Fin 4) (P := fun i v => v = added (V m c main_v0) (V m c main_v1) (V m c main_arg3) i) (by decide +kernel) (fun t hf y => ?_) i (Memref.isWhole_whole _)
  obtain ⟨a, b, d, e, f, g⟩ := indices t
  blk_simp
  rw [after0_3]
  frame_out
  unfold k0_pay1 added
  pointwise
  refine congr (congrArg _ ?_) (Finset.sum_congr (M := EReal) rfl fun q _ => ?_)
  · blk_ext [iblk] <;> omega
  · refine congr (congrArg _ ?_) ?_ <;> blk_ext [iblk] <;> omega

theorem kernel_result (c : Dev nD) : (dats m 0 c).arrAt 3 cfg0.N
    = spec (m ((c : Thread nD τ).loc main_arg0)) (m ((c : Thread nD τ).loc main_arg1)) (m ((c : Thread nD τ).loc main_arg2)) (m ((c : Thread nD τ).loc main_arg3)) :=
  (array m c).trans <| congr (congr (congrArg added (entry_joined m c)) (entry_weights m c)) (V_main_arg3 m c)

open Cert.OutReferenceIdeal.Read in
theorem reference_result (a b : S8192x1024.Idx → EReal) (w : S1x2048x2048.Idx → EReal) (r : S8192x2048.Idx → EReal) :
    val_main_v5 (F := Ideal) a b w r = spec a b w r := by
  funext i
  unfold val_main_v5 val_main_v4 val_main_v3 val_main_v2 val_main_v1 val_main_v0
  unfold spec added joined weights
  pointwise

theorem quiet : quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem equal : algebraic_OutKernelIdeal_OutReferenceIdeal := by
  intro m ρ m' ρ' _ hagree
  refine ⟨_, Cert.OutKernelIdeal.Value.run_blocks (F := Ideal) m ρ, ?_⟩
  refine (θ_run Cert.OutReferenceIdeal.defs _ _).mono (fun _ h c => ⟨?_, (h c).2⟩) (Cert.OutReferenceIdeal.Value.run (F := Ideal) m' ρ')
  rw [(h c).1]
  refine Eq.trans ?_ (kernel_result m c).symm
  refine (reference_result _ _ _ _).trans ?_
  rw [(hagree c).1, (hagree c).2.1, (hagree c).2.2.1, (hagree c).2.2.2]

end Cert.Proof.Out

end
-- ==== Proof.CombineLoops.lean ====
/- The combine call's two loops. The first starts, for every row of the block, one transfer of the row's first expert
   result and one of its second into the two halves of the scratch buffer; the second waits for them all. -/
module

public import proofs.«01_k».proof.Proof.Gen.CombineKernelIdeal.Launch
public import proofs.«01_k».proof.Proof.Gen.CombineKernelIdeal.Skeleton
public import Idealize.ShloMosaic.Lib.Pipeline.FrameBody
public import Idealize.ShloMosaic.Lib.Pipeline.Frame
public import Idealize.ShloMosaic.Lib.Pipeline.Value
public import Idealize.ShloMosaic.Lib.Batch
public import Idealize.ShloMosaic.Lib.Ring
public import Idealize.ShloMosaic.Lib.Tactic

@[expose] public section

set_option maxRecDepth 16384

noncomputable section

namespace Cert.Proof.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineKernelIdeal Cert.CombineKernelIdeal.Gen

variable {F : FTy → Type} [FloatOps F]

local notation "𝕄" => MT nD τ sig Unit (Elt F) ℕ (Pipeline.UD sig nD τ) ℕ

/-- The two position tables, the sorted expert results, and the scratch buffer of two halves. -/
abbrev posA : Memref sig .tc .smem S8320 .i32 := Memref.whole main_arg1
abbrev posB : Memref sig .tc .smem S8320 .i32 := Memref.whole main_arg2
abbrev sorted : Memref sig .tc .hbm S23040x2048 .f32 := Memref.whole main_arg0
abbrev scr : Memref sig .tc .vmem S2x128x2048 .f32 := Memref.whole cc0_scratch0

/-- The rows of a block. -/
abbrev T : ℕ := k0_t1_loop.trips
theorem T_eq : T = 128 := by decide

abbrev Words : Type := S8320.Idx → BitVec 32

/-- The words the body loads for row `k` of the block at `i`. -/
abbrev wordA (i : grid0.Coords) (tv : Words) (k : Fin T) : BitVec 32 :=
  View.readAt (Elt F) posA.view (Rect.unit (s := S8320) (k0_off1 i k) S1.size (k0_off1_inb i k)).toLoadRect tv (Shape.Idx.first (numel1_S1.symm ▸ Nat.one_pos))
abbrev wordB (i : grid0.Coords) (tv : Words) (k : Fin T) : BitVec 32 :=
  View.readAt (Elt F) posB.view (Rect.unit (s := S8320) (k0_off4 i k) S1.size (k0_off4_inb i k)).toLoadRect tv (Shape.Idx.first (numel1_S1.symm ▸ Nat.one_pos))

/-- Row `k` of each half of the scratch buffer. -/
def rowA (k : Fin T) : Memref sig .tc .vmem S1x2048 .f32 :=
  ((scr.slice (Rect.unit (s := S2x128x2048) ![0, 0, 0] S1x128x2048.size inb_S2x128x2048_S1x128x2048_0_0_0) (fun _ => rfl)).squeeze S128x2048 squeezes_S1x128x2048_S128x2048).slice
    (Rect.unit (s := S128x2048) (k0_off2 k) S1x2048.size (k0_off2_inb k)) (fun _ => rfl)
def rowB (k : Fin T) : Memref sig .tc .vmem S1x2048 .f32 :=
  ((scr.slice (Rect.unit (s := S2x128x2048) ![1, 0, 0] S1x128x2048.size inb_S2x128x2048_S1x128x2048_1_0_0) (fun _ => rfl)).squeeze S128x2048 squeezes_S1x128x2048_S128x2048).slice
    (Rect.unit (s := S128x2048) (k0_off5 k) S1x2048.size (k0_off5_inb k)) (fun _ => rfl)

/-- The row of the sorted results a word names. -/
def fromA (w : BitVec 32) (h : k0_chk1 w) : Memref sig .tc .hbm S1x2048 .f32 :=
  sorted.slice (Rect.unit (s := S23040x2048) (k0_off3 w) S1x2048.size (k0_off3_inb w h)) (fun _ => rfl)
def fromB (w : BitVec 32) (h : k0_chk2 w) : Memref sig .tc .hbm S1x2048 .f32 :=
  sorted.slice (Rect.unit (s := S23040x2048) (k0_off6 w) S1x2048.size (k0_off6_inb w h)) (fun _ => rfl)

/-- A table held, read-only, at half the full share. -/
abbrev tableAt (c : Dev nD) {S : Shape} {e : EltTy} (M : Memref sig .tc .smem S e) (f : Buf (Elt F) (M.view.loc (c : Thread nD τ))) : sProp 𝕄 :=
  M.view.loc (c : Thread nD τ) ↦{fullShare.right} f

section Loops

variable (c : Dev nD) (i : grid0.Coords) (ta tb : Words)
  (hA : ∀ k, k0_chk1 (wordA (F := F) i ta k)) (hB : ∀ k, k0_chk2 (wordB (F := F) i tb k))
  (y : S23040x2048.Idx → Elt F .f32) (f : S2x128x2048.Idx → Elt F .f32)

/-- A row of the scratch buffer before and after its transfer, and the source row lent to the transfer. -/
abbrev homeA (k : Fin T) : sProp 𝕄 := (rowA k).view.loc (c : Thread nD τ) ↦[(rowA k).view.set]{fullShare} f
abbrev homeB (k : Fin T) : sProp 𝕄 := (rowB k).view.loc (c : Thread nD τ) ↦[(rowB k).view.set]{fullShare} f
abbrev lentA (k : Fin T) : sProp 𝕄 :=
  (fromA _ (hA k)).view.loc (c : Thread nD τ) ↦[(fromA _ (hA k)).view.set]{Transfers.shareTokN fullShare (2 * k.val)} y
abbrev lentB (k : Fin T) : sProp 𝕄 :=
  (fromB _ (hB k)).view.loc (c : Thread nD τ) ↦[(fromB _ (hB k)).view.set]{Transfers.shareTokN fullShare (2 * k.val + 1)} y
abbrev landA (k : Fin T) : sProp 𝕄 :=
  (rowA k).view.loc (c : Thread nD τ) ↦[(rowA k).view.set]{fullShare}
    (rowA k).view.writes (Elt F) f [⟨Rect.whole S1x2048, (ReadAs.same (Val := Elt F)).apply ((fromA _ (hA k)).view.read (Elt F) y)⟩]
abbrev landB (k : Fin T) : sProp 𝕄 :=
  (rowB k).view.loc (c : Thread nD τ) ↦[(rowB k).view.set]{fullShare}
    (rowB k).view.writes (Elt F) f [⟨Rect.whole S1x2048, (ReadAs.same (Val := Elt F)).apply ((fromB _ (hB k)).view.read (Elt F) y)⟩]

/-- What transfer number `2 j` and `2 j + 1` deliver. -/
abbrev givesA (j : ℕ) : sProp 𝕄 := if h : j < T then iprop(landA c i ta hA y f ⟨j, h⟩ ∗ lentA c i ta hA y ⟨j, h⟩) else iprop(emp)
abbrev givesB (j : ℕ) : sProp 𝕄 := if h : j < T then iprop(landB c i tb hB y f ⟨j, h⟩ ∗ lentB c i tb hB y ⟨j, h⟩) else iprop(emp)
abbrev deliver : Fin (2 * T) → sProp 𝕄 := Ring.interleaved T (givesA c i ta hA y f) (givesB c i tb hB y f)

instance lentA_storable (k : Fin T) : BI.Storable (upEmb : UEmb _ 𝕄) (lentA c i ta hA y k) := Region.storable_held _ _ _ _
instance lentB_storable (k : Fin T) : BI.Storable (upEmb : UEmb _ 𝕄) (lentB c i tb hB y k) := Region.storable_held _ _ _ _

instance givesA_storable (j : ℕ) : BI.Storable (upEmb : UEmb _ 𝕄) (givesA c i ta hA y f j) := by
  unfold givesA; split
  · haveI := lentA_storable c i ta hA y ⟨j, by assumption⟩; exact BI.Storable.sep _ _ _
  · infer_instance
instance givesB_storable (j : ℕ) : BI.Storable (upEmb : UEmb _ 𝕄) (givesB c i tb hB y f j) := by
  unfold givesB; split
  · haveI := lentB_storable c i tb hB y ⟨j, by assumption⟩; exact BI.Storable.sep _ _ _
  · infer_instance

/-- The transfers: `j` started, `u` units waited for; one row is 256 units. -/
abbrev batch (j u : ℕ) : sProp 𝕄 :=
  Transfers.Batch (countersEmb (U := Pipeline.UD sig nD τ)) (c : Thread nD τ) (.dma cc0_scratch1.sem) () 256 (deliver c i ta tb hA hB y f) j u

/-! ## Starting the transfers -/

/-- Before trip `k`: `2 k` transfers started; the rows from `k` on at home, their source rows in hand. -/
def issueAt (k : ℕ) (_ : Unit) : sProp 𝕄 :=
  iprop(batch c i ta tb hA hB y f (2 * k) 0 ∗ tableAt c posA ta ∗ tableAt c posB tb
    ∗ bigSep (Ring.rangeSet T k T) (homeA c f) ∗ bigSep (Ring.rangeSet T k T) (homeB c f)
    ∗ bigSep (Ring.rangeSet T k T) (lentA c i ta hA y) ∗ bigSep (Ring.rangeSet T k T) (lentB c i tb hB y))

variable (a4 : Memref sig .tc .vmem S128x128 .f32) (h4 : a4.IsWhole) (a5 : Memref sig .tc .vmem S128x2048 .f32) (h5 : a5.IsWhole)
  (a6 : Memref sig .tc .vmem S1x2048 .f32) (h6 : a6.IsWhole) (a7 : Memref sig .tc .vmem S128x2048 .f32) (h7 : a7.IsWhole)

/-- One trip of each loop on the body's operands. -/
abbrev issueBody := k0_t1_body (F := F) i posA (Memref.isWhole_whole _) posB (Memref.isWhole_whole _) sorted (Memref.isWhole_whole _) a4 h4 a5 h5 a6 h6 a7 h7 scr (Memref.isWhole_whole _) cc0_scratch1
abbrev drainBody := k0_t2_body (F := F) i posA (Memref.isWhole_whole _) posB (Memref.isWhole_whole _) sorted (Memref.isWhole_whole _) a4 h4 a5 h5 a6 h6 a7 h7 scr (Memref.isWhole_whole _) cc0_scratch1

theorem issue_step (k : Fin T) (acc : Unit) :
    issueAt c i ta tb hA hB y f k acc ⊢ wp frame (wpE (defs₀ (F := F)) Variants.none (c : Thread nD τ) none) Set.univ (issueBody i a4 h4 a5 h5 a6 h6 a7 h7 k acc)
      (issueAt c i ta tb hA hB y f (k.val + 1)) := by
  have hk : k.val < T := k.isLt
  unfold issueAt
  rw [Ring.bigSep_rangeSet_head (Φ := homeA c f) (lo := k.val) (by omega) (by omega), Ring.bigSep_rangeSet_head (Φ := homeB c f) (lo := k.val) (by omega) (by omega),
    Ring.bigSep_rangeSet_head (Φ := lentA c i ta hA y) (lo := k.val) (by omega) (by omega), Ring.bigSep_rangeSet_head (Φ := lentB c i tb hB y) (lo := k.val) (by omega) (by omega),
    show 2 * (k.val + 1) = 2 * k.val + 1 + 1 by omega]
  unfold homeA homeB lentA lentB
  iintro ⟨HB, HTA, HTB, ⟨HA, HAs⟩, ⟨HC, HCs⟩, ⟨HS, HSs⟩, ⟨HR, HRs⟩⟩
  dsimp only [issueBody, k0_t1_body]
  have e1 := hA k
  have e2 := hB k
  sl_exec (disch := first | sl_exact e1 | sl_exact e2)
  sl_step
  isplitl [HB]; · iexact HB
  isplitl [HTA]; · iexact HTA
  isplitl [HTB]; · iexact HTB
  isplitl [HAs]; · iexact HAs
  isplitl [HCs]; · iexact HCs
  isplitl [HSs]; · iexact HSs
  iexact HRs

set_option warn.classDefReducibility false in
/-- The first loop's invariant, for the run to find. -/
@[sl_loop] def issueInv :
    LoopInv (M := 𝕄) frame (wpE (defs₀ (F := F)) Variants.none (c : Thread nD τ) none) Set.univ k0_t1_loop.lb k0_t1_loop.ub k0_t1_loop.st k0_t1_ok ⟨⟩
      (issueBody (F := F) i a4 h4 a5 h5 a6 h6 a7 h7) where
  inv := issueAt c i ta tb hA hB y f
  step := issue_step c i ta tb hA hB y f a4 h4 a5 h5 a6 h6 a7 h7

/-! ## Waiting for them -/

/-- Before trip `k` of the second loop: short of its end the units of `2 k` transfers are waited for; at its end every
    delivery is back. -/
def drainAt (k : ℕ) (_ : Unit) : sProp 𝕄 :=
  iprop(⌜k ≤ T⌝ ∗ (∃ W, owes (c : Thread nD τ) 0 W)
    ∗ (if k < T then batch c i ta tb hA hB y f (2 * T) (2 * k * 256)
       else iprop(semVal ((c : Thread nD τ), SemLoc.dma cc0_scratch1.sem) 0 ∗ bigSep Finset.univ (deliver c i ta tb hA hB y f))))

theorem T2_eq : k0_t2_loop.trips = T := by decide

set_option maxHeartbeats 1000000 in
theorem drain_step (k : Fin k0_t2_loop.trips) (acc : Unit) :
    drainAt c i ta tb hA hB y f k acc ⊢ wp frame (wpE (defs₀ (F := F)) Variants.none (c : Thread nD τ) none) Set.univ (drainBody i a4 h4 a5 h5 a6 h6 a7 h7 k acc)
      (drainAt c i ta tb hA hB y f (k.val + 1)) := by
  have hk : k.val < T := T2_eq ▸ k.isLt
  have hT : T = 128 := T_eq
  unfold drainAt
  simp only [if_pos hk]
  rcases Nat.lt_or_ge (k.val + 1) T with h1 | h1
  · simp only [if_pos h1]
    iintro ⟨-, ⟨%W, HO⟩, HB⟩
    dsimp only [drainBody, k0_t2_body]
    sl_exec
    sl_step
    isplitr; · ipureintro; omega
    isplitl [HO]; · iexists _; iexact HO
    rw [show 2 * (k.val + 1) * 256 = 2 * k.val * 256 + 256 + 256 by omega]
    iexact HB
  · simp only [if_neg (Nat.not_lt.mpr h1)]
    iintro ⟨-, ⟨%W, HO⟩, HB⟩
    dsimp only [drainBody, k0_t2_body]
    sl_exec
    sl_step
    isplitr; · ipureintro; omega
    isplitl [HO]; · iexists _; iexact HO
    isplitl [HB]; · iexact HB
    iexact HB_all

end Loops

end Cert.Proof.Combine

end
-- ==== Proof.CombineRows.lean ====
/- The rows of the scratch buffer the combine call's transfers fill: where they lie, that they make up the buffer, and
   what they hold once filled. -/
module

public import proofs.«01_k».proof.Proof.CombineLoops

@[expose] public section

set_option maxRecDepth 16384

noncomputable section

namespace Cert.Proof.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineKernelIdeal Cert.CombineKernelIdeal.Gen

variable {F : FTy → Type} [FloatOps F]

local notation "𝕄" => MT nD τ sig Unit (Elt F) ℕ (Pipeline.UD sig nD τ) ℕ

/-- Multi-indices by coordinates. -/
abbrev at1 (a : Fin 8320) : S8320.Idx := fun d => match d with | ⟨0, _⟩ => a
abbrev at2 (a : Fin 23040) (b : Fin 2048) : S23040x2048.Idx := fun d => match d with | ⟨0, _⟩ => a | ⟨1, _⟩ => b
abbrev at3 (p : Fin 2) (a : Fin 128) (b : Fin 2048) : S2x128x2048.Idx := fun d => match d with | ⟨0, _⟩ => p | ⟨1, _⟩ => a | ⟨2, _⟩ => b

/-- The position word of row `k` of block `i`, and the row of the sorted results a word names. -/
abbrev place (i : grid0.Coords) (k : Fin 128) : Fin 8320 := ⟨128 * (i 0).val + k.val, by have h : (i 0).val < 65 := (i 0).isLt; have := k.isLt; omega⟩
abbrev rowOf (w : BitVec 32) : Fin 23040 := ⟨w.toNat % 23040, Nat.mod_lt _ (by decide)⟩

abbrev K128 (k : Fin T) : Fin 128 := ⟨k.val, T_eq ▸ k.isLt⟩

theorem wordA_eq (i : grid0.Coords) (tv : Words) (k : Fin T) : wordA (F := F) i tv k = tv (at1 (place i (K128 k))) := by
  show tv _ = tv _
  congr 1
  funext a
  match a with
  | ⟨0, _⟩ =>
    apply Fin.ext
    show k0_off1 i k 0 + 0 * 1 = 128 * (i 0).val + k.val
    rw [k0_off1_eq]; rfl
theorem wordB_eq (i : grid0.Coords) (tv : Words) (k : Fin T) : wordB (F := F) i tv k = tv (at1 (place i (K128 k))) := by
  show tv _ = tv _
  congr 1
  funext a
  match a with
  | ⟨0, _⟩ =>
    apply Fin.ext
    show k0_off4 i k 0 + 0 * 1 = 128 * (i 0).val + k.val
    rw [k0_off4_eq]; rfl

/-- A named word names the row of its value. -/
theorem chkA_lt {w : BitVec 32} (h : k0_chk1 w) : w.toNat < 23040 := by
  have := h 0
  have : w.toNat + 1 ≤ 23040 := this
  omega
theorem chkB_lt {w : BitVec 32} (h : k0_chk2 w) : w.toNat < 23040 := by
  have := h 0
  have : w.toNat + 1 ≤ 23040 := this
  omega

theorem rowA_emb (k : Fin T) (j : S1x2048.Idx) : (rowA k).view.emb j = at3 0 (K128 k) (j 1) := by
  have e : (rowA k).view.emb j = (Rect.unit (s := S2x128x2048) ![0, 0, 0] S1x128x2048.size inb_S2x128x2048_S1x128x2048_0_0_0).emb
      (Shape.reshapeEquiv squeezes_S1x128x2048_S128x2048.numel_eq ((Rect.unit (s := S128x2048) (k0_off2 k) S1x2048.size (k0_off2_inb k)).emb j)) := rfl
  have h0 : k0_off2 k 0 = k.val := by rw [k0_off2_eq]; rfl
  have h1 : k0_off2 k 1 = 0 := by rw [k0_off2_eq]; rfl
  have j0 : (j 0).val = 0 := by have : (j 0).val < 1 := (j 0).isLt; omega
  rw [e, Shape.reshapeEquiv_cons_one (n := 2) (d := ![128, 2048])]
  funext a
  match a with
  | ⟨0, _⟩ => rfl
  | ⟨1, _⟩ =>
    apply Fin.ext
    show 0 + 1 * (k0_off2 k 0 + 1 * (j 0).val) = k.val
    omega
  | ⟨2, _⟩ =>
    apply Fin.ext
    show 0 + 1 * (k0_off2 k 1 + 1 * (j 1).val) = (j 1).val
    omega
theorem rowB_emb (k : Fin T) (j : S1x2048.Idx) : (rowB k).view.emb j = at3 1 (K128 k) (j 1) := by
  have e : (rowB k).view.emb j = (Rect.unit (s := S2x128x2048) ![1, 0, 0] S1x128x2048.size inb_S2x128x2048_S1x128x2048_1_0_0).emb
      (Shape.reshapeEquiv squeezes_S1x128x2048_S128x2048.numel_eq ((Rect.unit (s := S128x2048) (k0_off5 k) S1x2048.size (k0_off5_inb k)).emb j)) := rfl
  have h0 : k0_off5 k 0 = k.val := by rw [k0_off5_eq]; rfl
  have h1 : k0_off5 k 1 = 0 := by rw [k0_off5_eq]; rfl
  have j0 : (j 0).val = 0 := by have : (j 0).val < 1 := (j 0).isLt; omega
  rw [e, Shape.reshapeEquiv_cons_one (n := 2) (d := ![128, 2048])]
  funext a
  match a with
  | ⟨0, _⟩ => rfl
  | ⟨1, _⟩ =>
    apply Fin.ext
    show 0 + 1 * (k0_off5 k 0 + 1 * (j 0).val) = k.val
    omega
  | ⟨2, _⟩ =>
    apply Fin.ext
    show 0 + 1 * (k0_off5 k 1 + 1 * (j 1).val) = (j 1).val
    omega

theorem fromA_emb (w : BitVec 32) (h : k0_chk1 w) (j : S1x2048.Idx) : (fromA w h).view.emb j = at2 (rowOf w) (j 1) := by
  have hw := chkA_lt h
  have j0 : (j 0).val = 0 := by have : (j 0).val < 1 := (j 0).isLt; omega
  funext a
  match a with
  | ⟨0, _⟩ =>
    apply Fin.ext
    show w.toNat + 1 * (j 0).val = w.toNat % 23040
    rw [Nat.mod_eq_of_lt hw]; omega
  | ⟨1, _⟩ =>
    apply Fin.ext
    show 0 + 1 * (j 1).val = (j 1).val
    omega
theorem fromB_emb (w : BitVec 32) (h : k0_chk2 w) (j : S1x2048.Idx) : (fromB w h).view.emb j = at2 (rowOf w) (j 1) := by
  have hw := chkB_lt h
  have j0 : (j 0).val = 0 := by have : (j 0).val < 1 := (j 0).isLt; omega
  funext a
  match a with
  | ⟨0, _⟩ =>
    apply Fin.ext
    show w.toNat + 1 * (j 0).val = w.toNat % 23040
    rw [Nat.mod_eq_of_lt hw]; omega
  | ⟨1, _⟩ =>
    apply Fin.ext
    show 0 + 1 * (j 1).val = (j 1).val
    omega

/-- Row `k` of a half is the elements at that half and row. -/
theorem mem_rowA (k : Fin T) (x : S2x128x2048.Idx) : x ∈ (rowA k).view.set ↔ (x 0).val = 0 ∧ (x 1).val = k.val := by
  constructor
  · intro h
    obtain ⟨j, -, hj⟩ := Finset.mem_map.mp h
    have e : x = at3 0 (K128 k) (j 1) := hj.symm.trans (rowA_emb k j)
    rw [e]; exact ⟨rfl, rfl⟩
  · rintro ⟨h0, h1⟩
    refine Finset.mem_map.mpr ⟨(fun d => match d with | ⟨0, _⟩ => ⟨0, Nat.one_pos⟩ | ⟨1, _⟩ => x 2 : S1x2048.Idx), Finset.mem_univ _, (rowA_emb k _).trans ?_⟩
    funext a
    match a with
    | ⟨0, _⟩ => exact Fin.ext h0.symm
    | ⟨1, _⟩ => exact Fin.ext h1.symm
    | ⟨2, _⟩ => rfl
theorem mem_rowB (k : Fin T) (x : S2x128x2048.Idx) : x ∈ (rowB k).view.set ↔ (x 0).val = 1 ∧ (x 1).val = k.val := by
  constructor
  · intro h
    obtain ⟨j, -, hj⟩ := Finset.mem_map.mp h
    have e : x = at3 1 (K128 k) (j 1) := hj.symm.trans (rowB_emb k j)
    rw [e]; exact ⟨rfl, rfl⟩
  · rintro ⟨h0, h1⟩
    refine Finset.mem_map.mpr ⟨(fun d => match d with | ⟨0, _⟩ => ⟨0, Nat.one_pos⟩ | ⟨1, _⟩ => x 2 : S1x2048.Idx), Finset.mem_univ _, (rowB_emb k _).trans ?_⟩
    funext a
    match a with
    | ⟨0, _⟩ => exact Fin.ext h0.symm
    | ⟨1, _⟩ => exact Fin.ext h1.symm
    | ⟨2, _⟩ => rfl

abbrev setA (k : Fin T) : Finset S2x128x2048.Idx := (rowA k).view.set
abbrev setB (k : Fin T) : Finset S2x128x2048.Idx := (rowB k).view.set

theorem setA_disjoint (k k' : Fin T) (h : k ≠ k') : Disjoint (setA k) (setA k') := by
  rw [Finset.disjoint_left]; intro x hx hx'
  exact h (Fin.ext (((mem_rowA k x).mp hx).2.symm.trans ((mem_rowA k' x).mp hx').2))
theorem setB_disjoint (k k' : Fin T) (h : k ≠ k') : Disjoint (setB k) (setB k') := by
  rw [Finset.disjoint_left]; intro x hx hx'
  exact h (Fin.ext (((mem_rowB k x).mp hx).2.symm.trans ((mem_rowB k' x).mp hx').2))
theorem halves_disjoint : Disjoint (Finset.univ.biUnion setA) (Finset.univ.biUnion setB) := by
  rw [Finset.disjoint_left]; intro x hx hx'
  obtain ⟨k, -, hk⟩ := Finset.mem_biUnion.mp hx
  obtain ⟨k', -, hk'⟩ := Finset.mem_biUnion.mp hx'
  have a := ((mem_rowA k x).mp hk).1
  have b := ((mem_rowB k' x).mp hk').1
  omega
theorem halves_cover : Finset.univ.biUnion setA ∪ Finset.univ.biUnion setB = (Finset.univ : Finset S2x128x2048.Idx) := by
  refine Finset.eq_univ_iff_forall.mpr fun x => ?_
  have h0 : (x 0).val < 2 := (x 0).isLt
  have h1 : (x 1).val < T := T_eq.symm ▸ (x 1).isLt
  rcases Nat.lt_or_ge (x 0).val 1 with h | h
  · exact Finset.mem_union_left _ (Finset.mem_biUnion.mpr ⟨⟨(x 1).val, h1⟩, Finset.mem_univ _, (mem_rowA _ x).mpr ⟨by omega, rfl⟩⟩)
  · exact Finset.mem_union_right _ (Finset.mem_biUnion.mpr ⟨⟨(x 1).val, h1⟩, Finset.mem_univ _, (mem_rowB _ x).mpr ⟨by omega, rfl⟩⟩)

/-- The scratch buffer whole is its rows. -/
theorem rows_eq (c : Dev nD) (g : S2x128x2048.Idx → Elt F .f32) :
    (scr.view.loc (c : Thread nD τ) ↦{fullShare} g : sProp 𝕄) ⊣⊢ iprop(bigSep Finset.univ (homeA c g) ∗ bigSep Finset.univ (homeB c g)) := by
  have h : (scr.view.loc (c : Thread nD τ) ↦[Finset.univ.biUnion setA ∪ Finset.univ.biUnion setB]{fullShare} g : sProp 𝕄) ⊣⊢ iprop((scr.view.loc (c : Thread nD τ) ↦[Finset.univ.biUnion setA]{fullShare} g) ∗ scr.view.loc (c : Thread nD τ) ↦[Finset.univ.biUnion setB]{fullShare} g) := pointsTo_union halves_disjoint
  rw [halves_cover] at h
  have ha : (scr.view.loc (c : Thread nD τ) ↦[Finset.univ.biUnion setA]{fullShare} g : sProp 𝕄) = bigSep Finset.univ (homeA c g) :=
    (pointsTo_biUnion (ℓ := scr.view.loc (c : Thread nD τ)) (q := fullShare) (f := g) Finset.univ setA (fun a _ b _ => setA_disjoint a b)).trans (BI.bigSep_congr fun k _ => rfl)
  have hb : (scr.view.loc (c : Thread nD τ) ↦[Finset.univ.biUnion setB]{fullShare} g : sProp 𝕄) = bigSep Finset.univ (homeB c g) :=
    (pointsTo_biUnion (ℓ := scr.view.loc (c : Thread nD τ)) (q := fullShare) (f := g) Finset.univ setB (fun a _ b _ => setB_disjoint a b)).trans (BI.bigSep_congr fun k _ => rfl)
  rw [← ha, ← hb]
  exact h

/-- What the scratch buffer holds once every row has arrived. -/
def fetched (i : grid0.Coords) (ta tb : Words) (y : S23040x2048.Idx → Elt F .f32) : S2x128x2048.Idx → Elt F .f32 := fun x =>
  if (x 0).val = 0 then y (at2 (rowOf (ta (at1 (place i (x 1))))) (x 2)) else y (at2 (rowOf (tb (at1 (place i (x 1))))) (x 2))

theorem landA_eq (c : Dev nD) (i : grid0.Coords) (ta tb : Words) (hA : ∀ k, k0_chk1 (wordA (F := F) i ta k)) (y : S23040x2048.Idx → Elt F .f32)
    (f : S2x128x2048.Idx → Elt F .f32) (k : Fin T) : (landA c i ta hA y f k : sProp 𝕄) = homeA c (fetched i ta tb y) k := by
  refine pointsTo_congr fun x hx => ?_
  obtain ⟨j, -, hj⟩ := Finset.mem_map.mp hx
  have e1 := congrFun (View.write_univ_eq_writes_whole (rowA k).view f [] ((ReadAs.same (Val := Elt F)).apply ((fromA _ (hA k)).view.read (Elt F) y))) x
  have e2 : (rowA k).view.write (Elt F) f ((ReadAs.same (Val := Elt F)).apply ((fromA _ (hA k)).view.read (Elt F) y)) Finset.univ x
      = y ((fromA _ (hA k)).view.emb j) :=
    (congrArg _ hj.symm).trans (View.write_emb_of_mem (v := (rowA k).view) f _ (Finset.mem_univ j))
  refine e1.symm.trans (e2.trans ?_)
  refine (congrArg y (fromA_emb _ (hA k) j)).trans ?_
  rw [show x = at3 0 (K128 k) (j 1) from hj.symm.trans (rowA_emb k j), wordA_eq]; rfl
theorem landB_eq (c : Dev nD) (i : grid0.Coords) (ta tb : Words) (hB : ∀ k, k0_chk2 (wordB (F := F) i tb k)) (y : S23040x2048.Idx → Elt F .f32)
    (f : S2x128x2048.Idx → Elt F .f32) (k : Fin T) : (landB c i tb hB y f k : sProp 𝕄) = homeB c (fetched i ta tb y) k := by
  refine pointsTo_congr fun x hx => ?_
  obtain ⟨j, -, hj⟩ := Finset.mem_map.mp hx
  have e1 := congrFun (View.write_univ_eq_writes_whole (rowB k).view f [] ((ReadAs.same (Val := Elt F)).apply ((fromB _ (hB k)).view.read (Elt F) y))) x
  have e2 : (rowB k).view.write (Elt F) f ((ReadAs.same (Val := Elt F)).apply ((fromB _ (hB k)).view.read (Elt F) y)) Finset.univ x
      = y ((fromB _ (hB k)).view.emb j) :=
    (congrArg _ hj.symm).trans (View.write_emb_of_mem (v := (rowB k).view) f _ (Finset.mem_univ j))
  refine e1.symm.trans (e2.trans ?_)
  refine (congrArg y (fromB_emb _ (hB k) j)).trans ?_
  rw [show x = at3 1 (K128 k) (j 1) from hj.symm.trans (rowB_emb k j), wordB_eq]; rfl

end Cert.Proof.Combine

end
-- ==== Proof.CombineBody.lean ====
/- One run of the combine call's body: the block's rows are fetched, and the block written is the call's payload of
   them. -/
module

public import proofs.«01_k».proof.Proof.CombineRows

@[expose] public section

set_option maxRecDepth 16384

noncomputable section

namespace Cert.Proof.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CombineKernelIdeal Cert.CombineKernelIdeal.Gen

variable {F : FTy → Type} [FloatOps F]

local notation "𝕄" => MT nD τ sig Unit (Elt F) ℕ (Pipeline.UD sig nD τ) ℕ

/-- A conjunction of pairs is a pair of conjunctions. -/
theorem pairs (Φ Ψ : Fin T → sProp 𝕄) : bigSep Finset.univ (fun k => iprop(Φ k ∗ Ψ k)) = iprop(bigSep Finset.univ Φ ∗ bigSep Finset.univ Ψ) :=
  BI.bigSep_sep _ _ _

section Source

variable (c : Dev nD) (i : grid0.Coords) (ta tb : Words)
  (hA : ∀ k, k0_chk1 (wordA (F := F) i ta k)) (hB : ∀ k, k0_chk2 (wordB (F := F) i tb k))
  (y : S23040x2048.Idx → Elt F .f32) (f : S2x128x2048.Idx → Elt F .f32)

/-- The sorted results whole, and the part of each share that is not lent. -/
abbrev sortedAt (q : PosShare TreeShare) : sProp 𝕄 := sorted.view.loc (c : Thread nD τ) ↦[Finset.univ]{q} y
abbrev idleA (k : Fin T) : sProp 𝕄 := sorted.view.loc (c : Thread nD τ) ↦[Finset.univ \ (fromA _ (hA k)).view.set]{Transfers.shareTokN fullShare (2 * k.val)} y
abbrev idleB (k : Fin T) : sProp 𝕄 := sorted.view.loc (c : Thread nD τ) ↦[Finset.univ \ (fromB _ (hB k)).view.set]{Transfers.shareTokN fullShare (2 * k.val + 1)} y

/-- One share is its lent row and the rest. -/
theorem cutA (k : Fin T) : sortedAt c y (Transfers.shareTokN fullShare (2 * k.val)) = iprop(lentA c i ta hA y k ∗ idleA c i ta hA y k) :=
  BI.Entails.antisymm (pointsTo_split_subset (Finset.subset_univ _)).1 (pointsTo_split_subset (Finset.subset_univ _)).2
theorem cutB (k : Fin T) : sortedAt c y (Transfers.shareTokN fullShare (2 * k.val + 1)) = iprop(lentB c i tb hB y k ∗ idleB c i tb hB y k) :=
  BI.Entails.antisymm (pointsTo_split_subset (Finset.subset_univ _)).1 (pointsTo_split_subset (Finset.subset_univ _)).2

/-- The sorted results whole are a share left over, and for each transfer the row lent to it and the rest of its share. -/
theorem source_eq : sortedAt c y fullShare ⊣⊢ iprop(sortedAt c y (Transfers.shareDrop fullShare (2 * T))
    ∗ (bigSep Finset.univ (lentA c i ta hA y) ∗ bigSep Finset.univ (idleA c i ta hA y))
    ∗ (bigSep Finset.univ (lentB c i tb hB y) ∗ bigSep Finset.univ (idleB c i tb hB y))) := by
  have h := Transfers.pointsTo_toks_range (ℓ := sorted.view.loc (c : Thread nD τ)) (S := Finset.univ) (f := y) (Ix := Unit) (Name := ℕ) (U := Pipeline.UD sig nD τ) (Lvl := ℕ) fullShare (2 * T)
  rw [Ring.bigSep_range_deinterleave T (fun t => sortedAt c y (Transfers.shareTokN fullShare t)),
    ← Ring.bigSep_fin_eq_range T (fun k : Fin T => sortedAt c y (Transfers.shareTokN fullShare (2 * k.val))) _ (fun _ _ => rfl),
    ← Ring.bigSep_fin_eq_range T (fun k : Fin T => sortedAt c y (Transfers.shareTokN fullShare (2 * k.val + 1))) _ (fun _ _ => rfl),
    BI.bigSep_congr (fun k _ => cutA c i ta hA y k), BI.bigSep_congr (fun k _ => cutB c i tb hB y k), pairs (lentA c i ta hA y) (idleA c i ta hA y), pairs (lentB c i tb hB y) (idleB c i tb hB y)] at h
  exact h

/-- Every delivery back: the rows hold what was fetched, and the lent rows are back. -/
theorem delivered : (bigSep Finset.univ (deliver c i ta tb hA hB y f) : sProp 𝕄)
    ⊢ iprop((bigSep Finset.univ (homeA c (fetched i ta tb y)) ∗ bigSep Finset.univ (lentA c i ta hA y))
      ∗ (bigSep Finset.univ (homeB c (fetched i ta tb y)) ∗ bigSep Finset.univ (lentB c i tb hB y))) := by
  unfold deliver
  rw [Ring.bigSep_interleaved,
    ← Ring.bigSep_fin_eq_range T (fun k : Fin T => iprop(landA c i ta hA y f k ∗ lentA c i ta hA y k)) (givesA c i ta hA y f) (fun t h => dif_pos h),
    ← Ring.bigSep_fin_eq_range T (fun k : Fin T => iprop(landB c i tb hB y f k ∗ lentB c i tb hB y k)) (givesB c i tb hB y f) (fun t h => dif_pos h),
    pairs (landA c i ta hA y f) (lentA c i ta hA y), pairs (landB c i tb hB y f) (lentB c i tb hB y), BI.bigSep_congr (fun k _ => landA_eq c i ta tb hA y f k), BI.bigSep_congr (fun k _ => landB_eq c i ta tb hB y f k)]

end Source

/-- One half of the scratch buffer as the body loads it. -/
abbrev halfA (g : S2x128x2048.Idx → Elt F .f32) : Vec F S1x128x2048 .f32 :=
  View.readAt (Elt F) scr.view (Rect.unit (s := S2x128x2048) ![0, 0, 0] S1x128x2048.size inb_S2x128x2048_S1x128x2048_0_0_0).toLoadRect g
abbrev halfB (g : S2x128x2048.Idx → Elt F .f32) : Vec F S1x128x2048 .f32 :=
  View.readAt (Elt F) scr.view (Rect.unit (s := S2x128x2048) ![1, 0, 0] S1x128x2048.size inb_S2x128x2048_S1x128x2048_1_0_0).toLoadRect g

theorem zero2 : (![0, 0] : Fin 2 → Nat) = fun _ => 0 := funext fun a => by fin_cases a <;> rfl

/-- A store over the whole block is read back whole. -/
theorem read_stored (M : Memref sig .tc .vmem S128x2048 .f32) (f : M.view.ty.Contents (Elt F)) (inb : ∀ a, (![0, 0] : Fin 2 → Nat) a + S128x2048.size a ≤ S128x2048.size a)
    (w : Vec F S128x2048 .f32) :
    M.view.read (Elt F) (M.view.writes (Elt F) f [(⟨Rect.unit (s := S128x2048) ![0, 0] S128x2048.size inb, w⟩ : View.Piece (Elt F) S128x2048 .f32)]) = w := by
  rw [View.read_writes_eq_canon, View.canon_cons_unit_zero (S := S128x2048) zero2]
  exact View.cover_of_tiledL _ S128x2048.size (by sl_kernel_rfl)

abbrev ownCell (c : Dev nD) : sProp 𝕄 := semVal ((c : Thread nD τ), SemLoc.dma cc0_scratch1.sem) 0

set_option maxHeartbeats 2000000 in
/-- The body's triple: the block written is the payload of the rows fetched; the sorted results, the tables and the
    cell are as they were. -/
theorem run_body (c : Dev nD) (i : grid0.Coords)
    (a4 : Memref sig .tc .vmem S128x128 .f32) (h4 : a4.IsWhole) (a5 : Memref sig .tc .vmem S128x2048 .f32) (h5 : a5.IsWhole)
    (a6 : Memref sig .tc .vmem S1x2048 .f32) (h6 : a6.IsWhole) (a7 : Memref sig .tc .vmem S128x2048 .f32) (h7 : a7.IsWhole)
    (gates : Vec F S128x128 .f32) (resid : Vec F S128x2048 .f32) (gain : Vec F S1x2048 .f32) (old : Vec F S128x2048 .f32)
    (ta tb : Words) (hA : ∀ k, k0_chk1 (wordA (F := F) i ta k)) (hB : ∀ k, k0_chk2 (wordB (F := F) i tb k))
    (y : S23040x2048.Idx → Elt F .f32) (W : Waits sig Unit) (K : PUnit → sProp 𝕄) :
    iprop(owns (c : Thread nD τ) a4 fullShare gates ∗ owns (c : Thread nD τ) a5 fullShare resid ∗ owns (c : Thread nD τ) a6 fullShare gain
        ∗ owns (c : Thread nD τ) a7 fullShare old ∗ tableAt c posA ta ∗ tableAt c posB tb
        ∗ (∃ f : S2x128x2048.Idx → Elt F .f32, scr.view.loc (c : Thread nD τ) ↦{fullShare} f) ∗ sortedAt c y fullShare ∗ ownCell c ∗ owes (c : Thread nD τ) 0 W
        ∗ (iprop(owns (c : Thread nD τ) a4 fullShare gates ∗ owns (c : Thread nD τ) a5 fullShare resid ∗ owns (c : Thread nD τ) a6 fullShare gain
            ∗ owns (c : Thread nD τ) a7 fullShare (k0_pay1 gates resid (halfA (fetched i ta tb y)) (halfB (fetched i ta tb y)) gain)
            ∗ tableAt c posA ta ∗ tableAt c posB tb
            ∗ (∃ f : S2x128x2048.Idx → Elt F .f32, scr.view.loc (c : Thread nD τ) ↦{fullShare} f) ∗ sortedAt c y fullShare ∗ ownCell c ∗ ∃ W', owes (c : Thread nD τ) 0 W') -∗ K ⟨⟩))
      ⊢ wp frame (wpE (defs₀ (F := F)) Variants.none c none) Set.univ
          (cc0_moe_combine_norm i posA (Memref.isWhole_whole _) posB (Memref.isWhole_whole _) sorted (Memref.isWhole_whole _) a4 h4 a5 h5 a6 h6 a7 h7 scr (Memref.isWhole_whole _) cc0_scratch1) K := by
  have hT : T = 128 := T_eq
  simp only [cc0_moe_combine_norm_eq_skeleton]; unfold cc0_moe_combine_norm_skel
  rw [k0_part1_eq_skeleton]; unfold k0_part1_skel
  unfold owns
  iintro ⟨⟨%f4, %e4, H4⟩, ⟨%f5, %e5, H5⟩, ⟨%f6, %e6, H6⟩, ⟨%f7, %e7, H7⟩, HTA, HTB, ⟨%f, HS⟩, HY, Hc, HO, Hk⟩
  obtain rfl := h4.eq_unread e4; obtain rfl := h5.eq_unread e5; obtain rfl := h6.eq_unread e6; obtain rfl := h7.eq_unread e7
  ihave HS' := (rows_eq c f).1 $$ HS
  icases HS' with ⟨HSA, HSB⟩
  ihave HY' := (source_eq c i ta tb hA hB y).1 $$ HY
  icases HY' with ⟨HYr, ⟨HLA, HIA⟩, ⟨HLB, HIB⟩⟩
  imod (Transfers.batch_alloc' (Lvl := ℕ) (countersEmb (U := Pipeline.UD sig nD τ)) (c : Thread nD τ) () 256 (deliver c i ta tb hA hB y f) (sm := .dma cc0_scratch1.sem) (E := Set.univ)) $$ Hc with HB
  simp only [bind_assoc]
  sl_for (issueAt c i ta tb hA hB y f) $$ [HB HTA HTB HSA HSB HLA HLB]
  · intro k acc; exact issue_step c i ta tb hA hB y f a4 h4 a5 h5 a6 h6 a7 h7 k acc
  · unfold issueAt
    rw [Ring.rangeSet_univ]
    isplitl [HB]; · iexact HB
    isplitl [HTA]; · iexact HTA
    isplitl [HTB]; · iexact HTB
    isplitl [HSA]; · iexact HSA
    isplitl [HSB]; · iexact HSB
    isplitl [HLA]; · iexact HLA
    iexact HLB
  iintro %acc HL
  ihave HL' := (show issueAt c i ta tb hA hB y f T acc ⊢ iprop(batch c i ta tb hA hB y f (2 * T) 0 ∗ tableAt c posA ta ∗ tableAt c posB tb) from by
      unfold issueAt
      rw [Ring.bigSep_rangeSet_empty (Nat.le_refl _), Ring.bigSep_rangeSet_empty (Nat.le_refl _), Ring.bigSep_rangeSet_empty (Nat.le_refl _), Ring.bigSep_rangeSet_empty (Nat.le_refl _)]
      iintro ⟨HB, HTA, HTB, -, -, -, -⟩
      isplitl [HB]; · iexact HB
      isplitl [HTA] <;> iassumption) $$ HL
  icases HL' with ⟨HB, HTA, HTB⟩
  unfold run_body.sl.prog.cont_1
  sl_for (drainAt c i ta tb hA hB y f) $$ [HB HO]
  · intro k acc; exact drain_step c i ta tb hA hB y f a4 h4 a5 h5 a6 h6 a7 h7 k acc
  · unfold drainAt
    rw [if_pos (by omega)]
    isplitr; · ipureintro; omega
    isplitl [HO]; · iexists _; iexact HO
    rw [show 2 * 0 * 256 = 0 from rfl]
    iexact HB
  iintro %acc2 HL
  ihave HL' := (show drainAt c i ta tb hA hB y f T acc2 ⊢ iprop((∃ W, owes (c : Thread nD τ) 0 W) ∗ ownCell c ∗ bigSep Finset.univ (deliver c i ta tb hA hB y f)) from by
      unfold drainAt; rw [if_neg (Nat.lt_irrefl _)]; iintro ⟨-, HO, Hc, Hall⟩
      isplitl [HO]; · iexact HO
      isplitl [Hc] <;> iassumption) $$ HL
  icases HL' with ⟨⟨%W', HO⟩, Hc, Hall⟩
  ihave Hd := (delivered c i ta tb hA hB y f) $$ Hall
  icases Hd with ⟨⟨HSA, HLA⟩, ⟨HSB, HLB⟩⟩
  ihave HS := (rows_eq c (fetched i ta tb y)).2 $$ [HSA HSB]
  · isplitl [HSA] <;> iassumption
  ihave HY := (source_eq c i ta tb hA hB y).2 $$ [HYr HLA HIA HLB HIB]
  · isplitl [HYr]; · iexact HYr
    isplitl [HLA HIA]
    · isplitl [HLA] <;> iassumption
    isplitl [HLB] <;> iassumption
  sl_exec
  sl_step
  iapply Hk
  isplitl [H4]
  · iexists _; isplitr; swap; iexact H4; ipureintro; exact h4.read_unread _
  isplitl [H5]
  · iexists _; isplitr; swap; iexact H5; ipureintro; exact h5.read_unread _
  isplitl [H6]
  · iexists _; isplitr; swap; iexact H6; ipureintro; exact h6.read_unread _
  isplitl [H7]
  · iexists _; isplitr; swap; iexact H7; ipureintro
    rw [read_stored]
    simp only [View.readAt_eq_ld, h4.read_unread, h5.read_unread, h6.read_unread, View.ld_unit_zero (S := S128x128) zero2, View.ld_unit_zero (S := S128x2048) zero2, View.ld_unit_zero (S := S1x2048) zero2]
  isplitl [HTA]; · iexact HTA
  isplitl [HTB]; · iexact HTB
  isplitl [HS]; · iexists _; iexact HS
  isplitl [HY]; · iexact HY
  isplitl [Hc]; · iexact Hc
  iexists _; iexact HO

end Cert.Proof.Combine

end
-- ==== Proof.CombineRun.lean ====
/- The combine call from launch to end: what its grid leaves in the array it writes, when every place names one of the
   sorted rows. -/
module

public import proofs.«01_k».proof.Proof.CombineBody
public import Idealize.ShloMosaic.Lib.Pipeline.FrameSuffix

@[expose] public section

set_option maxRecDepth 16384

noncomputable section

namespace Cert.Proof.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.CombineKernelIdeal Cert.CombineKernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers as the call finds them: after the host line before it. -/
def atCall (c : Dev nD) : Valuation τ sig (Elt F) := StableHlo.after [hostOps0 (F := F)].flatten (fun b => m (c, b))
abbrev entry (c : Dev nD) (b : Ref sig .tc) : Buf (Elt F) ((c : Thread nD τ).loc b) := atCall m c (Proc.devRef .tc b)

/-- The line before the call writes the gain's row alone. -/
theorem entry_of (c : Dev nD) (b : Ref sig .tc) (hb : b ≠ main_v0) : entry m c b = m ((c : Thread nD τ).loc b) := by
  show StableHlo.after _ _ _ = _
  rw [StableHlo.after_of_forall_not_mem _ _ fun op hop hw => ?_]
  simp only [List.flatten_cons, List.flatten_nil, List.append_nil, List.mem_singleton] at hop
  subst hop
  rw [StableHlo.reshape_writes] at hw
  exact hb (Proc.devRef_injective _ (Finset.mem_singleton.mp hw))

/-- The two tables' contents. -/
def tables : pre0.Contents (Elt F) := fun j => m (((0 : Dev nD) : Thread nD τ).loc (pre0.ref j))
def tabA : Words := tables m 0
def tabB : Words := tables m 1

abbrev admissible : (pcfg0 (F := F)).Adm := ⟨tables m, trivial⟩
abbrev pipe : Cfg sig Λ₀ := cfg0 (admissible m)

/-- Every place names one of the sorted rows. -/
def Named (t : Words) : Prop := ∀ a, (t a).toNat < 23040

theorem checkA (i : grid0.Coords) (t : Words) (h : Named t) (k : Fin T) : k0_chk1 (wordA (F := F) i t k) := by
  rw [wordA_eq]
  have := h (at1 (place i (K128 k)))
  intro a
  match a with
  | ⟨0, _⟩ => show (t _).toNat + 1 ≤ 23040; omega
  | ⟨1, _⟩ => show 0 + 2048 ≤ 2048; omega
theorem checkB (i : grid0.Coords) (t : Words) (h : Named t) (k : Fin T) : k0_chk2 (wordB (F := F) i t k) := by
  rw [wordB_eq]
  have := h (at1 (place i (K128 k)))
  intro a
  match a with
  | ⟨0, _⟩ => show (t _).toNat + 1 ≤ 23040; omega
  | ⟨1, _⟩ => show 0 + 2048 ≤ 2048; omega

theorem tables_split (c : Dev nD) : (Pipeline.ΦT pre0 (tables m) c : sProp 𝕄) = iprop(tableAt c posA (tabA m) ∗ tableAt c posB (tabB m)) := by
  unfold Pipeline.ΦT Pipeline.prefHeld
  rw [show (Finset.univ : Finset (Fin 2)) = insert (0 : Fin 2) {(1 : Fin 2)} from by decide, bigSep_insert (by decide), bigSep_singleton]
  rfl

abbrev osem0 : Fin 1 → SemLoc sig := fun j => (![SemLoc.dma cc0_scratch1.sem]) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = ownCell c := by
  rw [Pipeline.ownSems0_eq_of_list c osem0 [0] (by decide) (by decide)]; rfl
/-- The sorted rows stay where they are. -/
def H0 : Finset (Ref sig .tc) := {main_arg0}
theorem H0_sub : H0 ⊆ Pipeline.restRefsP sig pre0 spec0 := by decide
theorem hbm_eq (c : Dev nD) :
    (bigSep H0 (fun b => ((c : Thread nD τ).loc b) ↦{fullShare} entry m c b) : sProp 𝕄) = sortedAt c (entry m c main_arg0) fullShare := by
  rw [BI.bigSep_eq_bigSepL_of_eq [main_arg0] (by decide) (by decide)]; rfl

theorem between (c : Dev nD) : (Pipeline.ΦD osem0 spec0 H0 (entry m) c : sProp 𝕄)
    = iprop((∃ f : S2x128x2048.Idx → Elt F .f32, scr.view.loc (c : Thread nD τ) ↦{fullShare} f) ∗ (∃ r, prngReg c r) ∗ ownCell c
        ∗ sortedAt c (entry m c main_arg0) fullShare) := by
  rw [Pipeline.ΦD_eq, scopedRest0_eq, ownSems00_eq, hbm_eq]; rfl

/-- The block of window `w` at point `t`, read off its array at entry. -/
def blockAt (c : Dev nD) (w : Fin (pipe m).W) (t : Fin (pipe m).N) : (((pipe m).win w).xblock ((pipe m).grid.coords t)).Idx → Elt F ((pipe m).win w).elt :=
  (((pipe m).win w).blk t).view.read (Elt F) (entry m c (Pipeline.arrRef spec0 w))

/-- The rows fetched at point `t`. -/
abbrev rowsAt (c : Dev nD) (t : Fin (pipe m).N) : S2x128x2048.Idx → Elt F .f32 := fetched (grid0.coords t) (tabA m) (tabB m) (entry m c main_arg0)

/-- The block point `t` writes. -/
def written (c : Dev nD) (t : Fin (pipe m).N) : Vec F S128x2048 .f32 :=
  k0_pay1 (blockAt m c 0 t) (blockAt m c 1 t) (halfA (rowsAt m c t)) (halfB (rowsAt m c t)) (blockAt m c 2 t)

def data (_ : Fin 1) (c : Dev nD) : Dat τ (Elt F) Unit ℕ (Pipeline.UD sig nD τ) ℕ (pipe m) c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => written m c t
  Φ _ := iprop(Pipeline.ΦD osem0 spec0 H0 (entry m) c ∗ Pipeline.ΦT pre0 (tables m) c)
  q _ := fullShare
  owed _ := 0

theorem found0 (c : Dev nD) (t : Fin (pipe m).N) (d) : (data m 0 c).before 0 t d = blockAt m c 0 t :=
  ((data m 0 c).before_in_eq_fetched 0 rfl (fun _ => rfl) (fun _ _ _ => rfl) (fun t => rfl) t d).trans rfl
theorem found1 (c : Dev nD) (t : Fin (pipe m).N) (d) : (data m 0 c).before 1 t d = blockAt m c 1 t :=
  ((data m 0 c).before_in_eq_fetched 1 rfl (fun _ => rfl) (fun _ _ _ => rfl) (fun t => rfl) t d).trans rfl
theorem found2 (c : Dev nD) (t : Fin (pipe m).N) (d) : (data m 0 c).before 2 t d = blockAt m c 2 t :=
  ((data m 0 c).before_in_eq_fetched 2 rfl (fun _ => rfl) (fun _ _ _ => rfl) (fun t => rfl) t d).trans rfl

abbrev bodyAt (t : Fin (pipe m).N) : Prog (TpuEff nD τ sig (Elt F) Λ₀ .tc) PUnit :=
  cc0_moe_combine_norm (grid0.coords t) posA (Memref.isWhole_whole _) posB (Memref.isWhole_whole _) sorted (Memref.isWhole_whole _)
    (spec0_0.stage ((pipe m).slots t 0)) (hstage0_0 (((pipe m).slots t 0).cast nbuf0_0))
    (spec0_1.stage ((pipe m).slots t 1)) (hstage0_1 (((pipe m).slots t 1).cast nbuf0_1))
    (spec0_2.stage ((pipe m).slots t 2)) (hstage0_2 (((pipe m).slots t 2).cast nbuf0_2))
    (spec0_3.stage ((pipe m).slots t 3)) (hstage0_3 (((pipe m).slots t 3).cast nbuf0_3))
    scr (Memref.isWhole_whole _) cc0_scratch1

theorem body_row (t : Fin (pipe m).N) :
    defs₀ (F := F) .tc (pipe m).body ((pipe m).bodyArgs t ((pipe m).slots t)) = bodyAt m t := by
  unfold defs₀; rw [Defs.onTc_tc]

set_option maxHeartbeats 1000000 in
/-- The body keeps to `data`, at every point. -/
theorem body_sound (ha : Named (tabA m)) (hb : Named (tabB m)) (c : Dev nD) :
    BodyObligation (data m 0 c) (defs₀ (F := F)) Variants.none () Set.univ := by
  intro t
  rw [bigSep_W0, bigSep_W0, body_row m]
  refine triple_restated (W := wp frame (wpE (defs₀ (F := F)) Variants.none c none) Set.univ (bodyAt m t)) (P := iprop((data m 0 c).Φ t.castSucc ∗ (data m 0 c).owesAt () t.castSucc
    ∗ (∃ d, owns (c : Thread nD τ) (spec0_0.stage ((pipe m).slots t 0)) fullShare ((data m 0 c).before 0 t d))
    ∗ (∃ d, owns (c : Thread nD τ) (spec0_1.stage ((pipe m).slots t 1)) fullShare ((data m 0 c).before 1 t d))
    ∗ (∃ d, owns (c : Thread nD τ) (spec0_2.stage ((pipe m).slots t 2)) fullShare ((data m 0 c).before 2 t d))
    ∗ (∃ d, owns (c : Thread nD τ) (spec0_3.stage ((pipe m).slots t 3)) fullShare ((data m 0 c).before 3 t d)))) ?_ rfl .rfl fun _ => .rfl
  simp only [found0, found1, found2]
  rw [show (data m 0 c).Φ t.succ = (data m 0 c).Φ t.castSucc from rfl,
    show (data m 0 c).owesAt () t.succ = (data m 0 c).owesAt () t.castSucc from rfl,
    show (data m 0 c).Φ t.castSucc = iprop(Pipeline.ΦD osem0 spec0 H0 (entry m) c ∗ Pipeline.ΦT pre0 (tables m) c) from rfl, tables_split, between]
  unfold Dat.owesAt Pipeline.owesWithin
  rw [show (data m 0 c).owed t.castSucc = 0 from rfl]
  iintro ⟨⟨⟨HS, Hg, Hc, HY⟩, ⟨HT0, HT1⟩⟩, ⟨%W, %hW, HO⟩, ⟨%d0, H0⟩, ⟨%d1, H1⟩, ⟨%d2, H2⟩, ⟨%d3, H3⟩⟩
  iapply (run_body c (grid0.coords t) _ _ _ _ _ _ _ _ (blockAt m c 0 t) (blockAt m c 1 t) (blockAt m c 2 t) _ (tabA m) (tabB m)
    (checkA _ _ ha) (checkB _ _ hb) (entry m c main_arg0) W _)
  isplitl [H0]; · iexact H0
  isplitl [H1]; · iexact H1
  isplitl [H2]; · iexact H2
  isplitl [H3]; · iexact H3
  isplitl [HT0]; · iexact HT0
  isplitl [HT1]; · iexact HT1
  isplitl [HS]; · iexact HS
  isplitl [HY]; · iexact HY
  isplitl [Hc]; · iexact Hc
  isplitl [HO]; · iexact HO
  iintro ⟨H0, H1, H2, H3, HT0, HT1, HS, HY, Hc, ⟨%W', HO⟩⟩
  isplitl [HS Hg HY Hc HT0 HT1]
  · isplitl [HS Hg HY Hc]
    · isplitl [HS]; · iexact HS
      isplitl [Hg]; · iexact Hg
      isplitl [Hc]; · iexact Hc
      iexact HY
    isplitl [HT0]; · iexact HT0
    iexact HT1
  isplitl [HO]
  · iexists W'; isplitr; · ipureintro; exact fun _ _ => Or.inl trivial
    iexact HO
  isplitl [H0]; · iexact H0
  isplitl [H1]; · iexact H1
  isplitl [H2]; · iexact H2
  iexact H3

theorem lines_within : ∀ ops ∈ [hostOps1 (F := F)], ∀ op ∈ ops, op.bufs ⊆ Pipeline.tailRefsBut sig pre0 spec0 H0 := by
  intro ops ho op h
  rw [List.mem_singleton] at ho; subst ho
  refine Pipeline.sub_tailRefsBut pre0 spec0 H0 op ((List.forall_iff_forall_mem.mp hostOps1_sub) op h) ?_ ?_
  · have key : (hostOps1 : List (HloOp τ sig (Elt F))).Forall fun op => ∀ k, Proc.devRef .tc (pre0.ref k) ∉ op.bufs := by
      refine ⟨?_, ?_, ?_, ?_⟩ <;> intro k <;> fin_cases k <;> simp only [StableHlo.unary_bufs, StableHlo.reshape_bufs] <;> decide
    exact (List.forall_iff_forall_mem.mp key) op h
  · have key : (hostOps1 : List (HloOp τ sig (Elt F))).Forall fun op => Proc.devRef .tc main_arg0 ∉ op.bufs := by
      refine ⟨?_, ?_, ?_, ?_⟩ <;> (intro hm; revert hm) <;> simp only [StableHlo.unary_bufs, StableHlo.reshape_bufs] <;> decide
    intro b hb; obtain rfl := Finset.mem_singleton.mp hb
    exact (List.forall_iff_forall_mem.mp key) op h

theorem lines_fresh : ∀ ops ∈ [hostOps1 (F := F)], ∀ op ∈ ops, op.fresh = ∅ := by
  intro ops ho op h
  rw [List.mem_singleton] at ho; subst ho
  have key : (hostOps1 : List (HloOp τ sig (Elt F))).Forall fun op => op.fresh = ∅ := ⟨rfl, rfl, rfl, rfl⟩
  exact (List.forall_iff_forall_mem.mp key) op h

theorem lines_keep : ∀ ops ∈ [hostOps1 (F := F)], ∀ op ∈ ops, ∀ w, Proc.devRef .tc (Pipeline.arrRef spec0 w) ∉ op.writes := by
  intro ops ho op h
  rw [List.mem_singleton] at ho; subst ho
  have key : (hostOps1 : List (HloOp τ sig (Elt F))).Forall fun op => ∀ w, Proc.devRef .tc (Pipeline.arrRef spec0 w) ∉ op.writes := by
    refine ⟨?_, ?_, ?_, ?_⟩ <;> intro w <;> simp only [StableHlo.unary_writes, StableHlo.reshape_writes] <;> revert w <;> decide
  exact (List.forall_iff_forall_mem.mp key) op h

theorem main_around (𝒱₀ : Variants) : Pipeline.HMainPK (Ix := Unit) (Name := ℕ) (U := Pipeline.UD sig nD τ) (Lvl := ℕ) pcfgs 0 defs₀ 𝒱₀ m (main (F := F))
    (fun c b => atCall m c (Proc.devRef .tc b)) (fun _ => Pipeline.chain ([hostOps1 (F := F)].map StableHlo.seq)) :=
  Pipeline.hmainP_around pcfgs 0 defs₀ 𝒱₀ m main [hostOps0] [hostOps1] hostOps0_sub rfl fun c => (main_chain c).trans rfl

/-- What every run leaves. -/
abbrev Left (r : PUnit × MemSt nD τ sig (Elt F)) : Prop :=
  Pipeline.FramePost (Pipeline.pin pcfgs fun _ => admissible m) (data m) 0
    (Pipeline.afterTail pcfgs (fun _ => admissible m) (data m) 0 (atCall m) [hostOps1 (F := F)]) r

set_option backward.isDefEq.respectTransparency.types false in
/-- The launch: every execution ends, in what `data` states, every counter at zero. -/
theorem launched (ha : Named (tabA m)) (hb : Named (tabB m)) : θ_run defs (onTc (τ := τ) (main (F := F))) (s₀ m ρ) (fun r => Left m r ∧ r.2.sem = fun _ => 0) :=
  Pipeline.θ_run_frameP_dma_around (Q' := _) pcfgs (fun _ => admissible m) (data m) (0 : Fin 1) launch0 osem0 defs₀ Variants.none ownSemFacts0 H0 H0_sub m ρ main
    (hbody := fun c => (body_sound m ha hb c).loose) (hshare := fun c => (data m 0 c).share_full fun _ => rfl) (howed := fun _ _ => rfl)
    (V₀ := atCall m) (opss := [hostOps1]) (hsub := lines_within) (hfresh := lines_fresh) (hkeep := lines_keep) (hmain := main_around m Variants.none)
    (hA := fun _ _ => rfl)
    (hpf := fun c k => by
      obtain rfl : c = 0 := Subsingleton.elim _ _
      match k with
      | ⟨0, _⟩ => exact entry_of m 0 main_arg1 (by decide)
      | ⟨1, _⟩ => exact entry_of m 0 main_arg2 (by decide))
    (hin := fun _ => .rfl)
    (hout := fun c => show iprop(Pipeline.ΦD osem0 spec0 H0 (entry m) c ∗ Pipeline.ΦT pre0 (tables m) c) ⊢ Pipeline.ΦD osem0 spec0 H0 (entry m) c from by iintro ⟨H, -⟩; iexact H)
    (hQ' := fun _ h => h)

end Cert.Proof.Combine

end
-- ==== Proof.CombineValue.lean ====
/- What the combine call computes: a token's two expert rows, weighed by its gates and added to its residual, then divided
   by their root mean square and scaled by the gain. -/
module

public import proofs.«01_k».proof.Proof.CombineRun
public import proofs.«01_k».proof.Proof.Norm
public import Idealize.ShloMosaic.Lib.Pointwise
public import Idealize.ShloMosaic.Lib.Pipeline.ValueKit
public import Idealize.ShloMosaic.Lib.Pipeline.ValueKit.Point
public import Idealize.ShloMosaic.PureOps.Ideal.Laws

@[expose] public section

set_option maxRecDepth 16384

noncomputable section

namespace Cert.Proof.Combine

open Idealize.ShloMosaic Idealize.ShloMosaic.TcCoe Idealize.SL.Sem
open Idealize.ShloMosaic.Pipeline (Dat Cfg Window)
open Cert.CombineKernelIdeal Cert.CombineKernelIdeal.Gen

/-- Token `p`'s residual with its two weighed rows, at column `q`. -/
def merged (ta tb : Words) (y : S23040x2048.Idx → EReal) (g : S8320x128.Idx → EReal) (h : S8320x2048.Idx → EReal) (p : Fin 8320) (q : Fin 2048) : EReal :=
  h (ix2 p q) + (y (at2 (rowOf (ta (at1 p))) q) * g (ix2 p 0) + y (at2 (rowOf (tb (at1 p))) q) * g (ix2 p 1))

/-- The same, normalised and scaled. -/
def spec (ta tb : Words) (y : S23040x2048.Idx → EReal) (g : S8320x128.Idx → EReal) (h : S8320x2048.Idx → EReal) (gain : Fin 2048 → EReal) (p : Fin 8320) (q : Fin 2048) : EReal :=
  merged ta tb y g h p q * inverseRms (merged ta tb y g h p) * gain q

theorem halfA_apply (i : grid0.Coords) (ta tb : Words) (y : S23040x2048.Idx → Elt Ideal .f32) (x : S1x128x2048.Idx) :
    halfA (F := Ideal) (fetched (F := Ideal) i ta tb y) x = y (at2 (rowOf (ta (at1 (place i (x 1))))) (x 2)) := by
  have e : halfA (F := Ideal) (fetched (F := Ideal) i ta tb y) x = fetched (F := Ideal) i ta tb y (at3 0 (x 1) (x 2)) := by
    show fetched (F := Ideal) i ta tb y _ = _
    congr 1
    funext a
    have h0 : (x 0).val < 1 := (x 0).isLt
    match a with
    | ⟨0, _⟩ => apply Fin.ext; show 0 + 1 * (x 0).val = 0; omega
    | ⟨1, _⟩ => apply Fin.ext; show 0 + 1 * (x 1).val = (x 1).val; omega
    | ⟨2, _⟩ => apply Fin.ext; show 0 + 1 * (x 2).val = (x 2).val; omega
  rw [e]
  exact if_pos rfl

theorem halfB_apply (i : grid0.Coords) (ta tb : Words) (y : S23040x2048.Idx → Elt Ideal .f32) (x : S1x128x2048.Idx) :
    halfB (F := Ideal) (fetched (F := Ideal) i ta tb y) x = y (at2 (rowOf (tb (at1 (place i (x 1))))) (x 2)) := by
  have e : halfB (F := Ideal) (fetched (F := Ideal) i ta tb y) x = fetched (F := Ideal) i ta tb y (at3 1 (x 1) (x 2)) := by
    show fetched (F := Ideal) i ta tb y _ = _
    congr 1
    funext a
    have h0 : (x 0).val < 1 := (x 0).isLt
    match a with
    | ⟨0, _⟩ => apply Fin.ext; show 1 + 1 * (x 0).val = 1; omega
    | ⟨1, _⟩ => apply Fin.ext; show 0 + 1 * (x 1).val = (x 1).val; omega
    | ⟨2, _⟩ => apply Fin.ext; show 0 + 1 * (x 2).val = (x 2).val; omega
  rw [e]
  exact if_neg (show ¬ (1 : ℕ) = 0 by decide)

/-- One point's block, read at a row and a column. -/
theorem pay1_apply (v3 : Vec Ideal S128x128 .f32) (v4 : Vec Ideal S128x2048 .f32) (v5 v10 : Vec Ideal S1x128x2048 .f32) (v27 : Vec Ideal S1x2048 .f32) (j : S128x2048.Idx) :
    k0_pay1 (F := Ideal) v3 v4 v5 v10 v27 j
      = (fun row : Fin 2048 → EReal => row (j 1) * inverseRms row * v27 (ix2 0 (j 1)))
        (fun q => v4 (ix2 (j 0) q) + (v5 (ix3 0 (j 0) q) * v3 (ix2 (j 0) 0) + v10 (ix3 0 (j 0) q) * v3 (ix2 (j 0) 1))) := by
  unfold k0_pay1 inverseRms
  pointwise

variable (m : (ℓ : Loc nD τ sig) → Buf (Elt Ideal) ℓ)

theorem coord (t : Fin grid0.N) : (grid0.coords t 0).val = t.val := by
  revert t; decide +kernel

/-- The block index of each window at a point. -/
theorem indices : ∀ t : Fin grid0.N, cc0_transform_1 (grid0.coords t) = ![t.val, 0] ∧ cc0_transform_2 (grid0.coords t) = ![t.val, 0]
    ∧ cc0_transform_3 (grid0.coords t) = ![0, 0] ∧ cc0_transform_4 (grid0.coords t) = ![t.val, 0] := by decide +kernel

theorem index_eq (t : Fin (pipe m).N) : ((pipe m).win 0).index t = ![t.val, 0] ∧ ((pipe m).win 1).index t = ![t.val, 0]
    ∧ ((pipe m).win 2).index t = ![0, 0] ∧ ((pipe m).win 3).index t = ![t.val, 0] := indices t

theorem flushes : ∀ t : Fin (pipe m).N, ((pipe m).win 3).flush t = true :=
  (by decide +kernel : ∀ t : Fin grid0.N, Pipeline.Window.flushOf grid0 true cc0_transform_4 t = true)

theorem blocks : ((pipe m).win 3).nblk ⟨0, show 0 < 2 by omega⟩ = 65 ∧ ((pipe m).win 3).nblk ⟨1, show 1 < 2 by omega⟩ = 1 := by
  have a0 : ((pipe m).win 3).shape.size ⟨0, show 0 < 2 by omega⟩ = 8320 := rfl
  have a1 : ((pipe m).win 3).shape.size ⟨1, show 1 < 2 by omega⟩ = 2048 := rfl
  have b0 : ((pipe m).win 3).size ⟨0, show 0 < 2 by omega⟩ = 128 := rfl
  have b1 : ((pipe m).win 3).size ⟨1, show 1 < 2 by omega⟩ = 2048 := rfl
  refine ⟨?_, ?_⟩
  · unfold Pipeline.Window.nblk; rw [a0, b0]
  · unfold Pipeline.Window.nblk; rw [a1, b1]

/-- The points' blocks fill the array. -/
theorem covers : ((pipe m).win 3).Covers := by
  refine ⟨fun a => ?_, fun β => ?_⟩
  · match a with
    | ⟨0, _⟩ => show 0 < 128; omega
    | ⟨1, _⟩ => show 0 < 2048; omega
  · obtain ⟨b, hb⟩ : ∃ b : Fin 65, b.val = (β ⟨0, show 0 < 2 by omega⟩).val := ⟨⟨(β ⟨0, show 0 < 2 by omega⟩).val, (β ⟨0, show 0 < 2 by omega⟩).isLt.trans_eq (blocks m).1⟩, rfl⟩
    obtain ⟨z, hz⟩ : ∃ z : Fin 1, z.val = (β ⟨1, show 1 < 2 by omega⟩).val := ⟨⟨(β ⟨1, show 1 < 2 by omega⟩).val, (β ⟨1, show 1 < 2 by omega⟩).isLt.trans_eq (blocks m).2⟩, rfl⟩
    have hlt : b.val < (pipe m).N := lt_of_lt_of_eq b.isLt N_0.symm
    refine ⟨⟨b.val, hlt⟩, flushes m _, fun a => ?_⟩
    have e : ((pipe m).win 3).index ⟨b.val, hlt⟩ = ![b.val, 0] := (index_eq m _).2.2.2
    rw [e]
    match a with
    | ⟨0, _⟩ => exact ⟨hb, .inl rfl⟩
    | ⟨1, _⟩ => exact ⟨Eq.trans (show 0 = z.val by omega) hz, .inl rfl⟩

/-- Where an element of a point's block lies in the array. -/
def posAt (t : Fin (pipe m).N) (y : S128x2048.Idx) : S8320x2048.Idx := (((pipe m).win 3).blk t).view.emb y

theorem posAt_zero (t : Fin (pipe m).N) (y : S128x2048.Idx) : posAt m t y 0 = place (grid0.coords t) (y 0) := by
  obtain ⟨-, -, -, hx⟩ := index_eq m t
  have := coord t
  apply Fin.ext
  show _ = 128 * (grid0.coords t 0).val + (y 0).val
  rw [this]
  unfold posAt
  blk_simp [hx]
  omega

theorem posAt_one (t : Fin (pipe m).N) (y : S128x2048.Idx) : posAt m t y 1 = y 1 := by
  obtain ⟨-, -, -, hx⟩ := index_eq m t
  apply Fin.ext
  unfold posAt
  blk_simp [hx]

/-- What the grid leaves at a token's column. -/
def leaves (c : Dev nD) (p : Fin 8320) (q : Fin 2048) : EReal :=
  spec (tabA m) (tabB m) (entry m c main_arg0) (entry m c main_arg3) (entry m c main_arg4) (fun q => entry m c main_v0 (ix2 0 q)) p q

/-- The blocks a point reads. -/
def gatesAt (c : Dev nD) (t : Fin (pipe m).N) : Vec Ideal S128x128 .f32 := blockAt m c 0 t
def residAt (c : Dev nD) (t : Fin (pipe m).N) : Vec Ideal S128x2048 .f32 := blockAt m c 1 t
def gainAt (c : Dev nD) (t : Fin (pipe m).N) : Vec Ideal S1x2048 .f32 := blockAt m c 2 t

theorem gatesAt_apply (c : Dev nD) (t : Fin (pipe m).N) (j : S128x128.Idx) : gatesAt m c t j = entry m c main_arg3 (ix2 (place (grid0.coords t) (j 0)) (j 1)) := by
  obtain ⟨hx, -, -, -⟩ := index_eq m t
  have := coord t
  unfold gatesAt place
  simp only [this]
  blk_ext [blockAt, hx]
  all_goals omega

theorem residAt_apply (c : Dev nD) (t : Fin (pipe m).N) (j : S128x2048.Idx) : residAt m c t j = entry m c main_arg4 (ix2 (place (grid0.coords t) (j 0)) (j 1)) := by
  obtain ⟨-, hx, -, -⟩ := index_eq m t
  have := coord t
  unfold residAt place
  simp only [this]
  blk_ext [blockAt, hx]
  all_goals omega

theorem gainAt_apply (c : Dev nD) (t : Fin (pipe m).N) (q : Fin 2048) : gainAt m c t (ix2 0 q) = entry m c main_v0 (ix2 0 q) := by
  obtain ⟨-, -, hx, -⟩ := index_eq m t
  unfold gainAt
  blk_ext [blockAt, hx]

/-- The block a point writes holds its tokens' values. -/
theorem written_apply (c : Dev nD) (t : Fin (pipe m).N) (y : S128x2048.Idx) :
    written m c t y = leaves m c (place (grid0.coords t) (y 0)) (y 1) := by
  refine (pay1_apply (gatesAt m c t) (residAt m c t) (halfA (rowsAt m c t)) (halfB (rowsAt m c t)) (gainAt m c t) y).trans ?_
  have hm : (fun q : Fin 2048 => residAt m c t (ix2 (y 0) q) + (halfA (rowsAt m c t) (ix3 0 (y 0) q) * gatesAt m c t (ix2 (y 0) 0) + halfB (rowsAt m c t) (ix3 0 (y 0) q) * gatesAt m c t (ix2 (y 0) 1)) : Fin 2048 → EReal)
      = merged (tabA m) (tabB m) (entry m c main_arg0) (entry m c main_arg3) (entry m c main_arg4) (place (grid0.coords t) (y 0)) := by
    funext q
    unfold merged
    refine congr (congrArg _ ?_) (congr (congrArg _ (congr (congrArg _ ?_) ?_)) (congr (congrArg _ ?_) ?_))
    · exact residAt_apply m c t _
    · exact halfA_apply ..
    · exact gatesAt_apply m c t _
    · exact halfB_apply ..
    · exact gatesAt_apply m c t _
  unfold leaves spec
  exact congr (congrArg _ (congrArg (fun row : Fin 2048 → EReal => row (y 1) * inverseRms row) hm)) (gainAt_apply m c t (y 1))

theorem array (c : Dev nD) : (data m 0 c).arrAt 3 (pipe m).N = fun i : S8320x2048.Idx => leaves m c (i 0) (i 1) := by
  refine funext fun i => ?_
  refine Dat.arrAt_forall_of_covers (data m 0 c) (3 : Fin 4) (P := fun i v => v = leaves m c (i 0) (i 1)) (covers m) (fun t hf y => ?_) i (Memref.isWhole_whole _)
  refine (written_apply m c t y).trans ?_
  show _ = leaves m c (posAt m t y 0) (posAt m t y 1)
  rw [posAt_zero, posAt_one]

end Cert.Proof.Combine

end
-- ==== Proof.CombineReference.lean ====
/- The combine call's reference, read at an index. -/
module

public import proofs.«01_k».proof.Proof.CombineValue
public import proofs.«01_k».proof.Proof.Gen.CombineReferenceIdeal.Read
public import proofs.«01_k».proof.Proof.Gen.Pre_rows_named

@[expose] public section

set_option maxRecDepth 16384

noncomputable section

namespace Cert.Proof.Combine

open Idealize.ShloMosaic
open Cert.CombineReferenceIdeal.Read

/-- A word between the bounds is the number it spells. -/
theorem word_lt (b : BitVec 32) (h0 : IntOp.cmpi .sge b 0#32 = 1#1) (h1 : IntOp.cmpi .slt b 23040#32 = 1#1) : b.toNat < 23040 := by
  have h0' : (0#32).sle b = true := by
    by_contra hc; rw [Bool.not_eq_true] at hc; have h0 : BitVec.ofBool ((0#32).sle b) = 1#1 := h0; rw [hc] at h0; exact absurd h0 (by decide)
  have h1' : b.slt 23040#32 = true := by
    by_contra hc; rw [Bool.not_eq_true] at hc; have h1 : BitVec.ofBool (b.slt 23040#32) = 1#1 := h1; rw [hc] at h1; exact absurd h1 (by decide)
  rw [BitVec.sle_eq_decide, decide_eq_true_eq] at h0'
  rw [BitVec.slt_eq_decide, decide_eq_true_eq] at h1'
  have := BitVec.toInt_eq_toNat_cond b
  have h8 : (23040#32).toInt = 23040 := by decide
  have hz : (0#32).toInt = 0 := by decide
  rw [h8] at h1'; rw [hz] at h0'
  split at this <;> omega

/-- The precondition says that both tables name sorted rows. -/
theorem named_of_pre {F : FTy → Type} [FloatOps F] (y : FVec F Cert.Pre_rows_named.S23040x2048 .f32) (ta tb : Words) (g : FVec F Cert.Pre_rows_named.S8320x128 .f32)
    (h : FVec F Cert.Pre_rows_named.S8320x2048 .f32) (w : FVec F Cert.Pre_rows_named.S2048 .f32)
    (hp : Cert.Pre_rows_named.fn (F := F) y ta tb g h w = fun _ => 1#1) : Named ta ∧ Named tb := by
  have key : ∀ p q r s : BitVec 1, ((p &&& q) &&& r) &&& s = 1#1 → p = 1#1 ∧ q = 1#1 ∧ r = 1#1 ∧ s = 1#1 := by decide
  have hw : ∀ a, (ta a).toNat < 23040 ∧ (tb a).toNat < 23040 := by
    intro a
    have e : ((IntOp.cmpi .sge (ta a) 0#32 &&& IntOp.cmpi .slt (ta a) 23040#32) &&& IntOp.cmpi .sge (tb a) 0#32) &&& IntOp.cmpi .slt (tb a) 23040#32 = 1#1 := congrFun hp a
    obtain ⟨h0, h1, h2, h3⟩ := key _ _ _ _ e
    exact ⟨word_lt _ h0 h1, word_lt _ h2 h3⟩
  exact ⟨fun a => (hw a).1, fun a => (hw a).2⟩

abbrev rowsDims := Cert.CombineReferenceIdeal.gather_S23040x2048_S8320x1_S8320x2048_1_0_n_n_0_1_12048

theorem start_row (idx : IVec Cert.CombineReferenceIdeal.S8320x1 32) (i : Cert.CombineReferenceIdeal.S8320x2048.Idx) :
    rowsDims.start i idx (0 : Fin 2) = min (idx (ix2 (i 0) 0)).toInt.toNat (23040 - 1) := by
  unfold GatherDims.start
  refine (dif_pos (List.mem_singleton.mpr rfl)).trans ?_
  have hsi : rowsDims.siIdx i ⟨List.idxOf (0 : Fin 2) rowsDims.startIndexMap, List.idxOf_lt_length_iff.2 (List.mem_singleton.mpr rfl)⟩ = ix2 (i 0) 0 := by
    funext b; refine Fin.ext ?_
    match b with
    | ⟨0, _⟩ => rfl
    | ⟨1, _⟩ => rfl
  exact congrArg (fun z => min (idx z).toInt.toNat (23040 - 1)) hsi

theorem start_column (idx : IVec Cert.CombineReferenceIdeal.S8320x1 32) (i : Cert.CombineReferenceIdeal.S8320x2048.Idx) :
    rowsDims.start i idx (1 : Fin 2) = 0 := by
  unfold GatherDims.start
  exact dif_neg (show ¬ (1 : Fin 2) ∈ [(0 : Fin 2)] by decide)

theorem offset_row (i : Cert.CombineReferenceIdeal.S8320x2048.Idx) : rowsDims.offCoord i (0 : Fin 2) = 0 :=
  GatherDims.offCoord_eq_zero _ _ _ (fun h => ((GatherDims.mem_sKept _ _).mp h).1 (List.mem_singleton.mpr rfl))

theorem offset_column (i : Cert.CombineReferenceIdeal.S8320x2048.Idx) : rowsDims.offCoord i (1 : Fin 2) = (i 1).val := by
  unfold GatherDims.offCoord
  refine (dif_pos ((GatherDims.mem_sKept _ _).mpr ⟨show ¬ (1 : Fin 2) ∈ [(0 : Fin 2)] by decide, List.not_mem_nil⟩)).trans ?_
  rfl

/-- The row a gather of whole rows takes: its start index, read signed and clamped into the rows. -/
theorem take_row (x : Cert.CombineReferenceIdeal.S23040x2048.Idx → EReal) (idx : IVec Cert.CombineReferenceIdeal.S8320x1 32) (i : Cert.CombineReferenceIdeal.S8320x2048.Idx) :
    Host.gather rowsDims x idx i = x (at2 ⟨min (idx (ix2 (i 0) 0)).toInt.toNat (23040 - 1), by omega⟩ (i 1)) := by
  unfold Host.gather
  refine congrArg x (funext fun a => Fin.ext ?_)
  show rowsDims.start i idx a + rowsDims.batchCoord i a + rowsDims.offCoord i a = _
  rw [GatherDims.batchCoord_eq_zero _ _ _ List.not_mem_nil]
  match a with
  | ⟨0, _⟩ =>
    show rowsDims.start i idx (0 : Fin 2) + 0 + rowsDims.offCoord i (0 : Fin 2) = min (idx (ix2 (i 0) 0)).toInt.toNat (23040 - 1)
    rw [start_row idx i, offset_row i]
    omega
  | ⟨1, _⟩ =>
    show rowsDims.start i idx (1 : Fin 2) + 0 + rowsDims.offCoord i (1 : Fin 2) = (i 1).val
    rw [start_column idx i, offset_column i]
    omega

/-- A named word is taken as it stands. -/
theorem word_kept (b : BitVec 32) (hb : b.toNat < 23040) (p : Fin 23040 → EReal) (h : min (Scalar.select (IntOp.cmpi .slt b 0#32) (IntOp.addi b 23040#32) b).toInt.toNat (23040 - 1) < 23040) :
    p ⟨min (Scalar.select (IntOp.cmpi .slt b 0#32) (IntOp.addi b 23040#32) b).toInt.toNat (23040 - 1), h⟩ = p (rowOf b) := by
  refine congrArg p (Fin.ext ?_)
  have hi := BitVec.toInt_eq_toNat_cond b
  rw [if_pos (by omega)] at hi
  have hz : (0#32).toInt = 0 := by decide
  have hs : IntOp.cmpi .slt b 0#32 = 0#1 := by
    show BitVec.ofBool (b.slt 0#32) = 0#1
    rw [BitVec.slt_eq_decide, hz, decide_eq_false (by omega)]
    rfl
  show min (Scalar.select (IntOp.cmpi .slt b 0#32) (IntOp.addi b 23040#32) b).toInt.toNat (23040 - 1) = b.toNat % 23040
  rw [hs]
  show min b.toInt.toNat (23040 - 1) = b.toNat % 23040
  rw [hi]
  omega

theorem first_row (y : Cert.CombineReferenceIdeal.S23040x2048.Idx → EReal) (t : Words) (ht : Named t) (i : Cert.CombineReferenceIdeal.S8320x2048.Idx) :
    val_main_v6 (F := Ideal) y t i = y (at2 (rowOf (t (at1 (i 0)))) (i 1)) := by
  unfold val_main_v6
  refine (take_row y (val_main_v5 (F := Ideal) t) i).trans ?_
  have e : val_main_v5 (F := Ideal) t (ix2 (i 0) 0) = Scalar.select (IntOp.cmpi .slt (t (at1 (i 0))) 0#32) (IntOp.addi (t (at1 (i 0))) 23040#32) (t (at1 (i 0))) :=
    (val_main_v5_apply (F := Ideal) t _).trans rfl
  simp only [e]
  exact word_kept _ (ht _) (fun r => y (at2 r (i 1))) _

theorem second_row (y : Cert.CombineReferenceIdeal.S23040x2048.Idx → EReal) (t : Words) (ht : Named t) (i : Cert.CombineReferenceIdeal.S8320x2048.Idx) :
    val_main_v16 (F := Ideal) y t i = y (at2 (rowOf (t (at1 (i 0)))) (i 1)) := by
  unfold val_main_v16
  refine (take_row y (val_main_v15 (F := Ideal) t) i).trans ?_
  have e : val_main_v15 (F := Ideal) t (ix2 (i 0) 0) = Scalar.select (IntOp.cmpi .slt (t (at1 (i 0))) 0#32) (IntOp.addi (t (at1 (i 0))) 23040#32) (t (at1 (i 0))) :=
    (val_main_v15_apply (F := Ideal) t _).trans rfl
  simp only [e]
  exact word_kept _ (ht _) (fun r => y (at2 r (i 1))) _

open Cert.CombineReferenceIdeal in
/-- The merged rows, before they are normalised. -/
theorem merged_eq (y : S23040x2048.Idx → EReal) (ta tb : Words) (ha : Named ta) (hb : Named tb) (g : S8320x128.Idx → EReal) (h : S8320x2048.Idx → EReal) :
    val_main_v21 (F := Ideal) y ta tb g h = fun i : S8320x2048.Idx => merged ta tb y g h (i 0) (i 1) := by
  funext i
  unfold val_main_v21 val_main_v20 val_main_v19 val_main_v9
  unfold val_main_v18 val_main_v17 val_main_v8 val_main_v7
  rw [show val_main_v6 (F := Ideal) y ta = fun i : S8320x2048.Idx => y (at2 (rowOf (ta (at1 (i 0)))) (i 1)) from funext (first_row y ta ha),
    show val_main_v16 (F := Ideal) y tb = fun i : S8320x2048.Idx => y (at2 (rowOf (tb (at1 (i 0)))) (i 1)) from funext (second_row y tb hb)]
  unfold merged
  pointwise

open Cert.CombineReferenceIdeal in
theorem reference_prompt (y : S23040x2048.Idx → EReal) (ta tb : Words) (ha : Named ta) (hb : Named tb) (g : S8320x128.Idx → EReal) (h : S8320x2048.Idx → EReal) (w : S2048.Idx → EReal) :
    val_main_v36 (F := Ideal) y ta tb g h w
      = fun i : S1x8192x2048.Idx => spec ta tb y g h (fun q => w (ix1 q)) ⟨(i 1).val, by have h : (i 1).val < 8192 := (i 1).isLt; omega⟩ (i 2) := by
  funext i
  unfold val_main_v36 val_main_v35 val_main_v34 val_main_v33 val_main_v32 val_main_v31 val_main_v30 val_main_v29 val_main_v28 val_main_v27 val_main_v26 val_main_v25 val_main_v24 val_main_v23 val_main_v22 val_main_cst val_main_cst_3 val_main_cst_4
  rw [merged_eq y ta tb ha hb g h]
  unfold spec inverseRms
  generalize merged ta tb y g h = M
  pointwise

open Cert.CombineReferenceIdeal in
theorem reference_sample (y : S23040x2048.Idx → EReal) (ta tb : Words) (ha : Named ta) (hb : Named tb) (g : S8320x128.Idx → EReal) (h : S8320x2048.Idx → EReal) (w : S2048.Idx → EReal) :
    val_main_v51 (F := Ideal) y ta tb g h w
      = fun i : S128x1x2048.Idx => spec ta tb y g h (fun q => w (ix1 q)) ⟨8192 + (i 0).val, by have h : (i 0).val < 128 := (i 0).isLt; omega⟩ (i 2) := by
  funext i
  unfold val_main_v51 val_main_v50 val_main_v49 val_main_v48 val_main_v47 val_main_v46 val_main_v45 val_main_v44 val_main_v43 val_main_v42 val_main_v41 val_main_v40 val_main_v39 val_main_v38 val_main_v37 val_main_cst_5 val_main_cst_6 val_main_cst_7
  rw [merged_eq y ta tb ha hb g h]
  unfold spec inverseRms
  generalize merged ta tb y g h = M
  pointwise

end Cert.Proof.Combine

end
-- ==== Proof.CombineResults.lean ====
/- The combine program's results and arguments after a run. -/
module

public import proofs.«01_k».proof.Proof.CombineValue

@[expose] public section

set_option maxRecDepth 16384

noncomputable section

namespace Cert.Proof.Combine

open Idealize.ShloMosaic Idealize.ShloMosaic.TcCoe Idealize.SL.Sem Idealize.ShloMosaic.StableHlo
open Idealize.ShloMosaic.Pipeline (Dat Cfg Window)
open Cert.CombineKernelIdeal Cert.CombineKernelIdeal.Gen

section
variable {F : FTy → Type} [FloatOps F]
variable (m : (ℓ : Loc nD τ sig) → Buf (Elt F) ℓ)

/-- The buffers as the grid leaves them. -/
abbrev atEnd (c : Dev nD) : Valuation τ sig (Elt F) := Pipeline.withArrays spec0 c (atCall m c) fun w => (data m 0 c).arrAt w (pipe m).N

/-- The lines after the call, in turn. -/
theorem tail_eq (c : Dev nD) (b : Ref sig .tc) : Pipeline.afterTail pcfgs (fun _ => admissible m) (data m) 0 (atCall m) [hostOps1 (F := F)] c b
    = StableHlo.after hostOps1 (atEnd m c) (Proc.devRef .tc b) := rfl

/-- A buffer neither the lines nor the grid write. -/
theorem tail_of (c : Dev nD) (b : Ref sig .tc) (h0 : b ≠ main_v0) (h : ∀ op ∈ (hostOps1 : List (HloOp τ sig (Elt F))), Proc.devRef .tc b ∉ op.writes) (hb : ∀ w, Pipeline.arrRef spec0 w ≠ b) :
    Pipeline.afterTail pcfgs (fun _ => admissible m) (data m) 0 (atCall m) [hostOps1 (F := F)] c b = m ((c : Thread nD τ).loc b) := by
  rw [tail_eq, StableHlo.after_of_forall_not_mem _ _ h]
  exact (Pipeline.withArrays_of_ne _ c (atCall m c) _ b hb).trans (entry_of m c b h0)

theorem unwritten (b : Ref sig .tc) (h2 : b ≠ main_v2) (h3 : b ≠ main_v3) (h4 : b ≠ main_v4) (h5 : b ≠ main_v5) :
    ∀ op ∈ (hostOps1 : List (HloOp τ sig (Elt F))), Proc.devRef .tc b ∉ op.writes := by
  have key : (hostOps1 : List (HloOp τ sig (Elt F))).Forall fun op => Proc.devRef .tc b ∉ op.writes := by
    refine ⟨?_, ?_, ?_, ?_⟩ <;> (intro hm; revert hm) <;> simp only [StableHlo.unary_writes, StableHlo.reshape_writes, Finset.mem_singleton] <;> intro e <;>
      have e := Proc.devRef_injective _ e
    · exact h2 e
    · exact h3 e
    · exact h4 e
    · exact h5 e
  exact List.forall_iff_forall_mem.mp key

/-- A run leaves the arguments as they were. -/
theorem kept (r : PUnit × MemSt nD τ sig (Elt F)) (h : Left m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 main_arg0 (by decide : main_arg0 ∈ Pipeline.restRefs sig spec0)).trans (tail_of m c main_arg0 (by decide) (unwritten _ (by decide) (by decide) (by decide) (by decide)) (by decide)),
    ((h c).2 main_arg1 (by decide : main_arg1 ∈ Pipeline.restRefs sig spec0)).trans (tail_of m c main_arg1 (by decide) (unwritten _ (by decide) (by decide) (by decide) (by decide)) (by decide)),
    ((h c).2 main_arg2 (by decide : main_arg2 ∈ Pipeline.restRefs sig spec0)).trans (tail_of m c main_arg2 (by decide) (unwritten _ (by decide) (by decide) (by decide) (by decide)) (by decide)),
    ((h c).1 0).trans (((data m 0 c).arrAt_in 0 rfl _).trans (entry_of m c main_arg3 (by decide))),
    ((h c).1 1).trans (((data m 0 c).arrAt_in 1 rfl _).trans (entry_of m c main_arg4 (by decide))),
    ((h c).2 main_arg5 (by decide : main_arg5 ∈ Pipeline.restRefs sig spec0)).trans (tail_of m c main_arg5 (by decide) (unwritten _ (by decide) (by decide) (by decide) (by decide)) (by decide))⟩

end

variable (m : (ℓ : Loc nD τ sig) → Buf (Elt Ideal) ℓ)

theorem entry_gain (c : Dev nD) (q : Fin 2048) : entry m c main_v0 (ix2 0 q) = m ((c : Thread nD τ).loc main_arg5) (ix1 q) := by
  have e : entry m c main_v0 = fun i : S1x2048.Idx => (m ((c : Thread nD τ).loc main_arg5) : S2048.Idx → EReal) (ix1 (i 1)) := by
    show StableHlo.after hostOps0 (fun b => m (c, b)) _ = _
    after_results
    funext i
    pointwise
  exact congrFun e (ix2 0 q)

/-- The value of token `p` at column `q`, from the arguments. -/
def value (c : Dev nD) (p : Fin 8320) (q : Fin 2048) : EReal :=
  spec (m ((c : Thread nD τ).loc main_arg1)) (m ((c : Thread nD τ).loc main_arg2)) (m ((c : Thread nD τ).loc main_arg0)) (m ((c : Thread nD τ).loc main_arg3))
    (m ((c : Thread nD τ).loc main_arg4)) (fun q => m ((c : Thread nD τ).loc main_arg5) (ix1 q)) p q

theorem leaves_eq (c : Dev nD) : leaves m c = value m c := by
  obtain rfl : c = 0 := Subsingleton.elim _ _
  funext p q
  unfold leaves value
  rw [entry_of m 0 main_arg0 (by decide), entry_of m 0 main_arg3 (by decide), entry_of m 0 main_arg4 (by decide), funext (entry_gain m 0)]
  rfl

theorem atEnd_out (c : Dev nD) : atEnd m c (Proc.devRef .tc main_v1) = fun i : S8320x2048.Idx => value m c (i 0) (i 1) := by
  refine (Pipeline.withArrays_arr spec0 (by decide) c (atCall m c) (fun w => (data m 0 c).arrAt w (pipe m).N) 3).trans ((array m c).trans ?_)
  rw [leaves_eq]

/-- The prompt's tokens. -/
theorem result_prompt (r : PUnit × MemSt nD τ sig (Elt Ideal)) (h : Left m r) (c : Dev nD) :
    r.2.mem ((c.tc : Thread nD τ).loc main_v3) = fun i : S1x8192x2048.Idx => value m c ⟨(i 1).val, by have h : (i 1).val < 8192 := (i 1).isLt; omega⟩ (i 2) := by
  refine ((h c).2 main_v3 (by decide : main_v3 ∈ Pipeline.restRefs sig spec0)).trans ?_
  show StableHlo.after hostOps1 (atEnd m c) _ = _
  after_results
  rw [atEnd_out]
  funext i
  pointwise

/-- The samples' tokens. -/
theorem result_sample (r : PUnit × MemSt nD τ sig (Elt Ideal)) (h : Left m r) (c : Dev nD) :
    r.2.mem ((c.tc : Thread nD τ).loc main_v5) = fun i : S128x1x2048.Idx => value m c ⟨8192 + (i 0).val, by have h : (i 0).val < 128 := (i 0).isLt; omega⟩ (i 2) := by
  refine ((h c).2 main_v5 (by decide : main_v5 ∈ Pipeline.restRefs sig spec0)).trans ?_
  show StableHlo.after hostOps1 (atEnd m c) _ = _
  after_results
  rw [atEnd_out]
  funext i
  pointwise

end Cert.Proof.Combine

end
-- ==== Proof.CombineClaim.lean ====
/- The combine call's claims, from the run of the kernel and the reading of the reference. -/
module

public import proofs.«01_k».proof.Proof.CombineReference
public import proofs.«01_k».proof.Proof.CombineResults
public import proofs.«01_k».proof.Proof.Gen.CombineKernel
public import proofs.«01_k».proof.Proof.Gen.CombineReferenceIdeal.Run
public import proofs.«01_k».proof.Defs
public import Idealize.ShloMosaic.Adequacy
public import Idealize.ShloMosaic.Init
public import Idealize.ShloMosaic.Lib.Quiescent

@[expose] public section

set_option maxRecDepth 16384

noncomputable section

namespace Cert.Proof.Combine

open Idealize.ShloMosaic Idealize.ShloMosaic.StableHlo Idealize.SL.Sem

section
open Cert.CombineKernelIdeal

/-- A run leaves its arguments as they were and its semaphores at zero. -/
theorem quiet {F : FTy → Type} [FloatOps F] (m : (ℓ : Loc nD τ sig) → Buf (Elt F) ℓ) (ρ : Dev nD → PrngReg) (hN : Named (tabA m) ∧ Named (tabB m)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => kept m r h.1 c, h.2⟩) (launched m ρ hN.1 hN.2)

end

variable {F : FTy → Type} [FloatOps F]
/-! The program printed for its bits is the program printed for its values. -/

theorem body_eq (i a1 h1 a2 h2 a3 h3 a4 h4 a5 h5 a6 h6 a7 h7 a8 h8 a9) : Cert.CombineKernel.cc0_moe_combine_norm (F := F) i a1 h1 a2 h2 a3 h3 a4 h4 a5 h5 a6 h6 a7 h7 a8 h8 a9 = Cert.CombineKernelIdeal.cc0_moe_combine_norm (F := F) i a1 h1 a2 h2 a3 h3 a4 h4 a5 h5 a6 h6 a7 h7 a8 h8 a9 := by
  unfold Cert.CombineKernel.cc0_moe_combine_norm Cert.CombineKernelIdeal.cc0_moe_combine_norm
  rfl

theorem defs₀_eq : Cert.CombineKernel.defs₀ (F := F) = Cert.CombineKernelIdeal.defs₀ (F := F) := by
  unfold Cert.CombineKernel.defs₀ Cert.CombineKernelIdeal.defs₀
  refine congrArg Defs.onTc (funext fun l => ?_)
  match l with
  | ⟨0, _⟩ => exact funext fun x => body_eq ..
  | ⟨_ + 1, h⟩ => exact absurd h (Nat.not_lt.2 (Nat.le_add_left _ _))

theorem defs_eq : Cert.CombineKernel.defs (F := F) = Cert.CombineKernelIdeal.defs (F := F) := congrArg (Pipeline.defs Cert.CombineKernelIdeal.pcfgs) defs₀_eq

theorem main_eq : Cert.CombineKernel.main (F := F) = Cert.CombineKernelIdeal.main (F := F) := rfl

theorem frame_ideal : quiescent_CombineKernelIdeal := fun m ρ hp =>
  quiet (F := Ideal) m ρ (named_of_pre (F := Ideal) _ _ _ _ _ _ (hp 0))

theorem frame_kernel : quiescent_CombineKernel := by
  intro m ρ hp
  have h := quiet (F := Bits) m ρ (named_of_pre (F := Bits) _ _ _ _ _ _ (hp 0))
  rw [← defs_eq, ← main_eq] at h
  exact h

theorem frame_reference : quiescent_CombineReferenceIdeal := fun m ρ _ =>
  (θ_run Cert.CombineReferenceIdeal.defs _ _).mono (fun r h => ⟨fun c => (h c).2.2, sem_eq_zero_of_no_sems (by decide) r.2⟩)
    (Cert.CombineReferenceIdeal.Value.run (F := Ideal) m ρ)

theorem equal : algebraic_CombineKernelIdeal_CombineReferenceIdeal := by
  intro m ρ m' ρ' hp hagree
  have hN : Named (tabA (F := Ideal) m) ∧ Named (tabB (F := Ideal) m) := named_of_pre (F := Ideal) _ _ _ _ _ _ (hp 0)
  refine ⟨fun c => fun i => value m c ⟨(i 1).val, by have h : (i 1).val < 8192 := (i 1).isLt; omega⟩ (i 2),
    fun c => fun i => value m c ⟨8192 + (i 0).val, by have h : (i 0).val < 128 := (i 0).isLt; omega⟩ (i 2), ?_, ?_⟩
  · exact (θ_run Cert.CombineKernelIdeal.defs _ _).mono (fun r h c => ⟨result_prompt m r h.1 c, result_sample m r h.1 c, kept m r h.1 c⟩) (launched m ρ hN.1 hN.2)
  · refine (θ_run Cert.CombineReferenceIdeal.defs _ _).mono (fun r h c => ⟨?_, ?_, (h c).2.2⟩) (Cert.CombineReferenceIdeal.Value.run (F := Ideal) m' ρ')
    all_goals
      obtain rfl : c = 0 := Subsingleton.elim _ _
      obtain ⟨h0, h1, h2, h3, h4, h5⟩ := hagree 0
    · refine (h 0).1.trans ((Cert.CombineReferenceIdeal.Read.val_main_v36_eq (F := Ideal) m' 0).trans ?_)
      rw [h0, h1, h2, h3, h4, h5]
      exact reference_prompt _ _ _ hN.1 hN.2 _ _ _
    · refine (h 0).2.1.trans ((Cert.CombineReferenceIdeal.Read.val_main_v51_eq (F := Ideal) m' 0).trans ?_)
      rw [h0, h1, h2, h3, h4, h5]
      exact reference_sample _ _ _ hN.1 hN.2 _ _ _

end Cert.Proof.Combine

end
-- ==== Proof.FfnKernel.lean ====
/- The dense feed-forward call. Its grid walks a row block through 22 chunks of 256 hidden units; each point adds the chunk's
   contribution to the rows of the result, the first on top of the residual. Read at an index, the array it leaves is the
   residual plus the sum over all 5632 hidden units (`kernel_apply`). -/
module
public import proofs.«01_k».proof.Proof.Gen.FfnKernelIdeal.Value
public import proofs.«01_k».proof.Proof.Swiglu
public import Idealize.ShloMosaic.Lib.Pointwise
public import Idealize.ShloMosaic.Lib.Pipeline.ValueKit
public import Idealize.ShloMosaic.Lib.Pipeline.ValueKit.Point
public import Idealize.ShloMosaic.PureOps.Ideal.Laws
@[expose] public section
set_option maxRecDepth 16384
noncomputable section
namespace Cert.Proof.Ffn
open Idealize.ShloMosaic Cert.FfnKernelIdeal Cert.FfnKernelIdeal.Gen Idealize.ShloMosaic.TcCoe Idealize.SL.Sem

/-- One chunk's contribution to the result block. -/
def chunk (x : Vec Ideal S1024x2048 .bf16) (wg wu : Vec Ideal S2048x256 .f32) (wd : Vec Ideal S256x2048 .f32) (j : S1024x2048.Idx) : EReal :=
  ∑ k : Fin 256, gated (∑ q : Fin 2048, x (ix2 (j 0) q) * wg (ix2 q k)) (∑ q : Fin 2048, x (ix2 (j 0) q) * wu (ix2 q k)) * wd (ix2 k (j 1))

/-- A point's payload adds the chunk's contribution to what it read. -/
theorem pay_apply (acc : Vec Ideal S1024x2048 .f32) (x : Vec Ideal S1024x2048 .bf16) (wg wu : Vec Ideal S2048x256 .f32) (wd : Vec Ideal S256x2048 .f32) (j : S1024x2048.Idx) :
   k0_pay1 (F := Ideal) acc x wg wu wd j = acc j + chunk x wg wu wd j := by
  unfold k0_pay1 chunk gated
  pointwise

variable (m : (ℓ : Loc nD τ sig) → Buf (Elt Ideal) ℓ)

/-- The hidden layer at row `r`, unit `k`. -/
def hidden (x : S8192x2048.Idx → EReal) (w : S2048x11264.Idx → EReal) (r : Fin 8192) (k : Fin 5632) : EReal :=
  gated (∑ q : Fin 2048, x (ix2 r q) * w (ix2 q ⟨k.val, by omega⟩)) (∑ q : Fin 2048, x (ix2 r q) * w (ix2 q ⟨5632 + k.val, by omega⟩))

/-- The whole call. -/
def spec (x : S8192x2048.Idx → EReal) (w : S2048x11264.Idx → EReal) (d : S5632x2048.Idx → EReal) (r : S8192x2048.Idx → EReal) (i : S8192x2048.Idx) : EReal :=
  r i + ∑ k : Fin 5632, hidden x w (i 0) k * d (ix2 k (i 1))

/-- The block index of each input window at grid point `t`. -/
theorem idx : ∀ t : Fin cfg0.N, win0_0.index t = ![t.val / 22, 0] ∧ win0_1.index t = ![0, t.val % 22] ∧ win0_2.index t = ![0, t.val % 22 + 22]
    ∧ win0_3.index t = ![t.val % 22, 0] ∧ win0_4.index t = ![t.val / 22, 0] :=
  (by decide +kernel : ∀ t : Fin grid0.N, _)

/-- What point `n` adds. -/
def addend (c : Dev nD) (n : ℕ) (j : S1024x2048.Idx) : EReal :=
  if h : n < cfg0.N then chunk (iblk m c 0 ⟨n, h⟩) (iblk m c 1 ⟨n, h⟩) (iblk m c 2 ⟨n, h⟩) (iblk m c 3 ⟨n, h⟩) j else 0

/-- The result array, read at an index. -/
theorem kernel_apply (c : Dev nD) (i : S8192x2048.Idx) :
    Value.G5 m c i = spec (m ((c : Thread nD τ).loc main_arg0)) (m ((c : Thread nD τ).loc main_arg1)) (m ((c : Thread nD τ).loc main_arg2)) (m ((c : Thread nD τ).loc main_arg3)) i := by
  have hi0 : (i 0).val < 8192 := (i 0).isLt
  have hi1 : (i 1).val < 2048 := (i 1).isLt
  have hN : cfg0.N = 176 := N_0
  have hr : Value.run5Of i = (i 0).val / 1024 := by
    show 1 * ((i 0).val / 1024 - 0) + 1 * ((i 1).val / 2048 - 0) = _
    omega
  unfold Value.G5
  rw [dif_pos (by rw [hr]; omega)]
  rw [Pipeline.accAt_add_apply (Value.reset5 m c) (Value.step5 m c)
    (fun j => iblk m c 4 ⟨22 * Value.run5Of i, by rw [hr]; omega⟩ j) (addend m c) _ 21
    (fun h j => by unfold Value.reset5 addend; rw [dif_pos h, pay_apply])
    (fun n h acc j _ _ => by unfold Value.step5 addend; rw [dif_pos h, pay_apply]) 21 le_rfl]
  unfold spec
  rw [Fin.sum_univ_tiles 22 256 rfl, Finset.sum_range]
  refine congr (congrArg _ ?_) (Finset.sum_congr rfl fun s _ => ?_)
  · have := idx ⟨22 * Value.run5Of i, by rw [hr]; omega⟩
    blk_ext [iblk, V, this]
  · have hlt : 22 * Value.run5Of i + s.val < cfg0.N := by rw [hr]; omega
    have := idx ⟨_, hlt⟩
    have hq : (22 * Value.run5Of i + s.val) / 22 = (i 0).val / 1024 := by rw [hr]; omega
    have hm : (22 * Value.run5Of i + s.val) % 22 = s.val := by omega
    simp only [hq, hm] at this
    unfold addend
    rw [dif_pos hlt]
    unfold chunk hidden
    refine Finset.sum_congr rfl fun k _ => ?_
    refine congr (congrArg _ (congr (congrArg _ (Finset.sum_congr rfl fun q _ => ?_)) (Finset.sum_congr rfl fun q _ => ?_))) ?_
    · refine congr (congrArg _ ?_) ?_ <;> blk_ext [iblk, V, this]
    · refine congr (congrArg _ ?_) ?_ <;> blk_ext [iblk, V, this]
    · blk_ext [iblk, V, this]

end Cert.Proof.Ffn

end
-- ==== Proof.FfnReference.lean ====
/- The plain feed-forward layer, read at an index. -/
module

public import proofs.«01_k».proof.Proof.FfnKernel
public import proofs.«01_k».proof.Proof.Gen.FfnReferenceIdeal.Read

@[expose] public section

set_option maxRecDepth 16384

noncomputable section

namespace Cert.Proof.Ffn
open Idealize.ShloMosaic Cert.FfnReferenceIdeal.Read

/-- The reference's result, read at an index, is the call's function of its arguments. -/
theorem reference_apply (x0 : Cert.FfnReferenceIdeal.S8192x2048.Idx → EReal) (x1 : Cert.FfnReferenceIdeal.S2048x11264.Idx → EReal)
    (x2 : Cert.FfnReferenceIdeal.S5632x2048.Idx → EReal) (x3 : Cert.FfnReferenceIdeal.S8192x2048.Idx → EReal) (i : Cert.FfnReferenceIdeal.S8192x2048.Idx) :
    val_main_v7 (F := Idealize.ShloMosaic.Ideal) x0 x1 x2 x3 i = spec x0 x1 x2 x3 i := by
  unfold val_main_v7 val_main_v6 val_main_v5 val_main_v4 val_main_call0_v5 val_main_call0_v4 val_main_call0_cst_0 val_main_call0_v3
    val_main_call0_v2 val_main_call0_cst val_main_call0_v1 val_main_call0_v0 val_main_v3 val_main_v2 val_main_v1 val_main_v0
  unfold spec hidden gated
  pointwise
  rfl
end Cert.Proof.Ffn
end
-- ==== Proof.lean ====
/- The certificate's claims, each from the module that proves it. -/
module

public import proofs.«01_k».proof.Proof.MoeClaim
public import proofs.«01_k».proof.Proof.EvenClaim
public import proofs.«01_k».proof.Proof.OddClaim
public import proofs.«01_k».proof.Proof.MemClaim
public import proofs.«01_k».proof.Proof.CrossClaim
public import proofs.«01_k».proof.Proof.OutClaim
public import proofs.«01_k».proof.Proof.CombineClaim
public import proofs.«01_k».proof.Proof.Gen.EvenKernel.Frame
public import proofs.«01_k».proof.Proof.Gen.OddKernel.Frame
public import proofs.«01_k».proof.Proof.Gen.MemKernel.Frame
public import proofs.«01_k».proof.Proof.Gen.CrossKernel.Frame
public import proofs.«01_k».proof.Proof.Gen.CrossKernelIdeal.Frame
public import proofs.«01_k».proof.Proof.Gen.CrossReferenceIdeal.Run
public import proofs.«01_k».proof.Proof.Gen.CrossReferenceIdeal.Read
public import proofs.«01_k».proof.Proof.Gen.OutKernel.Frame
public import proofs.«01_k».proof.Proof.Gen.OutKernelIdeal.Frame
public import proofs.«01_k».proof.Proof.Gen.OutKernelIdeal.Value
public import proofs.«01_k».proof.Proof.Gen.OutReferenceIdeal.Run
public import proofs.«01_k».proof.Proof.Gen.OutReferenceIdeal.Read
public import proofs.«01_k».proof.Defs
public import proofs.«01_k».proof.Proof.Gen.FfnKernel.Frame
public import proofs.«01_k».proof.Proof.Gen.FfnKernelIdeal.Value
public import proofs.«01_k».proof.Proof.Gen.FfnReferenceIdeal.Run
public import proofs.«01_k».proof.Proof.FfnReference
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_FfnReferenceIdeal : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem algebraic_FfnKernelIdeal_FfnReferenceIdeal : algebraic_FfnKernelIdeal_FfnReferenceIdeal := by
  intro m ρ m' ρ' _ hagree
  refine ⟨_, Cert.FfnKernelIdeal.Value.run (F := Ideal) m ρ, ?_⟩
  refine (θ_run Cert.FfnReferenceIdeal.defs _ _).mono (fun _ h c => ⟨?_, (h c).2⟩) (Cert.FfnReferenceIdeal.Value.run (F := Ideal) m' ρ')
  rw [(h c).1]
  simp only [hagree c]
  exact funext fun i => (Ffn.reference_apply _ _ _ _ i).trans (Ffn.kernel_apply m c i).symm

theorem claim : Cert.Claim := ⟨Cert.MoeKernel.Gen.facts, Cert.MoeKernelIdeal.Gen.facts, Cert.MoeReferenceIdeal.Gen.facts,
  Cert.FfnKernel.Gen.facts, Cert.FfnKernelIdeal.Gen.facts, Cert.FfnReferenceIdeal.Gen.facts,
  Cert.EvenKernel.Gen.facts, Cert.EvenKernelIdeal.Gen.facts, Cert.EvenReferenceIdeal.Gen.facts,
  Cert.OddKernel.Gen.facts, Cert.OddKernelIdeal.Gen.facts, Cert.OddReferenceIdeal.Gen.facts,
  Cert.MemKernel.Gen.facts, Cert.MemKernelIdeal.Gen.facts, Cert.MemReferenceIdeal.Gen.facts,
  Cert.CrossKernel.Gen.facts, Cert.CrossKernelIdeal.Gen.facts, Cert.CrossReferenceIdeal.Gen.facts,
  Cert.OutKernel.Gen.facts, Cert.OutKernelIdeal.Gen.facts, Cert.OutReferenceIdeal.Gen.facts,
  Cert.CombineKernel.Gen.facts, Cert.CombineKernelIdeal.Gen.facts, Cert.CombineReferenceIdeal.Gen.facts,
  Cert.Pre_experts_named.Gen.facts, Cert.Pre_rows_named.Gen.facts, Cert.On_valid_rows.Gen.facts,
  Moe.frame_kernel, Moe.frame_ideal, Moe.frame_reference,
  fun m ρ _ => Cert.FfnKernel.Gen.frame m ρ, fun m ρ _ => Cert.FfnKernelIdeal.Gen.frame m ρ, quiescent_FfnReferenceIdeal,
  fun m ρ _ => Cert.EvenKernel.Gen.frame m ρ, fun m ρ _ => Cert.EvenKernelIdeal.Gen.frame m ρ, Even.quiet,
  fun m ρ _ => Cert.OddKernel.Gen.frame m ρ, fun m ρ _ => Cert.OddKernelIdeal.Gen.frame m ρ, Odd.quiet,
  fun m ρ _ => Cert.MemKernel.Gen.frame m ρ, fun m ρ _ => Cert.MemKernelIdeal.Gen.frame m ρ, Mem.quiet,
  fun m ρ _ => Cert.CrossKernel.Gen.frame m ρ, fun m ρ _ => Cert.CrossKernelIdeal.Gen.frame m ρ, Cross.quiet,
  fun m ρ _ => Cert.OutKernel.Gen.frame m ρ, fun m ρ _ => Cert.OutKernelIdeal.Gen.frame m ρ, Out.quiet,
  Combine.frame_kernel, Combine.frame_ideal, Combine.frame_reference,
  (trivial : preserves_MoeKernel_MoeKernelIdeal), Moe.equal,
  (trivial : preserves_FfnKernel_FfnKernelIdeal), algebraic_FfnKernelIdeal_FfnReferenceIdeal,
  (trivial : preserves_EvenKernel_EvenKernelIdeal), Even.equal,
  (trivial : preserves_OddKernel_OddKernelIdeal), Odd.equal,
  (trivial : preserves_MemKernel_MemKernelIdeal), Mem.equal,
  (trivial : preserves_CrossKernel_CrossKernelIdeal), Cross.equal,
  (trivial : preserves_OutKernel_OutKernelIdeal), Out.equal,
  (trivial : preserves_CombineKernel_CombineKernelIdeal), Combine.equal⟩

end Cert.Proof

end
